-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Init (m : (ℓ : Loc Cert.Init.nD Cert.Init.τ Cert.Init.sig) → Buf (Elt Bits) ℓ) : Prop :=
  True

def Pre_InitIdeal (m : (ℓ : Loc Cert.InitIdeal.nD Cert.InitIdeal.τ Cert.InitIdeal.sig) → Buf (Elt Ideal) ℓ) : Prop :=
  True

def Pre_InitIdeal_number_in_table [hPre_number_in_table : Cert.Pre_number_in_table.Facts] (m : (ℓ : Loc Cert.InitIdeal.nD Cert.InitIdeal.τ Cert.InitIdeal.sig) → Buf (Elt Ideal) ℓ) : Prop :=
  ∀ c : Dev Cert.InitIdeal.nD,
    (Cert.Pre_number_in_table.fn (F := Ideal) (m ((c.tc : Thread Cert.InitIdeal.nD Cert.InitIdeal.τ).loc Cert.InitIdeal.main_arg0)) (m ((c.tc : Thread Cert.InitIdeal.nD Cert.InitIdeal.τ).loc Cert.InitIdeal.main_arg1)) (m ((c.tc : Thread Cert.InitIdeal.nD Cert.InitIdeal.τ).loc Cert.InitIdeal.main_arg2))) = (fun _ => 1#1)

def Pre_InitRefIdeal (m : (ℓ : Loc Cert.InitRefIdeal.nD Cert.InitRefIdeal.τ Cert.InitRefIdeal.sig) → Buf (Elt Ideal) ℓ) : Prop :=
  True

def Pre_InitRefIdeal_number_in_table [hPre_number_in_table : Cert.Pre_number_in_table.Facts] (m : (ℓ : Loc Cert.InitRefIdeal.nD Cert.InitRefIdeal.τ Cert.InitRefIdeal.sig) → Buf (Elt Ideal) ℓ) : Prop :=
  ∀ c : Dev Cert.InitRefIdeal.nD,
    (Cert.Pre_number_in_table.fn (F := Ideal) (m ((c.tc : Thread Cert.InitRefIdeal.nD Cert.InitRefIdeal.τ).loc Cert.InitRefIdeal.main_arg0)) (m ((c.tc : Thread Cert.InitRefIdeal.nD Cert.InitRefIdeal.τ).loc Cert.InitRefIdeal.main_arg1)) (m ((c.tc : Thread Cert.InitRefIdeal.nD Cert.InitRefIdeal.τ).loc Cert.InitRefIdeal.main_arg2))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_mask_first [hPre_mask_first : Cert.Pre_mask_first.Facts] (m : (ℓ : Loc Cert.FirstIdeal.nD Cert.FirstIdeal.τ Cert.FirstIdeal.sig) → Buf (Elt Ideal) ℓ) : Prop :=
  ∀ c : Dev Cert.FirstIdeal.nD,
    (Cert.Pre_mask_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))) = (fun _ => 1#1)

def Pre_FirstRefIdeal (m : (ℓ : Loc Cert.FirstRefIdeal.nD Cert.FirstRefIdeal.τ Cert.FirstRefIdeal.sig) → Buf (Elt Ideal) ℓ) : Prop :=
  True

def Pre_FirstRefIdeal_mask_first [hPre_mask_first : Cert.Pre_mask_first.Facts] (m : (ℓ : Loc Cert.FirstRefIdeal.nD Cert.FirstRefIdeal.τ Cert.FirstRefIdeal.sig) → Buf (Elt Ideal) ℓ) : Prop :=
  ∀ c : Dev Cert.FirstRefIdeal.nD,
    (Cert.Pre_mask_first.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4)) (m ((c.tc : Thread Cert.FirstRefIdeal.nD Cert.FirstRefIdeal.τ).loc Cert.FirstRefIdeal.main_arg5)) (m ((c.tc : Thread Cert.FirstRefIdeal.nD Cert.FirstRefIdeal.τ).loc Cert.FirstRefIdeal.main_arg6)) (m ((c.tc : Thread Cert.FirstRefIdeal.nD Cert.FirstRefIdeal.τ).loc Cert.FirstRefIdeal.main_arg7))) = (fun _ => 1#1)

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleIdeal_mask_middle [hPre_mask_middle : Cert.Pre_mask_middle.Facts] (m : (ℓ : Loc Cert.MiddleIdeal.nD Cert.MiddleIdeal.τ Cert.MiddleIdeal.sig) → Buf (Elt Ideal) ℓ) : Prop :=
  ∀ c : Dev Cert.MiddleIdeal.nD,
    (Cert.Pre_mask_middle.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))) = (fun _ => 1#1)

def Pre_MiddleRefIdeal (m : (ℓ : Loc Cert.MiddleRefIdeal.nD Cert.MiddleRefIdeal.τ Cert.MiddleRefIdeal.sig) → Buf (Elt Ideal) ℓ) : Prop :=
  True

def Pre_MiddleRefIdeal_mask_middle [hPre_mask_middle : Cert.Pre_mask_middle.Facts] (m : (ℓ : Loc Cert.MiddleRefIdeal.nD Cert.MiddleRefIdeal.τ Cert.MiddleRefIdeal.sig) → Buf (Elt Ideal) ℓ) : Prop :=
  ∀ c : Dev Cert.MiddleRefIdeal.nD,
    (Cert.Pre_mask_middle.fn (F := Ideal) (m ((c.tc : Thread Cert.MiddleRefIdeal.nD Cert.MiddleRefIdeal.τ).loc Cert.MiddleRefIdeal.main_arg0)) (m ((c.tc : Thread Cert.MiddleRefIdeal.nD Cert.MiddleRefIdeal.τ).loc Cert.MiddleRefIdeal.main_arg1)) (m ((c.tc : Thread Cert.MiddleRefIdeal.nD Cert.MiddleRefIdeal.τ).loc Cert.MiddleRefIdeal.main_arg2)) (m ((c.tc : Thread Cert.MiddleRefIdeal.nD Cert.MiddleRefIdeal.τ).loc Cert.MiddleRefIdeal.main_arg3)) (m ((c.tc : Thread Cert.MiddleRefIdeal.nD Cert.MiddleRefIdeal.τ).loc Cert.MiddleRefIdeal.main_arg4)) (m ((c.tc : Thread Cert.MiddleRefIdeal.nD Cert.MiddleRefIdeal.τ).loc Cert.MiddleRefIdeal.main_arg5)) (m ((c.tc : Thread Cert.MiddleRefIdeal.nD Cert.MiddleRefIdeal.τ).loc Cert.MiddleRefIdeal.main_arg6)) (m ((c.tc : Thread Cert.MiddleRefIdeal.nD Cert.MiddleRefIdeal.τ).loc Cert.MiddleRefIdeal.main_arg7)) (m ((c.tc : Thread Cert.MiddleRefIdeal.nD Cert.MiddleRefIdeal.τ).loc Cert.MiddleRefIdeal.main_arg8)) (m ((c.tc : Thread Cert.MiddleRefIdeal.nD Cert.MiddleRefIdeal.τ).loc Cert.MiddleRefIdeal.main_arg9)) (m ((c.tc : Thread Cert.MiddleRefIdeal.nD Cert.MiddleRefIdeal.τ).loc Cert.MiddleRefIdeal.main_arg10)) (m ((c.tc : Thread Cert.MiddleRefIdeal.nD Cert.MiddleRefIdeal.τ).loc Cert.MiddleRefIdeal.main_arg11))) = (fun _ => 1#1)

def Pre_Late (m : (ℓ : Loc Cert.Late.nD Cert.Late.τ Cert.Late.sig) → Buf (Elt Bits) ℓ) : Prop :=
  True

def Pre_LateIdeal (m : (ℓ : Loc Cert.LateIdeal.nD Cert.LateIdeal.τ Cert.LateIdeal.sig) → Buf (Elt Ideal) ℓ) : Prop :=
  True

def Pre_LateIdeal_mask_late [hPre_mask_late : Cert.Pre_mask_late.Facts] (m : (ℓ : Loc Cert.LateIdeal.nD Cert.LateIdeal.τ Cert.LateIdeal.sig) → Buf (Elt Ideal) ℓ) : Prop :=
  ∀ c : Dev Cert.LateIdeal.nD,
    (Cert.Pre_mask_late.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6)) (m ((c.tc : Thread Cert.LateIdeal.nD Cert.LateIdeal.τ).loc Cert.LateIdeal.main_arg7)) (m ((c.tc : Thread Cert.LateIdeal.nD Cert.LateIdeal.τ).loc Cert.LateIdeal.main_arg8)) (m ((c.tc : Thread Cert.LateIdeal.nD Cert.LateIdeal.τ).loc Cert.LateIdeal.main_arg9)) (m ((c.tc : Thread Cert.LateIdeal.nD Cert.LateIdeal.τ).loc Cert.LateIdeal.main_arg10)) (m ((c.tc : Thread Cert.LateIdeal.nD Cert.LateIdeal.τ).loc Cert.LateIdeal.main_arg11))) = (fun _ => 1#1)

def Pre_LateRefIdeal (m : (ℓ : Loc Cert.LateRefIdeal.nD Cert.LateRefIdeal.τ Cert.LateRefIdeal.sig) → Buf (Elt Ideal) ℓ) : Prop :=
  True

def Pre_LateRefIdeal_mask_late [hPre_mask_late : Cert.Pre_mask_late.Facts] (m : (ℓ : Loc Cert.LateRefIdeal.nD Cert.LateRefIdeal.τ Cert.LateRefIdeal.sig) → Buf (Elt Ideal) ℓ) : Prop :=
  ∀ c : Dev Cert.LateRefIdeal.nD,
    (Cert.Pre_mask_late.fn (F := Ideal) (m ((c.tc : Thread Cert.LateRefIdeal.nD Cert.LateRefIdeal.τ).loc Cert.LateRefIdeal.main_arg0)) (m ((c.tc : Thread Cert.LateRefIdeal.nD Cert.LateRefIdeal.τ).loc Cert.LateRefIdeal.main_arg1)) (m ((c.tc : Thread Cert.LateRefIdeal.nD Cert.LateRefIdeal.τ).loc Cert.LateRefIdeal.main_arg2)) (m ((c.tc : Thread Cert.LateRefIdeal.nD Cert.LateRefIdeal.τ).loc Cert.LateRefIdeal.main_arg3)) (m ((c.tc : Thread Cert.LateRefIdeal.nD Cert.LateRefIdeal.τ).loc Cert.LateRefIdeal.main_arg4)) (m ((c.tc : Thread Cert.LateRefIdeal.nD Cert.LateRefIdeal.τ).loc Cert.LateRefIdeal.main_arg5)) (m ((c.tc : Thread Cert.LateRefIdeal.nD Cert.LateRefIdeal.τ).loc Cert.LateRefIdeal.main_arg6)) (m ((c.tc : Thread Cert.LateRefIdeal.nD Cert.LateRefIdeal.τ).loc Cert.LateRefIdeal.main_arg7)) (m ((c.tc : Thread Cert.LateRefIdeal.nD Cert.LateRefIdeal.τ).loc Cert.LateRefIdeal.main_arg8)) (m ((c.tc : Thread Cert.LateRefIdeal.nD Cert.LateRefIdeal.τ).loc Cert.LateRefIdeal.main_arg9)) (m ((c.tc : Thread Cert.LateRefIdeal.nD Cert.LateRefIdeal.τ).loc Cert.LateRefIdeal.main_arg10)) (m ((c.tc : Thread Cert.LateRefIdeal.nD Cert.LateRefIdeal.τ).loc Cert.LateRefIdeal.main_arg11))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_mask_last [hPre_mask_last : Cert.Pre_mask_last.Facts] (m : (ℓ : Loc Cert.LastIdeal.nD Cert.LastIdeal.τ Cert.LastIdeal.sig) → Buf (Elt Ideal) ℓ) : Prop :=
  ∀ c : Dev Cert.LastIdeal.nD,
    (Cert.Pre_mask_last.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_mask_last [hPre_mask_last : Cert.Pre_mask_last.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_mask_last.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Init [hInit : Cert.Init.Facts] : Prop :=
  ∀ (m : (ℓ : Loc Cert.Init.nD Cert.Init.τ Cert.Init.sig) → Buf (Elt Bits) ℓ) (g : Dev Cert.Init.nD → PrngReg), Pre_Init m →
    θ_run (Cert.Init.defs (F := Bits)) (onTc (τ := Cert.Init.τ) (Cert.Init.main (F := Bits))) ⟨m, fun _ => 0, g⟩ (fun r => (∀ c : Dev Cert.Init.nD,
      r.2.mem ((c.tc : Thread Cert.Init.nD Cert.Init.τ).loc Cert.Init.main_arg0) = m ((c.tc : Thread Cert.Init.nD Cert.Init.τ).loc Cert.Init.main_arg0)
      ∧ r.2.mem ((c.tc : Thread Cert.Init.nD Cert.Init.τ).loc Cert.Init.main_arg1) = m ((c.tc : Thread Cert.Init.nD Cert.Init.τ).loc Cert.Init.main_arg1)
      ∧ r.2.mem ((c.tc : Thread Cert.Init.nD Cert.Init.τ).loc Cert.Init.main_arg2) = m ((c.tc : Thread Cert.Init.nD Cert.Init.τ).loc Cert.Init.main_arg2))
      ∧ r.2.sem = fun _ => 0)

def quiescent_InitIdeal [hInitIdeal : Cert.InitIdeal.Facts] : Prop :=
  ∀ (m : (ℓ : Loc Cert.InitIdeal.nD Cert.InitIdeal.τ Cert.InitIdeal.sig) → Buf (Elt Ideal) ℓ) (g : Dev Cert.InitIdeal.nD → PrngReg), Pre_InitIdeal m →
    θ_run (Cert.InitIdeal.defs (F := Ideal)) (onTc (τ := Cert.InitIdeal.τ) (Cert.InitIdeal.main (F := Ideal))) ⟨m, fun _ => 0, g⟩ (fun r => (∀ c : Dev Cert.InitIdeal.nD,
      r.2.mem ((c.tc : Thread Cert.InitIdeal.nD Cert.InitIdeal.τ).loc Cert.InitIdeal.main_arg0) = m ((c.tc : Thread Cert.InitIdeal.nD Cert.InitIdeal.τ).loc Cert.InitIdeal.main_arg0)
      ∧ r.2.mem ((c.tc : Thread Cert.InitIdeal.nD Cert.InitIdeal.τ).loc Cert.InitIdeal.main_arg1) = m ((c.tc : Thread Cert.InitIdeal.nD Cert.InitIdeal.τ).loc Cert.InitIdeal.main_arg1)
      ∧ r.2.mem ((c.tc : Thread Cert.InitIdeal.nD Cert.InitIdeal.τ).loc Cert.InitIdeal.main_arg2) = m ((c.tc : Thread Cert.InitIdeal.nD Cert.InitIdeal.τ).loc Cert.InitIdeal.main_arg2))
      ∧ r.2.sem = fun _ => 0)

def quiescent_InitIdeal_pre_number_in_table [hInitIdeal : Cert.InitIdeal.Facts] [hPre_number_in_table : Cert.Pre_number_in_table.Facts] : Prop :=
  ∀ (m : (ℓ : Loc Cert.InitIdeal.nD Cert.InitIdeal.τ Cert.InitIdeal.sig) → Buf (Elt Ideal) ℓ) (g : Dev Cert.InitIdeal.nD → PrngReg), Pre_InitIdeal_number_in_table m →
    θ_run (Cert.InitIdeal.defs (F := Ideal)) (onTc (τ := Cert.InitIdeal.τ) (Cert.InitIdeal.main (F := Ideal))) ⟨m, fun _ => 0, g⟩ (fun r => (∀ c : Dev Cert.InitIdeal.nD,
      r.2.mem ((c.tc : Thread Cert.InitIdeal.nD Cert.InitIdeal.τ).loc Cert.InitIdeal.main_arg0) = m ((c.tc : Thread Cert.InitIdeal.nD Cert.InitIdeal.τ).loc Cert.InitIdeal.main_arg0)
      ∧ r.2.mem ((c.tc : Thread Cert.InitIdeal.nD Cert.InitIdeal.τ).loc Cert.InitIdeal.main_arg1) = m ((c.tc : Thread Cert.InitIdeal.nD Cert.InitIdeal.τ).loc Cert.InitIdeal.main_arg1)
      ∧ r.2.mem ((c.tc : Thread Cert.InitIdeal.nD Cert.InitIdeal.τ).loc Cert.InitIdeal.main_arg2) = m ((c.tc : Thread Cert.InitIdeal.nD Cert.InitIdeal.τ).loc Cert.InitIdeal.main_arg2))
      ∧ r.2.sem = fun _ => 0)

def quiescent_InitRefIdeal [hInitRefIdeal : Cert.InitRefIdeal.Facts] : Prop :=
  ∀ (m : (ℓ : Loc Cert.InitRefIdeal.nD Cert.InitRefIdeal.τ Cert.InitRefIdeal.sig) → Buf (Elt Ideal) ℓ) (g : Dev Cert.InitRefIdeal.nD → PrngReg), Pre_InitRefIdeal m →
    θ_run (Cert.InitRefIdeal.defs (F := Ideal)) (onTc (τ := Cert.InitRefIdeal.τ) (Cert.InitRefIdeal.main (F := Ideal))) ⟨m, fun _ => 0, g⟩ (fun r => (∀ c : Dev Cert.InitRefIdeal.nD,
      r.2.mem ((c.tc : Thread Cert.InitRefIdeal.nD Cert.InitRefIdeal.τ).loc Cert.InitRefIdeal.main_arg0) = m ((c.tc : Thread Cert.InitRefIdeal.nD Cert.InitRefIdeal.τ).loc Cert.InitRefIdeal.main_arg0)
      ∧ r.2.mem ((c.tc : Thread Cert.InitRefIdeal.nD Cert.InitRefIdeal.τ).loc Cert.InitRefIdeal.main_arg1) = m ((c.tc : Thread Cert.InitRefIdeal.nD Cert.InitRefIdeal.τ).loc Cert.InitRefIdeal.main_arg1)
      ∧ r.2.mem ((c.tc : Thread Cert.InitRefIdeal.nD Cert.InitRefIdeal.τ).loc Cert.InitRefIdeal.main_arg2) = m ((c.tc : Thread Cert.InitRefIdeal.nD Cert.InitRefIdeal.τ).loc Cert.InitRefIdeal.main_arg2))
      ∧ r.2.sem = fun _ => 0)

def quiescent_InitRefIdeal_pre_number_in_table [hInitRefIdeal : Cert.InitRefIdeal.Facts] [hPre_number_in_table : Cert.Pre_number_in_table.Facts] : Prop :=
  ∀ (m : (ℓ : Loc Cert.InitRefIdeal.nD Cert.InitRefIdeal.τ Cert.InitRefIdeal.sig) → Buf (Elt Ideal) ℓ) (g : Dev Cert.InitRefIdeal.nD → PrngReg), Pre_InitRefIdeal_number_in_table m →
    θ_run (Cert.InitRefIdeal.defs (F := Ideal)) (onTc (τ := Cert.InitRefIdeal.τ) (Cert.InitRefIdeal.main (F := Ideal))) ⟨m, fun _ => 0, g⟩ (fun r => (∀ c : Dev Cert.InitRefIdeal.nD,
      r.2.mem ((c.tc : Thread Cert.InitRefIdeal.nD Cert.InitRefIdeal.τ).loc Cert.InitRefIdeal.main_arg0) = m ((c.tc : Thread Cert.InitRefIdeal.nD Cert.InitRefIdeal.τ).loc Cert.InitRefIdeal.main_arg0)
      ∧ r.2.mem ((c.tc : Thread Cert.InitRefIdeal.nD Cert.InitRefIdeal.τ).loc Cert.InitRefIdeal.main_arg1) = m ((c.tc : Thread Cert.InitRefIdeal.nD Cert.InitRefIdeal.τ).loc Cert.InitRefIdeal.main_arg1)
      ∧ r.2.mem ((c.tc : Thread Cert.InitRefIdeal.nD Cert.InitRefIdeal.τ).loc Cert.InitRefIdeal.main_arg2) = m ((c.tc : Thread Cert.InitRefIdeal.nD Cert.InitRefIdeal.τ).loc Cert.InitRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstIdeal_pre_mask_first [hFirstIdeal : Cert.FirstIdeal.Facts] [hPre_mask_first : Cert.Pre_mask_first.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_mask_first m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_FirstRefIdeal_pre_mask_first [hFirstRefIdeal : Cert.FirstRefIdeal.Facts] [hPre_mask_first : Cert.Pre_mask_first.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal_mask_first m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8)
      ∧ r.2.mem ((c.tc : Thread Cert.Middle.nD Cert.Middle.τ).loc Cert.Middle.main_arg9) = m ((c.tc : Thread Cert.Middle.nD Cert.Middle.τ).loc Cert.Middle.main_arg9)
      ∧ r.2.mem ((c.tc : Thread Cert.Middle.nD Cert.Middle.τ).loc Cert.Middle.main_arg10) = m ((c.tc : Thread Cert.Middle.nD Cert.Middle.τ).loc Cert.Middle.main_arg10)
      ∧ r.2.mem ((c.tc : Thread Cert.Middle.nD Cert.Middle.τ).loc Cert.Middle.main_arg11) = m ((c.tc : Thread Cert.Middle.nD Cert.Middle.τ).loc Cert.Middle.main_arg11))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ r.2.sem = fun _ => 0)

def quiescent_MiddleIdeal_pre_mask_middle [hMiddleIdeal : Cert.MiddleIdeal.Facts] [hPre_mask_middle : Cert.Pre_mask_middle.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal_mask_middle m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ r.2.sem = fun _ => 0)

def quiescent_MiddleRefIdeal [hMiddleRefIdeal : Cert.MiddleRefIdeal.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3)
      ∧ r.2.mem ((c.tc : Thread Cert.MiddleRefIdeal.nD Cert.MiddleRefIdeal.τ).loc Cert.MiddleRefIdeal.main_arg4) = m ((c.tc : Thread Cert.MiddleRefIdeal.nD Cert.MiddleRefIdeal.τ).loc Cert.MiddleRefIdeal.main_arg4)
      ∧ r.2.mem ((c.tc : Thread Cert.MiddleRefIdeal.nD Cert.MiddleRefIdeal.τ).loc Cert.MiddleRefIdeal.main_arg5) = m ((c.tc : Thread Cert.MiddleRefIdeal.nD Cert.MiddleRefIdeal.τ).loc Cert.MiddleRefIdeal.main_arg5)
      ∧ r.2.mem ((c.tc : Thread Cert.MiddleRefIdeal.nD Cert.MiddleRefIdeal.τ).loc Cert.MiddleRefIdeal.main_arg6) = m ((c.tc : Thread Cert.MiddleRefIdeal.nD Cert.MiddleRefIdeal.τ).loc Cert.MiddleRefIdeal.main_arg6)
      ∧ r.2.mem ((c.tc : Thread Cert.MiddleRefIdeal.nD Cert.MiddleRefIdeal.τ).loc Cert.MiddleRefIdeal.main_arg7) = m ((c.tc : Thread Cert.MiddleRefIdeal.nD Cert.MiddleRefIdeal.τ).loc Cert.MiddleRefIdeal.main_arg7)
      ∧ r.2.mem ((c.tc : Thread Cert.MiddleRefIdeal.nD Cert.MiddleRefIdeal.τ).loc Cert.MiddleRefIdeal.main_arg8) = m ((c.tc : Thread Cert.MiddleRefIdeal.nD Cert.MiddleRefIdeal.τ).loc Cert.MiddleRefIdeal.main_arg8)
      ∧ r.2.mem ((c.tc : Thread Cert.MiddleRefIdeal.nD Cert.MiddleRefIdeal.τ).loc Cert.MiddleRefIdeal.main_arg9) = m ((c.tc : Thread Cert.MiddleRefIdeal.nD Cert.MiddleRefIdeal.τ).loc Cert.MiddleRefIdeal.main_arg9)
      ∧ r.2.mem ((c.tc : Thread Cert.MiddleRefIdeal.nD Cert.MiddleRefIdeal.τ).loc Cert.MiddleRefIdeal.main_arg10) = m ((c.tc : Thread Cert.MiddleRefIdeal.nD Cert.MiddleRefIdeal.τ).loc Cert.MiddleRefIdeal.main_arg10)
      ∧ r.2.mem ((c.tc : Thread Cert.MiddleRefIdeal.nD Cert.MiddleRefIdeal.τ).loc Cert.MiddleRefIdeal.main_arg11) = m ((c.tc : Thread Cert.MiddleRefIdeal.nD Cert.MiddleRefIdeal.τ).loc Cert.MiddleRefIdeal.main_arg11))
      ∧ r.2.sem = fun _ => 0)

def quiescent_MiddleRefIdeal_pre_mask_middle [hMiddleRefIdeal : Cert.MiddleRefIdeal.Facts] [hPre_mask_middle : Cert.Pre_mask_middle.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal_mask_middle m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3)
      ∧ r.2.mem ((c.tc : Thread Cert.MiddleRefIdeal.nD Cert.MiddleRefIdeal.τ).loc Cert.MiddleRefIdeal.main_arg4) = m ((c.tc : Thread Cert.MiddleRefIdeal.nD Cert.MiddleRefIdeal.τ).loc Cert.MiddleRefIdeal.main_arg4)
      ∧ r.2.mem ((c.tc : Thread Cert.MiddleRefIdeal.nD Cert.MiddleRefIdeal.τ).loc Cert.MiddleRefIdeal.main_arg5) = m ((c.tc : Thread Cert.MiddleRefIdeal.nD Cert.MiddleRefIdeal.τ).loc Cert.MiddleRefIdeal.main_arg5)
      ∧ r.2.mem ((c.tc : Thread Cert.MiddleRefIdeal.nD Cert.MiddleRefIdeal.τ).loc Cert.MiddleRefIdeal.main_arg6) = m ((c.tc : Thread Cert.MiddleRefIdeal.nD Cert.MiddleRefIdeal.τ).loc Cert.MiddleRefIdeal.main_arg6)
      ∧ r.2.mem ((c.tc : Thread Cert.MiddleRefIdeal.nD Cert.MiddleRefIdeal.τ).loc Cert.MiddleRefIdeal.main_arg7) = m ((c.tc : Thread Cert.MiddleRefIdeal.nD Cert.MiddleRefIdeal.τ).loc Cert.MiddleRefIdeal.main_arg7)
      ∧ r.2.mem ((c.tc : Thread Cert.MiddleRefIdeal.nD Cert.MiddleRefIdeal.τ).loc Cert.MiddleRefIdeal.main_arg8) = m ((c.tc : Thread Cert.MiddleRefIdeal.nD Cert.MiddleRefIdeal.τ).loc Cert.MiddleRefIdeal.main_arg8)
      ∧ r.2.mem ((c.tc : Thread Cert.MiddleRefIdeal.nD Cert.MiddleRefIdeal.τ).loc Cert.MiddleRefIdeal.main_arg9) = m ((c.tc : Thread Cert.MiddleRefIdeal.nD Cert.MiddleRefIdeal.τ).loc Cert.MiddleRefIdeal.main_arg9)
      ∧ r.2.mem ((c.tc : Thread Cert.MiddleRefIdeal.nD Cert.MiddleRefIdeal.τ).loc Cert.MiddleRefIdeal.main_arg10) = m ((c.tc : Thread Cert.MiddleRefIdeal.nD Cert.MiddleRefIdeal.τ).loc Cert.MiddleRefIdeal.main_arg10)
      ∧ r.2.mem ((c.tc : Thread Cert.MiddleRefIdeal.nD Cert.MiddleRefIdeal.τ).loc Cert.MiddleRefIdeal.main_arg11) = m ((c.tc : Thread Cert.MiddleRefIdeal.nD Cert.MiddleRefIdeal.τ).loc Cert.MiddleRefIdeal.main_arg11))
      ∧ r.2.sem = fun _ => 0)

def quiescent_Late [hLate : Cert.Late.Facts] : Prop :=
  ∀ (m : (ℓ : Loc Cert.Late.nD Cert.Late.τ Cert.Late.sig) → Buf (Elt Bits) ℓ) (g : Dev Cert.Late.nD → PrngReg), Pre_Late m →
    θ_run (Cert.Late.defs (F := Bits)) (onTc (τ := Cert.Late.τ) (Cert.Late.main (F := Bits))) ⟨m, fun _ => 0, g⟩ (fun r => (∀ c : Dev Cert.Late.nD,
      r.2.mem ((c.tc : Thread Cert.Late.nD Cert.Late.τ).loc Cert.Late.main_arg0) = m ((c.tc : Thread Cert.Late.nD Cert.Late.τ).loc Cert.Late.main_arg0)
      ∧ r.2.mem ((c.tc : Thread Cert.Late.nD Cert.Late.τ).loc Cert.Late.main_arg1) = m ((c.tc : Thread Cert.Late.nD Cert.Late.τ).loc Cert.Late.main_arg1)
      ∧ r.2.mem ((c.tc : Thread Cert.Late.nD Cert.Late.τ).loc Cert.Late.main_arg2) = m ((c.tc : Thread Cert.Late.nD Cert.Late.τ).loc Cert.Late.main_arg2)
      ∧ r.2.mem ((c.tc : Thread Cert.Late.nD Cert.Late.τ).loc Cert.Late.main_arg3) = m ((c.tc : Thread Cert.Late.nD Cert.Late.τ).loc Cert.Late.main_arg3)
      ∧ r.2.mem ((c.tc : Thread Cert.Late.nD Cert.Late.τ).loc Cert.Late.main_arg4) = m ((c.tc : Thread Cert.Late.nD Cert.Late.τ).loc Cert.Late.main_arg4)
      ∧ r.2.mem ((c.tc : Thread Cert.Late.nD Cert.Late.τ).loc Cert.Late.main_arg5) = m ((c.tc : Thread Cert.Late.nD Cert.Late.τ).loc Cert.Late.main_arg5)
      ∧ r.2.mem ((c.tc : Thread Cert.Late.nD Cert.Late.τ).loc Cert.Late.main_arg6) = m ((c.tc : Thread Cert.Late.nD Cert.Late.τ).loc Cert.Late.main_arg6)
      ∧ r.2.mem ((c.tc : Thread Cert.Late.nD Cert.Late.τ).loc Cert.Late.main_arg7) = m ((c.tc : Thread Cert.Late.nD Cert.Late.τ).loc Cert.Late.main_arg7)
      ∧ r.2.mem ((c.tc : Thread Cert.Late.nD Cert.Late.τ).loc Cert.Late.main_arg8) = m ((c.tc : Thread Cert.Late.nD Cert.Late.τ).loc Cert.Late.main_arg8)
      ∧ r.2.mem ((c.tc : Thread Cert.Late.nD Cert.Late.τ).loc Cert.Late.main_arg9) = m ((c.tc : Thread Cert.Late.nD Cert.Late.τ).loc Cert.Late.main_arg9)
      ∧ r.2.mem ((c.tc : Thread Cert.Late.nD Cert.Late.τ).loc Cert.Late.main_arg10) = m ((c.tc : Thread Cert.Late.nD Cert.Late.τ).loc Cert.Late.main_arg10)
      ∧ r.2.mem ((c.tc : Thread Cert.Late.nD Cert.Late.τ).loc Cert.Late.main_arg11) = m ((c.tc : Thread Cert.Late.nD Cert.Late.τ).loc Cert.Late.main_arg11))
      ∧ r.2.sem = fun _ => 0)

def quiescent_LateIdeal [hLateIdeal : Cert.LateIdeal.Facts] : Prop :=
  ∀ (m : (ℓ : Loc Cert.LateIdeal.nD Cert.LateIdeal.τ Cert.LateIdeal.sig) → Buf (Elt Ideal) ℓ) (g : Dev Cert.LateIdeal.nD → PrngReg), Pre_LateIdeal m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
      ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
      ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
      ∧ r.2.mem ((c.tc : Thread Cert.LateIdeal.nD Cert.LateIdeal.τ).loc Cert.LateIdeal.main_arg6) = m ((c.tc : Thread Cert.LateIdeal.nD Cert.LateIdeal.τ).loc Cert.LateIdeal.main_arg6)
      ∧ r.2.mem ((c.tc : Thread Cert.LateIdeal.nD Cert.LateIdeal.τ).loc Cert.LateIdeal.main_arg7) = m ((c.tc : Thread Cert.LateIdeal.nD Cert.LateIdeal.τ).loc Cert.LateIdeal.main_arg7)
      ∧ r.2.mem ((c.tc : Thread Cert.LateIdeal.nD Cert.LateIdeal.τ).loc Cert.LateIdeal.main_arg8) = m ((c.tc : Thread Cert.LateIdeal.nD Cert.LateIdeal.τ).loc Cert.LateIdeal.main_arg8)
      ∧ r.2.mem ((c.tc : Thread Cert.LateIdeal.nD Cert.LateIdeal.τ).loc Cert.LateIdeal.main_arg9) = m ((c.tc : Thread Cert.LateIdeal.nD Cert.LateIdeal.τ).loc Cert.LateIdeal.main_arg9)
      ∧ r.2.mem ((c.tc : Thread Cert.LateIdeal.nD Cert.LateIdeal.τ).loc Cert.LateIdeal.main_arg10) = m ((c.tc : Thread Cert.LateIdeal.nD Cert.LateIdeal.τ).loc Cert.LateIdeal.main_arg10)
      ∧ r.2.mem ((c.tc : Thread Cert.LateIdeal.nD Cert.LateIdeal.τ).loc Cert.LateIdeal.main_arg11) = m ((c.tc : Thread Cert.LateIdeal.nD Cert.LateIdeal.τ).loc Cert.LateIdeal.main_arg11))
      ∧ r.2.sem = fun _ => 0)

def quiescent_LateIdeal_pre_mask_late [hLateIdeal : Cert.LateIdeal.Facts] [hPre_mask_late : Cert.Pre_mask_late.Facts] : Prop :=
  ∀ (m : (ℓ : Loc Cert.LateIdeal.nD Cert.LateIdeal.τ Cert.LateIdeal.sig) → Buf (Elt Ideal) ℓ) (g : Dev Cert.LateIdeal.nD → PrngReg), Pre_LateIdeal_mask_late m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
      ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
      ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
      ∧ r.2.mem ((c.tc : Thread Cert.LateIdeal.nD Cert.LateIdeal.τ).loc Cert.LateIdeal.main_arg6) = m ((c.tc : Thread Cert.LateIdeal.nD Cert.LateIdeal.τ).loc Cert.LateIdeal.main_arg6)
      ∧ r.2.mem ((c.tc : Thread Cert.LateIdeal.nD Cert.LateIdeal.τ).loc Cert.LateIdeal.main_arg7) = m ((c.tc : Thread Cert.LateIdeal.nD Cert.LateIdeal.τ).loc Cert.LateIdeal.main_arg7)
      ∧ r.2.mem ((c.tc : Thread Cert.LateIdeal.nD Cert.LateIdeal.τ).loc Cert.LateIdeal.main_arg8) = m ((c.tc : Thread Cert.LateIdeal.nD Cert.LateIdeal.τ).loc Cert.LateIdeal.main_arg8)
      ∧ r.2.mem ((c.tc : Thread Cert.LateIdeal.nD Cert.LateIdeal.τ).loc Cert.LateIdeal.main_arg9) = m ((c.tc : Thread Cert.LateIdeal.nD Cert.LateIdeal.τ).loc Cert.LateIdeal.main_arg9)
      ∧ r.2.mem ((c.tc : Thread Cert.LateIdeal.nD Cert.LateIdeal.τ).loc Cert.LateIdeal.main_arg10) = m ((c.tc : Thread Cert.LateIdeal.nD Cert.LateIdeal.τ).loc Cert.LateIdeal.main_arg10)
      ∧ r.2.mem ((c.tc : Thread Cert.LateIdeal.nD Cert.LateIdeal.τ).loc Cert.LateIdeal.main_arg11) = m ((c.tc : Thread Cert.LateIdeal.nD Cert.LateIdeal.τ).loc Cert.LateIdeal.main_arg11))
      ∧ r.2.sem = fun _ => 0)

def quiescent_LateRefIdeal [hLateRefIdeal : Cert.LateRefIdeal.Facts] : Prop :=
  ∀ (m : (ℓ : Loc Cert.LateRefIdeal.nD Cert.LateRefIdeal.τ Cert.LateRefIdeal.sig) → Buf (Elt Ideal) ℓ) (g : Dev Cert.LateRefIdeal.nD → PrngReg), Pre_LateRefIdeal m →
    θ_run (Cert.LateRefIdeal.defs (F := Ideal)) (onTc (τ := Cert.LateRefIdeal.τ) (Cert.LateRefIdeal.main (F := Ideal))) ⟨m, fun _ => 0, g⟩ (fun r => (∀ c : Dev Cert.LateRefIdeal.nD,
      r.2.mem ((c.tc : Thread Cert.LateRefIdeal.nD Cert.LateRefIdeal.τ).loc Cert.LateRefIdeal.main_arg0) = m ((c.tc : Thread Cert.LateRefIdeal.nD Cert.LateRefIdeal.τ).loc Cert.LateRefIdeal.main_arg0)
      ∧ r.2.mem ((c.tc : Thread Cert.LateRefIdeal.nD Cert.LateRefIdeal.τ).loc Cert.LateRefIdeal.main_arg1) = m ((c.tc : Thread Cert.LateRefIdeal.nD Cert.LateRefIdeal.τ).loc Cert.LateRefIdeal.main_arg1)
      ∧ r.2.mem ((c.tc : Thread Cert.LateRefIdeal.nD Cert.LateRefIdeal.τ).loc Cert.LateRefIdeal.main_arg2) = m ((c.tc : Thread Cert.LateRefIdeal.nD Cert.LateRefIdeal.τ).loc Cert.LateRefIdeal.main_arg2)
      ∧ r.2.mem ((c.tc : Thread Cert.LateRefIdeal.nD Cert.LateRefIdeal.τ).loc Cert.LateRefIdeal.main_arg3) = m ((c.tc : Thread Cert.LateRefIdeal.nD Cert.LateRefIdeal.τ).loc Cert.LateRefIdeal.main_arg3)
      ∧ r.2.mem ((c.tc : Thread Cert.LateRefIdeal.nD Cert.LateRefIdeal.τ).loc Cert.LateRefIdeal.main_arg4) = m ((c.tc : Thread Cert.LateRefIdeal.nD Cert.LateRefIdeal.τ).loc Cert.LateRefIdeal.main_arg4)
      ∧ r.2.mem ((c.tc : Thread Cert.LateRefIdeal.nD Cert.LateRefIdeal.τ).loc Cert.LateRefIdeal.main_arg5) = m ((c.tc : Thread Cert.LateRefIdeal.nD Cert.LateRefIdeal.τ).loc Cert.LateRefIdeal.main_arg5)
      ∧ r.2.mem ((c.tc : Thread Cert.LateRefIdeal.nD Cert.LateRefIdeal.τ).loc Cert.LateRefIdeal.main_arg6) = m ((c.tc : Thread Cert.LateRefIdeal.nD Cert.LateRefIdeal.τ).loc Cert.LateRefIdeal.main_arg6)
      ∧ r.2.mem ((c.tc : Thread Cert.LateRefIdeal.nD Cert.LateRefIdeal.τ).loc Cert.LateRefIdeal.main_arg7) = m ((c.tc : Thread Cert.LateRefIdeal.nD Cert.LateRefIdeal.τ).loc Cert.LateRefIdeal.main_arg7)
      ∧ r.2.mem ((c.tc : Thread Cert.LateRefIdeal.nD Cert.LateRefIdeal.τ).loc Cert.LateRefIdeal.main_arg8) = m ((c.tc : Thread Cert.LateRefIdeal.nD Cert.LateRefIdeal.τ).loc Cert.LateRefIdeal.main_arg8)
      ∧ r.2.mem ((c.tc : Thread Cert.LateRefIdeal.nD Cert.LateRefIdeal.τ).loc Cert.LateRefIdeal.main_arg9) = m ((c.tc : Thread Cert.LateRefIdeal.nD Cert.LateRefIdeal.τ).loc Cert.LateRefIdeal.main_arg9)
      ∧ r.2.mem ((c.tc : Thread Cert.LateRefIdeal.nD Cert.LateRefIdeal.τ).loc Cert.LateRefIdeal.main_arg10) = m ((c.tc : Thread Cert.LateRefIdeal.nD Cert.LateRefIdeal.τ).loc Cert.LateRefIdeal.main_arg10)
      ∧ r.2.mem ((c.tc : Thread Cert.LateRefIdeal.nD Cert.LateRefIdeal.τ).loc Cert.LateRefIdeal.main_arg11) = m ((c.tc : Thread Cert.LateRefIdeal.nD Cert.LateRefIdeal.τ).loc Cert.LateRefIdeal.main_arg11))
      ∧ r.2.sem = fun _ => 0)

def quiescent_LateRefIdeal_pre_mask_late [hLateRefIdeal : Cert.LateRefIdeal.Facts] [hPre_mask_late : Cert.Pre_mask_late.Facts] : Prop :=
  ∀ (m : (ℓ : Loc Cert.LateRefIdeal.nD Cert.LateRefIdeal.τ Cert.LateRefIdeal.sig) → Buf (Elt Ideal) ℓ) (g : Dev Cert.LateRefIdeal.nD → PrngReg), Pre_LateRefIdeal_mask_late m →
    θ_run (Cert.LateRefIdeal.defs (F := Ideal)) (onTc (τ := Cert.LateRefIdeal.τ) (Cert.LateRefIdeal.main (F := Ideal))) ⟨m, fun _ => 0, g⟩ (fun r => (∀ c : Dev Cert.LateRefIdeal.nD,
      r.2.mem ((c.tc : Thread Cert.LateRefIdeal.nD Cert.LateRefIdeal.τ).loc Cert.LateRefIdeal.main_arg0) = m ((c.tc : Thread Cert.LateRefIdeal.nD Cert.LateRefIdeal.τ).loc Cert.LateRefIdeal.main_arg0)
      ∧ r.2.mem ((c.tc : Thread Cert.LateRefIdeal.nD Cert.LateRefIdeal.τ).loc Cert.LateRefIdeal.main_arg1) = m ((c.tc : Thread Cert.LateRefIdeal.nD Cert.LateRefIdeal.τ).loc Cert.LateRefIdeal.main_arg1)
      ∧ r.2.mem ((c.tc : Thread Cert.LateRefIdeal.nD Cert.LateRefIdeal.τ).loc Cert.LateRefIdeal.main_arg2) = m ((c.tc : Thread Cert.LateRefIdeal.nD Cert.LateRefIdeal.τ).loc Cert.LateRefIdeal.main_arg2)
      ∧ r.2.mem ((c.tc : Thread Cert.LateRefIdeal.nD Cert.LateRefIdeal.τ).loc Cert.LateRefIdeal.main_arg3) = m ((c.tc : Thread Cert.LateRefIdeal.nD Cert.LateRefIdeal.τ).loc Cert.LateRefIdeal.main_arg3)
      ∧ r.2.mem ((c.tc : Thread Cert.LateRefIdeal.nD Cert.LateRefIdeal.τ).loc Cert.LateRefIdeal.main_arg4) = m ((c.tc : Thread Cert.LateRefIdeal.nD Cert.LateRefIdeal.τ).loc Cert.LateRefIdeal.main_arg4)
      ∧ r.2.mem ((c.tc : Thread Cert.LateRefIdeal.nD Cert.LateRefIdeal.τ).loc Cert.LateRefIdeal.main_arg5) = m ((c.tc : Thread Cert.LateRefIdeal.nD Cert.LateRefIdeal.τ).loc Cert.LateRefIdeal.main_arg5)
      ∧ r.2.mem ((c.tc : Thread Cert.LateRefIdeal.nD Cert.LateRefIdeal.τ).loc Cert.LateRefIdeal.main_arg6) = m ((c.tc : Thread Cert.LateRefIdeal.nD Cert.LateRefIdeal.τ).loc Cert.LateRefIdeal.main_arg6)
      ∧ r.2.mem ((c.tc : Thread Cert.LateRefIdeal.nD Cert.LateRefIdeal.τ).loc Cert.LateRefIdeal.main_arg7) = m ((c.tc : Thread Cert.LateRefIdeal.nD Cert.LateRefIdeal.τ).loc Cert.LateRefIdeal.main_arg7)
      ∧ r.2.mem ((c.tc : Thread Cert.LateRefIdeal.nD Cert.LateRefIdeal.τ).loc Cert.LateRefIdeal.main_arg8) = m ((c.tc : Thread Cert.LateRefIdeal.nD Cert.LateRefIdeal.τ).loc Cert.LateRefIdeal.main_arg8)
      ∧ r.2.mem ((c.tc : Thread Cert.LateRefIdeal.nD Cert.LateRefIdeal.τ).loc Cert.LateRefIdeal.main_arg9) = m ((c.tc : Thread Cert.LateRefIdeal.nD Cert.LateRefIdeal.τ).loc Cert.LateRefIdeal.main_arg9)
      ∧ r.2.mem ((c.tc : Thread Cert.LateRefIdeal.nD Cert.LateRefIdeal.τ).loc Cert.LateRefIdeal.main_arg10) = m ((c.tc : Thread Cert.LateRefIdeal.nD Cert.LateRefIdeal.τ).loc Cert.LateRefIdeal.main_arg10)
      ∧ r.2.mem ((c.tc : Thread Cert.LateRefIdeal.nD Cert.LateRefIdeal.τ).loc Cert.LateRefIdeal.main_arg11) = m ((c.tc : Thread Cert.LateRefIdeal.nD Cert.LateRefIdeal.τ).loc Cert.LateRefIdeal.main_arg11))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastIdeal_pre_mask_last [hLastIdeal : Cert.LastIdeal.Facts] [hPre_mask_last : Cert.Pre_mask_last.Facts] : Prop :=
  ∀ (m : (ℓ : Loc Cert.LastIdeal.nD Cert.LastIdeal.τ Cert.LastIdeal.sig) → Buf (Elt Ideal) ℓ) (g : Dev Cert.LastIdeal.nD → PrngReg), Pre_LastIdeal_mask_last m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_LastRefIdeal_pre_mask_last [hLastRefIdeal : Cert.LastRefIdeal.Facts] [hPre_mask_last : Cert.Pre_mask_last.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_mask_last m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Init_InitIdeal : Prop :=
  IdealRules.named_const.Statement Cert.InitIdeal.κ "width" .f32 0x3EBBBBBC#32 ((11 / 30 : ℝ) : EReal)
  ∧ IdealRules.named_const.Statement Cert.InitIdeal.κ "coeff" .f32 0xC06E043B#32 ((-450 / 121 : ℝ) : EReal)

def algebraic_InitIdeal_InitRefIdeal_pre_number_in_table [hInitIdeal : Cert.InitIdeal.Facts] [hInitRefIdeal : Cert.InitRefIdeal.Facts] [hPre_number_in_table : Cert.Pre_number_in_table.Facts] : Prop :=
  ∀ (m : (ℓ : Loc Cert.InitIdeal.nD Cert.InitIdeal.τ Cert.InitIdeal.sig) → Buf (Elt Ideal) ℓ) (g : Dev Cert.InitIdeal.nD → PrngReg)
    (m' : (ℓ : Loc Cert.InitRefIdeal.nD Cert.InitRefIdeal.τ Cert.InitRefIdeal.sig) → Buf (Elt Ideal) ℓ) (g' : Dev Cert.InitRefIdeal.nD → PrngReg), Pre_InitIdeal_number_in_table m →
    (∀ c : Dev Cert.InitIdeal.nD,
      m' ((c.tc : Thread Cert.InitRefIdeal.nD Cert.InitRefIdeal.τ).loc Cert.InitRefIdeal.main_arg0) = m ((c.tc : Thread Cert.InitIdeal.nD Cert.InitIdeal.τ).loc Cert.InitIdeal.main_arg0)
      ∧ m' ((c.tc : Thread Cert.InitRefIdeal.nD Cert.InitRefIdeal.τ).loc Cert.InitRefIdeal.main_arg1) = m ((c.tc : Thread Cert.InitIdeal.nD Cert.InitIdeal.τ).loc Cert.InitIdeal.main_arg1)
      ∧ m' ((c.tc : Thread Cert.InitRefIdeal.nD Cert.InitRefIdeal.τ).loc Cert.InitRefIdeal.main_arg2) = m ((c.tc : Thread Cert.InitIdeal.nD Cert.InitIdeal.τ).loc Cert.InitIdeal.main_arg2)) →
    ∃ (v0 : (c : Dev Cert.InitIdeal.nD) → Buf (Elt Ideal) ((c.tc : Thread Cert.InitIdeal.nD Cert.InitIdeal.τ).loc Cert.InitIdeal.main_v2_0)) (v1 : (c : Dev Cert.InitIdeal.nD) → Buf (Elt Ideal) ((c.tc : Thread Cert.InitIdeal.nD Cert.InitIdeal.τ).loc Cert.InitIdeal.main_v2_1)),
      θ_run (Cert.InitIdeal.defs (F := Ideal)) (onTc (τ := Cert.InitIdeal.τ) (Cert.InitIdeal.main (F := Ideal))) ⟨m, fun _ => 0, g⟩ (fun r => ∀ c : Dev Cert.InitIdeal.nD,
          r.2.mem ((c.tc : Thread Cert.InitIdeal.nD Cert.InitIdeal.τ).loc Cert.InitIdeal.main_v2_0) = v0 c
          ∧ r.2.mem ((c.tc : Thread Cert.InitIdeal.nD Cert.InitIdeal.τ).loc Cert.InitIdeal.main_v2_1) = v1 c
          ∧ r.2.mem ((c.tc : Thread Cert.InitIdeal.nD Cert.InitIdeal.τ).loc Cert.InitIdeal.main_arg0) = m ((c.tc : Thread Cert.InitIdeal.nD Cert.InitIdeal.τ).loc Cert.InitIdeal.main_arg0)
          ∧ r.2.mem ((c.tc : Thread Cert.InitIdeal.nD Cert.InitIdeal.τ).loc Cert.InitIdeal.main_arg1) = m ((c.tc : Thread Cert.InitIdeal.nD Cert.InitIdeal.τ).loc Cert.InitIdeal.main_arg1)
          ∧ r.2.mem ((c.tc : Thread Cert.InitIdeal.nD Cert.InitIdeal.τ).loc Cert.InitIdeal.main_arg2) = m ((c.tc : Thread Cert.InitIdeal.nD Cert.InitIdeal.τ).loc Cert.InitIdeal.main_arg2))
      ∧ θ_run (Cert.InitRefIdeal.defs (F := Ideal)) (onTc (τ := Cert.InitRefIdeal.τ) (Cert.InitRefIdeal.main (F := Ideal))) ⟨m', fun _ => 0, g'⟩ (fun r => ∀ c : Dev Cert.InitRefIdeal.nD,
          r.2.mem ((c.tc : Thread Cert.InitRefIdeal.nD Cert.InitRefIdeal.τ).loc Cert.InitRefIdeal.main_v24) = v0 c
          ∧ r.2.mem ((c.tc : Thread Cert.InitRefIdeal.nD Cert.InitRefIdeal.τ).loc Cert.InitRefIdeal.main_v25) = v1 c
          ∧ r.2.mem ((c.tc : Thread Cert.InitRefIdeal.nD Cert.InitRefIdeal.τ).loc Cert.InitRefIdeal.main_arg0) = m' ((c.tc : Thread Cert.InitRefIdeal.nD Cert.InitRefIdeal.τ).loc Cert.InitRefIdeal.main_arg0)
          ∧ r.2.mem ((c.tc : Thread Cert.InitRefIdeal.nD Cert.InitRefIdeal.τ).loc Cert.InitRefIdeal.main_arg1) = m' ((c.tc : Thread Cert.InitRefIdeal.nD Cert.InitRefIdeal.τ).loc Cert.InitRefIdeal.main_arg1)
          ∧ r.2.mem ((c.tc : Thread Cert.InitRefIdeal.nD Cert.InitRefIdeal.τ).loc Cert.InitRefIdeal.main_arg2) = m' ((c.tc : Thread Cert.InitRefIdeal.nD Cert.InitRefIdeal.τ).loc Cert.InitRefIdeal.main_arg2))

def preserves_First_FirstIdeal : Prop :=
  True

def algebraic_FirstIdeal_FirstRefIdeal_pre_mask_first [hFirstIdeal : Cert.FirstIdeal.Facts] [hFirstRefIdeal : Cert.FirstRefIdeal.Facts] [hPre_mask_first : Cert.Pre_mask_first.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal_mask_first m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)) →
    ∃ (v0 : (c : Dev Cert.FirstIdeal.nD) → Buf (Elt Ideal) ((c.tc : Thread Cert.FirstIdeal.nD Cert.FirstIdeal.τ).loc Cert.FirstIdeal.main_v19)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v19) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v28) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7))

def preserves_Middle_MiddleIdeal : Prop :=
  True

def algebraic_MiddleIdeal_MiddleRefIdeal_pre_mask_middle [hMiddleIdeal : Cert.MiddleIdeal.Facts] [hMiddleRefIdeal : Cert.MiddleRefIdeal.Facts] [hPre_mask_middle : Cert.Pre_mask_middle.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleRefIdeal.nD Cert.MiddleRefIdeal.τ Cert.MiddleRefIdeal.sig) → Buf (Elt Ideal) ℓ) (g' : Dev Cert.MiddleRefIdeal.nD → PrngReg), Pre_MiddleIdeal_mask_middle m →
    (∀ c : Dev Cert.MiddleIdeal.nD,
      m' ((c.tc : Thread Cert.MiddleRefIdeal.nD Cert.MiddleRefIdeal.τ).loc Cert.MiddleRefIdeal.main_arg0) = m ((c.tc : Thread Cert.MiddleIdeal.nD Cert.MiddleIdeal.τ).loc Cert.MiddleIdeal.main_arg0)
      ∧ m' ((c.tc : Thread Cert.MiddleRefIdeal.nD Cert.MiddleRefIdeal.τ).loc Cert.MiddleRefIdeal.main_arg1) = m ((c.tc : Thread Cert.MiddleIdeal.nD Cert.MiddleIdeal.τ).loc Cert.MiddleIdeal.main_arg1)
      ∧ m' ((c.tc : Thread Cert.MiddleRefIdeal.nD Cert.MiddleRefIdeal.τ).loc Cert.MiddleRefIdeal.main_arg2) = m ((c.tc : Thread Cert.MiddleIdeal.nD Cert.MiddleIdeal.τ).loc Cert.MiddleIdeal.main_arg2)
      ∧ m' ((c.tc : Thread Cert.MiddleRefIdeal.nD Cert.MiddleRefIdeal.τ).loc Cert.MiddleRefIdeal.main_arg3) = m ((c.tc : Thread Cert.MiddleIdeal.nD Cert.MiddleIdeal.τ).loc Cert.MiddleIdeal.main_arg3)
      ∧ m' ((c.tc : Thread Cert.MiddleRefIdeal.nD Cert.MiddleRefIdeal.τ).loc Cert.MiddleRefIdeal.main_arg4) = m ((c.tc : Thread Cert.MiddleIdeal.nD Cert.MiddleIdeal.τ).loc Cert.MiddleIdeal.main_arg4)
      ∧ m' ((c.tc : Thread Cert.MiddleRefIdeal.nD Cert.MiddleRefIdeal.τ).loc Cert.MiddleRefIdeal.main_arg5) = m ((c.tc : Thread Cert.MiddleIdeal.nD Cert.MiddleIdeal.τ).loc Cert.MiddleIdeal.main_arg5)
      ∧ m' ((c.tc : Thread Cert.MiddleRefIdeal.nD Cert.MiddleRefIdeal.τ).loc Cert.MiddleRefIdeal.main_arg6) = m ((c.tc : Thread Cert.MiddleIdeal.nD Cert.MiddleIdeal.τ).loc Cert.MiddleIdeal.main_arg6)
      ∧ m' ((c.tc : Thread Cert.MiddleRefIdeal.nD Cert.MiddleRefIdeal.τ).loc Cert.MiddleRefIdeal.main_arg7) = m ((c.tc : Thread Cert.MiddleIdeal.nD Cert.MiddleIdeal.τ).loc Cert.MiddleIdeal.main_arg7)
      ∧ m' ((c.tc : Thread Cert.MiddleRefIdeal.nD Cert.MiddleRefIdeal.τ).loc Cert.MiddleRefIdeal.main_arg8) = m ((c.tc : Thread Cert.MiddleIdeal.nD Cert.MiddleIdeal.τ).loc Cert.MiddleIdeal.main_arg8)
      ∧ m' ((c.tc : Thread Cert.MiddleRefIdeal.nD Cert.MiddleRefIdeal.τ).loc Cert.MiddleRefIdeal.main_arg9) = m ((c.tc : Thread Cert.MiddleIdeal.nD Cert.MiddleIdeal.τ).loc Cert.MiddleIdeal.main_arg9)
      ∧ m' ((c.tc : Thread Cert.MiddleRefIdeal.nD Cert.MiddleRefIdeal.τ).loc Cert.MiddleRefIdeal.main_arg10) = m ((c.tc : Thread Cert.MiddleIdeal.nD Cert.MiddleIdeal.τ).loc Cert.MiddleIdeal.main_arg10)
      ∧ m' ((c.tc : Thread Cert.MiddleRefIdeal.nD Cert.MiddleRefIdeal.τ).loc Cert.MiddleRefIdeal.main_arg11) = m ((c.tc : Thread Cert.MiddleIdeal.nD Cert.MiddleIdeal.τ).loc Cert.MiddleIdeal.main_arg11)) →
    ∃ (v0 : (c : Dev Cert.MiddleIdeal.nD) → Buf (Elt Ideal) ((c.tc : Thread Cert.MiddleIdeal.nD Cert.MiddleIdeal.τ).loc Cert.MiddleIdeal.main_v37_0)) (v1 : (c : Dev Cert.MiddleIdeal.nD) → Buf (Elt Ideal) ((c.tc : Thread Cert.MiddleIdeal.nD Cert.MiddleIdeal.τ).loc Cert.MiddleIdeal.main_v37_1)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v37_0) = v0 c
          ∧ r.2.mem ((c.tc : Thread Cert.MiddleIdeal.nD Cert.MiddleIdeal.τ).loc Cert.MiddleIdeal.main_v37_1) = v1 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
          ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
          ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
          ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ θ_run (Cert.MiddleRefIdeal.defs (F := Ideal)) (onTc (τ := Cert.MiddleRefIdeal.τ) (Cert.MiddleRefIdeal.main (F := Ideal))) ⟨m', fun _ => 0, g'⟩ (fun r => ∀ c : Dev Cert.MiddleRefIdeal.nD,
          r.2.mem ((c.tc : Thread Cert.MiddleRefIdeal.nD Cert.MiddleRefIdeal.τ).loc Cert.MiddleRefIdeal.main_v52) = v0 c
          ∧ r.2.mem ((c.tc : Thread Cert.MiddleRefIdeal.nD Cert.MiddleRefIdeal.τ).loc Cert.MiddleRefIdeal.main_v53) = v1 c
          ∧ r.2.mem ((c.tc : Thread Cert.MiddleRefIdeal.nD Cert.MiddleRefIdeal.τ).loc Cert.MiddleRefIdeal.main_arg0) = m' ((c.tc : Thread Cert.MiddleRefIdeal.nD Cert.MiddleRefIdeal.τ).loc Cert.MiddleRefIdeal.main_arg0)
          ∧ r.2.mem ((c.tc : Thread Cert.MiddleRefIdeal.nD Cert.MiddleRefIdeal.τ).loc Cert.MiddleRefIdeal.main_arg1) = m' ((c.tc : Thread Cert.MiddleRefIdeal.nD Cert.MiddleRefIdeal.τ).loc Cert.MiddleRefIdeal.main_arg1)
          ∧ r.2.mem ((c.tc : Thread Cert.MiddleRefIdeal.nD Cert.MiddleRefIdeal.τ).loc Cert.MiddleRefIdeal.main_arg2) = m' ((c.tc : Thread Cert.MiddleRefIdeal.nD Cert.MiddleRefIdeal.τ).loc Cert.MiddleRefIdeal.main_arg2)
          ∧ r.2.mem ((c.tc : Thread Cert.MiddleRefIdeal.nD Cert.MiddleRefIdeal.τ).loc Cert.MiddleRefIdeal.main_arg3) = m' ((c.tc : Thread Cert.MiddleRefIdeal.nD Cert.MiddleRefIdeal.τ).loc Cert.MiddleRefIdeal.main_arg3)
          ∧ r.2.mem ((c.tc : Thread Cert.MiddleRefIdeal.nD Cert.MiddleRefIdeal.τ).loc Cert.MiddleRefIdeal.main_arg4) = m' ((c.tc : Thread Cert.MiddleRefIdeal.nD Cert.MiddleRefIdeal.τ).loc Cert.MiddleRefIdeal.main_arg4)
          ∧ r.2.mem ((c.tc : Thread Cert.MiddleRefIdeal.nD Cert.MiddleRefIdeal.τ).loc Cert.MiddleRefIdeal.main_arg5) = m' ((c.tc : Thread Cert.MiddleRefIdeal.nD Cert.MiddleRefIdeal.τ).loc Cert.MiddleRefIdeal.main_arg5)
          ∧ r.2.mem ((c.tc : Thread Cert.MiddleRefIdeal.nD Cert.MiddleRefIdeal.τ).loc Cert.MiddleRefIdeal.main_arg6) = m' ((c.tc : Thread Cert.MiddleRefIdeal.nD Cert.MiddleRefIdeal.τ).loc Cert.MiddleRefIdeal.main_arg6)
          ∧ r.2.mem ((c.tc : Thread Cert.MiddleRefIdeal.nD Cert.MiddleRefIdeal.τ).loc Cert.MiddleRefIdeal.main_arg7) = m' ((c.tc : Thread Cert.MiddleRefIdeal.nD Cert.MiddleRefIdeal.τ).loc Cert.MiddleRefIdeal.main_arg7)
          ∧ r.2.mem ((c.tc : Thread Cert.MiddleRefIdeal.nD Cert.MiddleRefIdeal.τ).loc Cert.MiddleRefIdeal.main_arg8) = m' ((c.tc : Thread Cert.MiddleRefIdeal.nD Cert.MiddleRefIdeal.τ).loc Cert.MiddleRefIdeal.main_arg8)
          ∧ r.2.mem ((c.tc : Thread Cert.MiddleRefIdeal.nD Cert.MiddleRefIdeal.τ).loc Cert.MiddleRefIdeal.main_arg9) = m' ((c.tc : Thread Cert.MiddleRefIdeal.nD Cert.MiddleRefIdeal.τ).loc Cert.MiddleRefIdeal.main_arg9)
          ∧ r.2.mem ((c.tc : Thread Cert.MiddleRefIdeal.nD Cert.MiddleRefIdeal.τ).loc Cert.MiddleRefIdeal.main_arg10) = m' ((c.tc : Thread Cert.MiddleRefIdeal.nD Cert.MiddleRefIdeal.τ).loc Cert.MiddleRefIdeal.main_arg10)
          ∧ r.2.mem ((c.tc : Thread Cert.MiddleRefIdeal.nD Cert.MiddleRefIdeal.τ).loc Cert.MiddleRefIdeal.main_arg11) = m' ((c.tc : Thread Cert.MiddleRefIdeal.nD Cert.MiddleRefIdeal.τ).loc Cert.MiddleRefIdeal.main_arg11))

def preserves_Late_LateIdeal : Prop :=
  True

def algebraic_LateIdeal_LateRefIdeal_pre_mask_late [hLateIdeal : Cert.LateIdeal.Facts] [hLateRefIdeal : Cert.LateRefIdeal.Facts] [hPre_mask_late : Cert.Pre_mask_late.Facts] : Prop :=
  ∀ (m : (ℓ : Loc Cert.LateIdeal.nD Cert.LateIdeal.τ Cert.LateIdeal.sig) → Buf (Elt Ideal) ℓ) (g : Dev Cert.LateIdeal.nD → PrngReg)
    (m' : (ℓ : Loc Cert.LateRefIdeal.nD Cert.LateRefIdeal.τ Cert.LateRefIdeal.sig) → Buf (Elt Ideal) ℓ) (g' : Dev Cert.LateRefIdeal.nD → PrngReg), Pre_LateIdeal_mask_late m →
    (∀ c : Dev Cert.LateIdeal.nD,
      m' ((c.tc : Thread Cert.LateRefIdeal.nD Cert.LateRefIdeal.τ).loc Cert.LateRefIdeal.main_arg0) = m ((c.tc : Thread Cert.LateIdeal.nD Cert.LateIdeal.τ).loc Cert.LateIdeal.main_arg0)
      ∧ m' ((c.tc : Thread Cert.LateRefIdeal.nD Cert.LateRefIdeal.τ).loc Cert.LateRefIdeal.main_arg1) = m ((c.tc : Thread Cert.LateIdeal.nD Cert.LateIdeal.τ).loc Cert.LateIdeal.main_arg1)
      ∧ m' ((c.tc : Thread Cert.LateRefIdeal.nD Cert.LateRefIdeal.τ).loc Cert.LateRefIdeal.main_arg2) = m ((c.tc : Thread Cert.LateIdeal.nD Cert.LateIdeal.τ).loc Cert.LateIdeal.main_arg2)
      ∧ m' ((c.tc : Thread Cert.LateRefIdeal.nD Cert.LateRefIdeal.τ).loc Cert.LateRefIdeal.main_arg3) = m ((c.tc : Thread Cert.LateIdeal.nD Cert.LateIdeal.τ).loc Cert.LateIdeal.main_arg3)
      ∧ m' ((c.tc : Thread Cert.LateRefIdeal.nD Cert.LateRefIdeal.τ).loc Cert.LateRefIdeal.main_arg4) = m ((c.tc : Thread Cert.LateIdeal.nD Cert.LateIdeal.τ).loc Cert.LateIdeal.main_arg4)
      ∧ m' ((c.tc : Thread Cert.LateRefIdeal.nD Cert.LateRefIdeal.τ).loc Cert.LateRefIdeal.main_arg5) = m ((c.tc : Thread Cert.LateIdeal.nD Cert.LateIdeal.τ).loc Cert.LateIdeal.main_arg5)
      ∧ m' ((c.tc : Thread Cert.LateRefIdeal.nD Cert.LateRefIdeal.τ).loc Cert.LateRefIdeal.main_arg6) = m ((c.tc : Thread Cert.LateIdeal.nD Cert.LateIdeal.τ).loc Cert.LateIdeal.main_arg6)
      ∧ m' ((c.tc : Thread Cert.LateRefIdeal.nD Cert.LateRefIdeal.τ).loc Cert.LateRefIdeal.main_arg7) = m ((c.tc : Thread Cert.LateIdeal.nD Cert.LateIdeal.τ).loc Cert.LateIdeal.main_arg7)
      ∧ m' ((c.tc : Thread Cert.LateRefIdeal.nD Cert.LateRefIdeal.τ).loc Cert.LateRefIdeal.main_arg8) = m ((c.tc : Thread Cert.LateIdeal.nD Cert.LateIdeal.τ).loc Cert.LateIdeal.main_arg8)
      ∧ m' ((c.tc : Thread Cert.LateRefIdeal.nD Cert.LateRefIdeal.τ).loc Cert.LateRefIdeal.main_arg9) = m ((c.tc : Thread Cert.LateIdeal.nD Cert.LateIdeal.τ).loc Cert.LateIdeal.main_arg9)
      ∧ m' ((c.tc : Thread Cert.LateRefIdeal.nD Cert.LateRefIdeal.τ).loc Cert.LateRefIdeal.main_arg10) = m ((c.tc : Thread Cert.LateIdeal.nD Cert.LateIdeal.τ).loc Cert.LateIdeal.main_arg10)
      ∧ m' ((c.tc : Thread Cert.LateRefIdeal.nD Cert.LateRefIdeal.τ).loc Cert.LateRefIdeal.main_arg11) = m ((c.tc : Thread Cert.LateIdeal.nD Cert.LateIdeal.τ).loc Cert.LateIdeal.main_arg11)) →
    ∃ (v0 : (c : Dev Cert.LateIdeal.nD) → Buf (Elt Ideal) ((c.tc : Thread Cert.LateIdeal.nD Cert.LateIdeal.τ).loc Cert.LateIdeal.main_v37_0)) (v1 : (c : Dev Cert.LateIdeal.nD) → Buf (Elt Ideal) ((c.tc : Thread Cert.LateIdeal.nD Cert.LateIdeal.τ).loc Cert.LateIdeal.main_v37_1)),
      θ_run (Cert.LateIdeal.defs (F := Ideal)) (onTc (τ := Cert.LateIdeal.τ) (Cert.LateIdeal.main (F := Ideal))) ⟨m, fun _ => 0, g⟩ (fun r => ∀ c : Dev Cert.LateIdeal.nD,
          r.2.mem ((c.tc : Thread Cert.LateIdeal.nD Cert.LateIdeal.τ).loc Cert.LateIdeal.main_v37_0) = v0 c
          ∧ r.2.mem ((c.tc : Thread Cert.LateIdeal.nD Cert.LateIdeal.τ).loc Cert.LateIdeal.main_v37_1) = v1 c
          ∧ r.2.mem ((c.tc : Thread Cert.LateIdeal.nD Cert.LateIdeal.τ).loc Cert.LateIdeal.main_arg0) = m ((c.tc : Thread Cert.LateIdeal.nD Cert.LateIdeal.τ).loc Cert.LateIdeal.main_arg0)
          ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
          ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
          ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
          ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
          ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
          ∧ r.2.mem ((c.tc : Thread Cert.LateIdeal.nD Cert.LateIdeal.τ).loc Cert.LateIdeal.main_arg6) = m ((c.tc : Thread Cert.LateIdeal.nD Cert.LateIdeal.τ).loc Cert.LateIdeal.main_arg6)
          ∧ r.2.mem ((c.tc : Thread Cert.LateIdeal.nD Cert.LateIdeal.τ).loc Cert.LateIdeal.main_arg7) = m ((c.tc : Thread Cert.LateIdeal.nD Cert.LateIdeal.τ).loc Cert.LateIdeal.main_arg7)
          ∧ r.2.mem ((c.tc : Thread Cert.LateIdeal.nD Cert.LateIdeal.τ).loc Cert.LateIdeal.main_arg8) = m ((c.tc : Thread Cert.LateIdeal.nD Cert.LateIdeal.τ).loc Cert.LateIdeal.main_arg8)
          ∧ r.2.mem ((c.tc : Thread Cert.LateIdeal.nD Cert.LateIdeal.τ).loc Cert.LateIdeal.main_arg9) = m ((c.tc : Thread Cert.LateIdeal.nD Cert.LateIdeal.τ).loc Cert.LateIdeal.main_arg9)
          ∧ r.2.mem ((c.tc : Thread Cert.LateIdeal.nD Cert.LateIdeal.τ).loc Cert.LateIdeal.main_arg10) = m ((c.tc : Thread Cert.LateIdeal.nD Cert.LateIdeal.τ).loc Cert.LateIdeal.main_arg10)
          ∧ r.2.mem ((c.tc : Thread Cert.LateIdeal.nD Cert.LateIdeal.τ).loc Cert.LateIdeal.main_arg11) = m ((c.tc : Thread Cert.LateIdeal.nD Cert.LateIdeal.τ).loc Cert.LateIdeal.main_arg11))
      ∧ θ_run (Cert.LateRefIdeal.defs (F := Ideal)) (onTc (τ := Cert.LateRefIdeal.τ) (Cert.LateRefIdeal.main (F := Ideal))) ⟨m', fun _ => 0, g'⟩ (fun r => ∀ c : Dev Cert.LateRefIdeal.nD,
          r.2.mem ((c.tc : Thread Cert.LateRefIdeal.nD Cert.LateRefIdeal.τ).loc Cert.LateRefIdeal.main_v52) = v0 c
          ∧ r.2.mem ((c.tc : Thread Cert.LateRefIdeal.nD Cert.LateRefIdeal.τ).loc Cert.LateRefIdeal.main_v53) = v1 c
          ∧ r.2.mem ((c.tc : Thread Cert.LateRefIdeal.nD Cert.LateRefIdeal.τ).loc Cert.LateRefIdeal.main_arg0) = m' ((c.tc : Thread Cert.LateRefIdeal.nD Cert.LateRefIdeal.τ).loc Cert.LateRefIdeal.main_arg0)
          ∧ r.2.mem ((c.tc : Thread Cert.LateRefIdeal.nD Cert.LateRefIdeal.τ).loc Cert.LateRefIdeal.main_arg1) = m' ((c.tc : Thread Cert.LateRefIdeal.nD Cert.LateRefIdeal.τ).loc Cert.LateRefIdeal.main_arg1)
          ∧ r.2.mem ((c.tc : Thread Cert.LateRefIdeal.nD Cert.LateRefIdeal.τ).loc Cert.LateRefIdeal.main_arg2) = m' ((c.tc : Thread Cert.LateRefIdeal.nD Cert.LateRefIdeal.τ).loc Cert.LateRefIdeal.main_arg2)
          ∧ r.2.mem ((c.tc : Thread Cert.LateRefIdeal.nD Cert.LateRefIdeal.τ).loc Cert.LateRefIdeal.main_arg3) = m' ((c.tc : Thread Cert.LateRefIdeal.nD Cert.LateRefIdeal.τ).loc Cert.LateRefIdeal.main_arg3)
          ∧ r.2.mem ((c.tc : Thread Cert.LateRefIdeal.nD Cert.LateRefIdeal.τ).loc Cert.LateRefIdeal.main_arg4) = m' ((c.tc : Thread Cert.LateRefIdeal.nD Cert.LateRefIdeal.τ).loc Cert.LateRefIdeal.main_arg4)
          ∧ r.2.mem ((c.tc : Thread Cert.LateRefIdeal.nD Cert.LateRefIdeal.τ).loc Cert.LateRefIdeal.main_arg5) = m' ((c.tc : Thread Cert.LateRefIdeal.nD Cert.LateRefIdeal.τ).loc Cert.LateRefIdeal.main_arg5)
          ∧ r.2.mem ((c.tc : Thread Cert.LateRefIdeal.nD Cert.LateRefIdeal.τ).loc Cert.LateRefIdeal.main_arg6) = m' ((c.tc : Thread Cert.LateRefIdeal.nD Cert.LateRefIdeal.τ).loc Cert.LateRefIdeal.main_arg6)
          ∧ r.2.mem ((c.tc : Thread Cert.LateRefIdeal.nD Cert.LateRefIdeal.τ).loc Cert.LateRefIdeal.main_arg7) = m' ((c.tc : Thread Cert.LateRefIdeal.nD Cert.LateRefIdeal.τ).loc Cert.LateRefIdeal.main_arg7)
          ∧ r.2.mem ((c.tc : Thread Cert.LateRefIdeal.nD Cert.LateRefIdeal.τ).loc Cert.LateRefIdeal.main_arg8) = m' ((c.tc : Thread Cert.LateRefIdeal.nD Cert.LateRefIdeal.τ).loc Cert.LateRefIdeal.main_arg8)
          ∧ r.2.mem ((c.tc : Thread Cert.LateRefIdeal.nD Cert.LateRefIdeal.τ).loc Cert.LateRefIdeal.main_arg9) = m' ((c.tc : Thread Cert.LateRefIdeal.nD Cert.LateRefIdeal.τ).loc Cert.LateRefIdeal.main_arg9)
          ∧ r.2.mem ((c.tc : Thread Cert.LateRefIdeal.nD Cert.LateRefIdeal.τ).loc Cert.LateRefIdeal.main_arg10) = m' ((c.tc : Thread Cert.LateRefIdeal.nD Cert.LateRefIdeal.τ).loc Cert.LateRefIdeal.main_arg10)
          ∧ r.2.mem ((c.tc : Thread Cert.LateRefIdeal.nD Cert.LateRefIdeal.τ).loc Cert.LateRefIdeal.main_arg11) = m' ((c.tc : Thread Cert.LateRefIdeal.nD Cert.LateRefIdeal.τ).loc Cert.LateRefIdeal.main_arg11))

def preserves_Last_LastIdeal : Prop :=
  True

def algebraic_LastIdeal_LastRefIdeal_pre_mask_last [hLastIdeal : Cert.LastIdeal.Facts] [hLastRefIdeal : Cert.LastRefIdeal.Facts] [hPre_mask_last : Cert.Pre_mask_last.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_mask_last m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v18)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v18) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v26) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def Claim : Prop :=
  ∃ (hKernel : Cert.Kernel.Facts) (hKernelIdeal : Cert.KernelIdeal.Facts) (hReferenceIdeal : Cert.ReferenceIdeal.Facts) (hReference : Cert.Reference.Facts) (hInit : Cert.Init.Facts) (hInitIdeal : Cert.InitIdeal.Facts) (hInitRefIdeal : Cert.InitRefIdeal.Facts) (hFirst : Cert.First.Facts) (hFirstIdeal : Cert.FirstIdeal.Facts) (hFirstRefIdeal : Cert.FirstRefIdeal.Facts) (hMiddle : Cert.Middle.Facts) (hMiddleIdeal : Cert.MiddleIdeal.Facts) (hMiddleRefIdeal : Cert.MiddleRefIdeal.Facts) (hLate : Cert.Late.Facts) (hLateIdeal : Cert.LateIdeal.Facts) (hLateRefIdeal : Cert.LateRefIdeal.Facts) (hLast : Cert.Last.Facts) (hLastIdeal : Cert.LastIdeal.Facts) (hLastRefIdeal : Cert.LastRefIdeal.Facts) (hPre_idx_in_rows : Cert.Pre_idx_in_rows.Facts) (hPre_number_in_table : Cert.Pre_number_in_table.Facts) (hPre_mask_first : Cert.Pre_mask_first.Facts) (hPre_mask_middle : Cert.Pre_mask_middle.Facts) (hPre_mask_late : Cert.Pre_mask_late.Facts) (hPre_mask_last : Cert.Pre_mask_last.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Reference (hReference := hReference) (hPre_idx_in_rows := hPre_idx_in_rows)
    ∧ quiescent_Init (hInit := hInit)
    ∧ quiescent_InitIdeal (hInitIdeal := hInitIdeal)
    ∧ quiescent_InitIdeal_pre_number_in_table (hInitIdeal := hInitIdeal) (hPre_number_in_table := hPre_number_in_table)
    ∧ quiescent_InitRefIdeal (hInitRefIdeal := hInitRefIdeal)
    ∧ quiescent_InitRefIdeal_pre_number_in_table (hInitRefIdeal := hInitRefIdeal) (hPre_number_in_table := hPre_number_in_table)
    ∧ quiescent_First (hFirst := hFirst)
    ∧ quiescent_FirstIdeal (hFirstIdeal := hFirstIdeal)
    ∧ quiescent_FirstIdeal_pre_mask_first (hFirstIdeal := hFirstIdeal) (hPre_mask_first := hPre_mask_first)
    ∧ quiescent_FirstRefIdeal (hFirstRefIdeal := hFirstRefIdeal)
    ∧ quiescent_FirstRefIdeal_pre_mask_first (hFirstRefIdeal := hFirstRefIdeal) (hPre_mask_first := hPre_mask_first)
    ∧ quiescent_Middle (hMiddle := hMiddle)
    ∧ quiescent_MiddleIdeal (hMiddleIdeal := hMiddleIdeal)
    ∧ quiescent_MiddleIdeal_pre_mask_middle (hMiddleIdeal := hMiddleIdeal) (hPre_mask_middle := hPre_mask_middle)
    ∧ quiescent_MiddleRefIdeal (hMiddleRefIdeal := hMiddleRefIdeal)
    ∧ quiescent_MiddleRefIdeal_pre_mask_middle (hMiddleRefIdeal := hMiddleRefIdeal) (hPre_mask_middle := hPre_mask_middle)
    ∧ quiescent_Late (hLate := hLate)
    ∧ quiescent_LateIdeal (hLateIdeal := hLateIdeal)
    ∧ quiescent_LateIdeal_pre_mask_late (hLateIdeal := hLateIdeal) (hPre_mask_late := hPre_mask_late)
    ∧ quiescent_LateRefIdeal (hLateRefIdeal := hLateRefIdeal)
    ∧ quiescent_LateRefIdeal_pre_mask_late (hLateRefIdeal := hLateRefIdeal) (hPre_mask_late := hPre_mask_late)
    ∧ quiescent_Last (hLast := hLast)
    ∧ quiescent_LastIdeal (hLastIdeal := hLastIdeal)
    ∧ quiescent_LastIdeal_pre_mask_last (hLastIdeal := hLastIdeal) (hPre_mask_last := hPre_mask_last)
    ∧ quiescent_LastRefIdeal (hLastRefIdeal := hLastRefIdeal)
    ∧ quiescent_LastRefIdeal_pre_mask_last (hLastRefIdeal := hLastRefIdeal) (hPre_mask_last := hPre_mask_last)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Init_InitIdeal
    ∧ algebraic_InitIdeal_InitRefIdeal_pre_number_in_table (hInitIdeal := hInitIdeal) (hInitRefIdeal := hInitRefIdeal) (hPre_number_in_table := hPre_number_in_table)
    ∧ preserves_First_FirstIdeal
    ∧ algebraic_FirstIdeal_FirstRefIdeal_pre_mask_first (hFirstIdeal := hFirstIdeal) (hFirstRefIdeal := hFirstRefIdeal) (hPre_mask_first := hPre_mask_first)
    ∧ preserves_Middle_MiddleIdeal
    ∧ algebraic_MiddleIdeal_MiddleRefIdeal_pre_mask_middle (hMiddleIdeal := hMiddleIdeal) (hMiddleRefIdeal := hMiddleRefIdeal) (hPre_mask_middle := hPre_mask_middle)
    ∧ preserves_Late_LateIdeal
    ∧ algebraic_LateIdeal_LateRefIdeal_pre_mask_late (hLateIdeal := hLateIdeal) (hLateRefIdeal := hLateRefIdeal) (hPre_mask_late := hPre_mask_late)
    ∧ preserves_Last_LastIdeal
    ∧ algebraic_LastIdeal_LastRefIdeal_pre_mask_last (hLastIdeal := hLastIdeal) (hLastRefIdeal := hLastRefIdeal) (hPre_mask_last := hPre_mask_last)
-- ==== Pre_idx_in_rows.lean ====
abbrev S10000x128 : Shape := ⟨2, ![10000, 128]⟩
abbrev S1x10000x16 : Shape := ⟨3, ![1, 10000, 16]⟩
abbrev S_ : Shape := ⟨0, ![]⟩

class Facts : Prop where
  bcast_S_S1x10000x16 : S_.BroadcastsInDim S1x10000x16 (![] : Fin 0 → Fin S1x10000x16.rank)

variable [Facts]

def fn {F : FTy → Type} [FloatOps F] (main_arg0 : FVec F S10000x128 .f32) (main_arg1 : IVec S1x10000x16 32) : IVec S1x10000x16 1 :=
  let main_c : IVec S_ 32 := constantI S_ 32 0#32
  let main_v0 : IVec S1x10000x16 32 := broadcastInDim S1x10000x16 ![] bcast_S_S1x10000x16 main_c
  let main_v1 : IVec S1x10000x16 1 := cmpi .sge main_arg1 main_v0
  let main_c_0 : IVec S_ 32 := constantI S_ 32 10000#32
  let main_v2 : IVec S1x10000x16 32 := broadcastInDim S1x10000x16 ![] bcast_S_S1x10000x16 main_c_0
  let main_v3 : IVec S1x10000x16 1 := cmpi .slt main_arg1 main_v2
  let main_v4 : IVec S1x10000x16 1 := andi main_v1 main_v3
  main_v4
-- ==== Pre_mask_first.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S_ : Shape := ⟨0, ![]⟩

class Facts : Prop where
  bcast_S_S1x10000x16 : S_.BroadcastsInDim S1x10000x16 (![] : Fin 0 → Fin S1x10000x16.rank)

variable [Facts]

def fn {F : FTy → Type} [FloatOps F] (main_arg0 : FVec F S10000x128 .f32) (main_arg1 : FVec F S160000x128 .f32) (main_arg2 : FVec F S160000x16 .f32) (main_arg3 : FVec F S1x10000x16 .f32) (main_arg4 : FVec F S3x272x128 .f32) (main_arg5 : FVec F S3x128 .f32) (main_arg6 : FVec F S3x128x128 .f32) (main_arg7 : FVec F S3x128 .f32) : IVec S1x10000x16 1 :=
  let main_cst : FVec F S_ .f32 := constant S_ .f32 0x3F800000#32
  let main_v0 : FVec F S1x10000x16 .f32 := broadcastInDim S1x10000x16 ![] bcast_S_S1x10000x16 main_cst
  let main_v1 : IVec S1x10000x16 1 := cmpf .oeq main_arg3 main_v0
  main_v1
-- ==== Pre_mask_last.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x16 : Shape := ⟨3, ![3, 272, 16]⟩
abbrev S3x16 : Shape := ⟨2, ![3, 16]⟩
abbrev S3x16x16 : Shape := ⟨3, ![3, 16, 16]⟩
abbrev S_ : Shape := ⟨0, ![]⟩

class Facts : Prop where
  bcast_S_S1x10000x16 : S_.BroadcastsInDim S1x10000x16 (![] : Fin 0 → Fin S1x10000x16.rank)

variable [Facts]

def fn {F : FTy → Type} [FloatOps F] (main_arg0 : FVec F S10000x128 .f32) (main_arg1 : FVec F S160000x128 .f32) (main_arg2 : FVec F S160000x16 .f32) (main_arg3 : FVec F S1x10000x16 .f32) (main_arg4 : FVec F S3x272x16 .f32) (main_arg5 : FVec F S3x16 .f32) (main_arg6 : FVec F S3x16x16 .f32) (main_arg7 : FVec F S3x16 .f32) : IVec S1x10000x16 1 :=
  let main_cst : FVec F S_ .f32 := constant S_ .f32 0x3F800000#32
  let main_v0 : FVec F S1x10000x16 .f32 := broadcastInDim S1x10000x16 ![] bcast_S_S1x10000x16 main_cst
  let main_v1 : IVec S1x10000x16 1 := cmpf .oeq main_arg3 main_v0
  main_v1
-- ==== Pre_mask_late.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x272x16 : Shape := ⟨3, ![3, 272, 16]⟩
abbrev S3x16 : Shape := ⟨2, ![3, 16]⟩
abbrev S3x16x16 : Shape := ⟨3, ![3, 16, 16]⟩
abbrev S_ : Shape := ⟨0, ![]⟩

class Facts : Prop where
  bcast_S_S1x10000x16 : S_.BroadcastsInDim S1x10000x16 (![] : Fin 0 → Fin S1x10000x16.rank)

variable [Facts]

def fn {F : FTy → Type} [FloatOps F] (main_arg0 : FVec F S10000x128 .f32) (main_arg1 : FVec F S160000x128 .f32) (main_arg2 : FVec F S160000x16 .f32) (main_arg3 : FVec F S1x10000x16 .f32) (main_arg4 : FVec F S3x272x128 .f32) (main_arg5 : FVec F S3x128 .f32) (main_arg6 : FVec F S3x128x128 .f32) (main_arg7 : FVec F S3x128 .f32) (main_arg8 : FVec F S3x272x16 .f32) (main_arg9 : FVec F S3x16 .f32) (main_arg10 : FVec F S3x16x16 .f32) (main_arg11 : FVec F S3x16 .f32) : IVec S1x10000x16 1 :=
  let main_cst : FVec F S_ .f32 := constant S_ .f32 0x3F800000#32
  let main_v0 : FVec F S1x10000x16 .f32 := broadcastInDim S1x10000x16 ![] bcast_S_S1x10000x16 main_cst
  let main_v1 : IVec S1x10000x16 1 := cmpf .oeq main_arg3 main_v0
  main_v1
-- ==== Pre_mask_middle.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x272x16 : Shape := ⟨3, ![3, 272, 16]⟩
abbrev S3x16 : Shape := ⟨2, ![3, 16]⟩
abbrev S3x16x16 : Shape := ⟨3, ![3, 16, 16]⟩
abbrev S_ : Shape := ⟨0, ![]⟩

class Facts : Prop where
  bcast_S_S1x10000x16 : S_.BroadcastsInDim S1x10000x16 (![] : Fin 0 → Fin S1x10000x16.rank)

variable [Facts]

def fn {F : FTy → Type} [FloatOps F] (main_arg0 : FVec F S10000x128 .f32) (main_arg1 : FVec F S160000x128 .f32) (main_arg2 : FVec F S160000x16 .f32) (main_arg3 : FVec F S1x10000x16 .f32) (main_arg4 : FVec F S3x272x128 .f32) (main_arg5 : FVec F S3x128 .f32) (main_arg6 : FVec F S3x128x128 .f32) (main_arg7 : FVec F S3x128 .f32) (main_arg8 : FVec F S3x272x16 .f32) (main_arg9 : FVec F S3x16 .f32) (main_arg10 : FVec F S3x16x16 .f32) (main_arg11 : FVec F S3x16 .f32) : IVec S1x10000x16 1 :=
  let main_cst : FVec F S_ .f32 := constant S_ .f32 0x3F800000#32
  let main_v0 : FVec F S1x10000x16 .f32 := broadcastInDim S1x10000x16 ![] bcast_S_S1x10000x16 main_cst
  let main_v1 : IVec S1x10000x16 1 := cmpf .oeq main_arg3 main_v0
  main_v1
-- ==== Pre_number_in_table.lean ====
abbrev S1x10000 : Shape := ⟨2, ![1, 10000]⟩
abbrev S1x10000x16 : Shape := ⟨3, ![1, 10000, 16]⟩
abbrev S100x128 : Shape := ⟨2, ![100, 128]⟩
abbrev S_ : Shape := ⟨0, ![]⟩

class Facts : Prop where
  bcast_S_S1x10000 : S_.BroadcastsInDim S1x10000 (![] : Fin 0 → Fin S1x10000.rank)

variable [Facts]

def fn {F : FTy → Type} [FloatOps F] (main_arg0 : IVec S1x10000 32) (main_arg1 : FVec F S1x10000x16 .f32) (main_arg2 : FVec F S100x128 .f32) : IVec S1x10000 1 :=
  let main_c : IVec S_ 32 := constantI S_ 32 0#32
  let main_v0 : IVec S1x10000 32 := broadcastInDim S1x10000 ![] bcast_S_S1x10000 main_c
  let main_v1 : IVec S1x10000 1 := cmpi .sge main_arg0 main_v0
  let main_c_0 : IVec S_ 32 := constantI S_ 32 100#32
  let main_v2 : IVec S1x10000 32 := broadcastInDim S1x10000 ![] bcast_S_S1x10000 main_c_0
  let main_v3 : IVec S1x10000 1 := cmpi .slt main_arg0 main_v2
  let main_v4 : IVec S1x10000 1 := andi main_v1 main_v3
  main_v4
-- ==== Kernel.lean ====
abbrev S10000x128 : Shape := ⟨2, ![10000, 128]⟩
abbrev S1x10000x16 : Shape := ⟨3, ![1, 10000, 16]⟩
abbrev S160000 : Shape := ⟨1, ![160000]⟩
abbrev S1x160000 : Shape := ⟨2, ![1, 160000]⟩
abbrev S160000x128 : Shape := ⟨2, ![160000, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩

abbrev nBuf : Table → Nat
  | .hbm => 5
  | .local .scVector .vmem => 2
  | _ => 0

abbrev bufTy : (tb : Table) → Fin (nBuf tb) → BufTy
  | .hbm, ⟨0, _⟩ => ⟨S10000x128, .f32⟩
  | .hbm, ⟨1, _⟩ => ⟨S1x10000x16, .i32⟩
  | .hbm, ⟨2, _⟩ => ⟨S160000, .i32⟩
  | .hbm, ⟨3, _⟩ => ⟨S1x160000, .i32⟩
  | .hbm, ⟨4, _⟩ => ⟨S160000x128, .f32⟩
  | .local .scVector .vmem, ⟨0, _⟩ => ⟨S2x1x256, .i32⟩
  | .local .scVector .vmem, ⟨1, _⟩ => ⟨S2x256x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c256_i32_r0 : BitVec 32 := 256#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v20_r0 : BitVec 32 := Scalar.addi c0_i32_10_r0 v10
  let v81_r0 : BitVec 32 := Scalar.muli c256_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v93_r0 : BitVec 1 := Scalar.cmpi .eq v92_r0 v5
  let c0_i32_66_r0 : BitVec 32 := 0#32
  let v94_r0 : BitVec 32 := Scalar.select v93_r0 c0_i32_66_r0 v92_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x256x128.size a ≤ S2x256x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x256x128.size a ≤ S2x256x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x256.size a ≤ S2x1x256.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x256.size a ≤ S2x1x256.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let v168_r0 : BitVec 32 := Scalar.muli c256_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let c1_i32_63_r0 : BitVec 32 := 1#32
  let v88_r0 : BitVec 32 := Scalar.subi v5 c1_i32_63_r0
  let v89_r0 : BitVec 32 := Scalar.select v87_r0 v88_r0 v86_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v90_r0 : BitVec 32 := Scalar.addi v89_r0 v10
  let v168_r0 : BitVec 32 := Scalar.muli c256_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x256.size a ≤ S2x1x256.size a) ∧
  (∀ (k0_h1 : k0_cond1 i = 1#1), ∀ (k0_h3 : k0_cond3 i k0_t1 arg10_r0 = 1#1), ∀ a, (k0_off5 i arg10_r0) a + S1x256.size a ≤ S1x160000.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x256.size a ≤ S2x1x256.size a) ∧
  (∀ (k0_h1 : k0_cond1 i = 1#1), ∀ (k0_h4 : k0_cond4 i k0_t1 arg10_r0 = 1#1), ∀ a, (k0_off8 i arg10_r0) a + S1x256.size a ≤ S1x160000.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x256x128.size a ≤ S2x256x128.size a) ∧
  (∀ (k0_h1 : k0_cond1 i = 1#1), ∀ (k0_h7 : k0_cond7 i k0_t1 arg10_r0 = 1#1), ∀ a, (k0_off13 i arg10_r0) a + S256x128.size a ≤ S160000x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x256x128.size a ≤ S2x256x128.size a) ∧
  (∀ (k0_h1 : k0_cond1 i = 1#1), ∀ (k0_h9 : k0_cond9 i k0_t1 arg10_r0 = 1#1), ∀ a, (k0_off16 i arg10_r0) a + S256x128.size a ≤ S160000x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x256.size a ≤ S2x1x256.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x256.size a ≤ S1x160000.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x256.size a ≤ S2x1x256.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x256.size a ≤ S1x160000.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x256x128.size a ≤ S2x256x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S256x128.size a ≤ S160000x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x256x128.size a ≤ S2x256x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S256x128.size a ≤ S160000x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v93_r0 : BitVec 1 := Scalar.cmpi .eq v92_r0 v5
  let c0_i32_66_r0 : BitVec 32 := 0#32
  let v94_r0 : BitVec 32 := Scalar.select v93_r0 c0_i32_66_r0 v92_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x256x128.size a ≤ S2x256x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x256x128.size a ≤ S2x256x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x256.size a ≤ S2x1x256.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x256.size a ≤ S2x1x256.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let v168_r0 : BitVec 32 := Scalar.muli c256_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let c1_i32_63_r0 : BitVec 32 := 1#32
  let v88_r0 : BitVec 32 := Scalar.subi v5 c1_i32_63_r0
  let v89_r0 : BitVec 32 := Scalar.select v87_r0 v88_r0 v86_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v90_r0 : BitVec 32 := Scalar.addi v89_r0 v10
  let v168_r0 : BitVec 32 := Scalar.muli c256_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x256.size a ≤ S2x1x256.size a) ∧
  (∀ (k0_h1 : k0_cond1 i = 1#1), ∀ (k0_h10 : k0_cond10 i k0_t2 arg10_r0 = 1#1), ∀ a, (k0_off19 i arg10_r0) a + S1x256.size a ≤ S1x160000.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x256.size a ≤ S2x1x256.size a) ∧
  (∀ (k0_h1 : k0_cond1 i = 1#1), ∀ (k0_h11 : k0_cond11 i k0_t2 arg10_r0 = 1#1), ∀ a, (k0_off22 i arg10_r0) a + S1x256.size a ≤ S1x160000.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x256x128.size a ≤ S2x256x128.size a) ∧
  (∀ (k0_h1 : k0_cond1 i = 1#1), ∀ (k0_h14 : k0_cond14 i k0_t2 arg10_r0 = 1#1), ∀ a, (k0_off27 i arg10_r0) a + S256x128.size a ≤ S160000x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x256x128.size a ≤ S2x256x128.size a) ∧
  (∀ (k0_h1 : k0_cond1 i = 1#1), ∀ (k0_h16 : k0_cond16 i k0_t2 arg10_r0 = 1#1), ∀ a, (k0_off30 i arg10_r0) a + S256x128.size a ≤ S160000x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x256.size a ≤ S2x1x256.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x256.size a ≤ S1x160000.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x256.size a ≤ S2x1x256.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x256.size a ≤ S1x160000.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x256x128.size a ≤ S2x256x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S256x128.size a ≤ S160000x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x256x128.size a ≤ S2x256x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S256x128.size a ≤ S160000x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c256_i32_r0 : BitVec 32 := 256#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let c1_i32_40_r0 : BitVec 32 := 1#32
  let v52_r0 : BitVec 32 := Scalar.subi v5 c1_i32_40_r0
  let v53_r0 : BitVec 32 := Scalar.select v51_r0 v52_r0 v50_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v59_r0 : BitVec 32 := Scalar.addi v53_r0 v10
  let v81_r0 : BitVec 32 := Scalar.muli c256_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S256x128.size a ≤ S160000x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S256x128.size a ≤ S160000x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x256x128.size a ≤ S2x256x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x256x128.size a ≤ S2x256x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x256x128.size a ≤ S2x256x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x256x128.size a ≤ S2x256x128.size a := fun i v48_3_r0 k0_hw7 k0_h1 k0_h18 => k0_hw7.2.2 k0_h1 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S10000x128 : Shape := ⟨2, ![10000, 128]⟩
abbrev S1x10000x16 : Shape := ⟨3, ![1, 10000, 16]⟩
abbrev S1x10000x128 : Shape := ⟨3, ![1, 10000, 128]⟩
abbrev S1 : Shape := ⟨1, ![1]⟩
abbrev S1x1x1 : Shape := ⟨3, ![1, 1, 1]⟩
abbrev S_ : Shape := ⟨0, ![]⟩
abbrev S1x10000x16x1 : Shape := ⟨4, ![1, 10000, 16, 1]⟩
abbrev S1x10000x16x2 : Shape := ⟨4, ![1, 10000, 16, 2]⟩
abbrev S1x10000x16x128 : Shape := ⟨4, ![1, 10000, 16, 128]⟩
abbrev S160000x128 : Shape := ⟨2, ![160000, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x16, .i32⟩
  | .hbm, ⟨2, _⟩ => ⟨S1x10000x128, .f32⟩
  | .hbm, ⟨3, _⟩ => ⟨S1, .i32⟩
  | .hbm, ⟨4, _⟩ => ⟨S1x1x1, .i32⟩
  | .hbm, ⟨5, _⟩ => ⟨S_, .i32⟩
  | .hbm, ⟨6, _⟩ => ⟨S1x1x1, .i32⟩
  | .hbm, ⟨7, _⟩ => ⟨S1x1x1, .i1⟩
  | .hbm, ⟨8, _⟩ => ⟨S_, .i32⟩
  | .hbm, ⟨9, _⟩ => ⟨S1x1x1, .i32⟩
  | .hbm, ⟨10, _⟩ => ⟨S1x1x1, .i32⟩
  | .hbm, ⟨11, _⟩ => ⟨S1x1x1, .i32⟩
  | .hbm, ⟨12, _⟩ => ⟨S_, .i32⟩
  | .hbm, ⟨13, _⟩ => ⟨S1x10000x16, .i32⟩
  | .hbm, ⟨14, _⟩ => ⟨S1x10000x16, .i1⟩
  | .hbm, ⟨15, _⟩ => ⟨S_, .i32⟩
  | .hbm, ⟨16, _⟩ => ⟨S1x10000x16, .i32⟩
  | .hbm, ⟨17, _⟩ => ⟨S1x10000x16, .i32⟩
  | .hbm, ⟨18, _⟩ => ⟨S1x10000x16, .i32⟩
  | .hbm, ⟨19, _⟩ => ⟨S1x10000x16, .i32⟩
  | .hbm, ⟨20, _⟩ => ⟨S1x10000x16x1, .i32⟩
  | .hbm, ⟨21, _⟩ => ⟨S1x10000x16x1, .i32⟩
  | .hbm, ⟨22, _⟩ => ⟨S1x10000x16x2, .i32⟩
  | .hbm, ⟨23, _⟩ => ⟨S1x10000x16x128, .f32⟩
  | .hbm, ⟨24, _⟩ => ⟨S160000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Init.lean ====
abbrev S1x10000 : Shape := ⟨2, ![1, 10000]⟩
abbrev S1x10000x16 : Shape := ⟨3, ![1, 10000, 16]⟩
abbrev S100x128 : Shape := ⟨2, ![100, 128]⟩
abbrev S10000x1 : Shape := ⟨2, ![10000, 1]⟩
abbrev S10000x16 : Shape := ⟨2, ![10000, 16]⟩
abbrev S160000x16 : Shape := ⟨2, ![160000, 16]⟩
abbrev S10000x128 : Shape := ⟨2, ![10000, 128]⟩
abbrev S400x16 : Shape := ⟨2, ![400, 16]⟩
abbrev S400x1 : Shape := ⟨2, ![400, 1]⟩
abbrev S6400x16 : Shape := ⟨2, ![6400, 16]⟩
abbrev S400x128 : Shape := ⟨2, ![400, 128]⟩
abbrev S1x1x16 : Shape := ⟨3, ![1, 1, 16]⟩
abbrev S400x16x1 : Shape := ⟨3, ![400, 16, 1]⟩
abbrev S400x16x16 : Shape := ⟨3, ![400, 16, 16]⟩
abbrev S400x100 : Shape := ⟨2, ![400, 100]⟩

abbrev nBuf : Space → Nat
  | .hbm => 7
  | .vmem => 9
  | .smem => 0
  | _ => 0

abbrev bufTy : (tb : Table) → Fin (tcTables nBuf tb) → BufTy
  | .hbm, ⟨0, _⟩ => ⟨S1x10000, .i32⟩
  | .hbm, ⟨1, _⟩ => ⟨S1x10000x16, .f32⟩
  | .hbm, ⟨2, _⟩ => ⟨S100x128, .f32⟩
  | .hbm, ⟨3, _⟩ => ⟨S10000x1, .i32⟩
  | .hbm, ⟨4, _⟩ => ⟨S10000x16, .f32⟩
  | .hbm, ⟨5, _⟩ => ⟨S160000x16, .f32⟩
  | .hbm, ⟨6, _⟩ => ⟨S10000x128, .f32⟩
  | .local _ .vmem, ⟨0, _⟩ => ⟨S400x16, .f32⟩
  | .local _ .vmem, ⟨1, _⟩ => ⟨S400x16, .f32⟩
  | .local _ .vmem, ⟨2, _⟩ => ⟨S400x1, .i32⟩
  | .local _ .vmem, ⟨3, _⟩ => ⟨S400x1, .i32⟩
  | .local _ .vmem, ⟨4, _⟩ => ⟨S100x128, .f32⟩
  | .local _ .vmem, ⟨5, _⟩ => ⟨S6400x16, .f32⟩
  | .local _ .vmem, ⟨6, _⟩ => ⟨S6400x16, .f32⟩
  | .local _ .vmem, ⟨7, _⟩ => ⟨S400x128, .f32⟩
  | .local _ .vmem, ⟨8, _⟩ => ⟨S400x128, .f32⟩
  | _, _ => ⟨S1x10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InitIdeal.lean ====
variable {F : FTy → Type} [FloatOps F] [Named F]
def κ : String → Option EReal := fun
  | "coeff" => some ((-450 / 121 : ℝ) : EReal)
  | "width" => some ((11 / 30 : ℝ) : EReal)
  | _ => none
-- ==== InitRefIdeal.lean ====
abbrev S1x10000 : Shape := ⟨2, ![1, 10000]⟩
abbrev S1x10000x16 : Shape := ⟨3, ![1, 10000, 16]⟩
abbrev S100x128 : Shape := ⟨2, ![100, 128]⟩
abbrev S_ : Shape := ⟨0, ![]⟩
abbrev S1x10000x1 : Shape := ⟨3, ![1, 10000, 1]⟩
abbrev S1x10000x128 : Shape := ⟨3, ![1, 10000, 128]⟩
abbrev S15 : Shape := ⟨1, ![15]⟩
abbrev S1 : Shape := ⟨1, ![1]⟩
abbrev S16 : Shape := ⟨1, ![16]⟩
abbrev S1x10000x16x1 : Shape := ⟨4, ![1, 10000, 16, 1]⟩
abbrev S1x1x1x16 : Shape := ⟨4, ![1, 1, 1, 16]⟩
abbrev S1x10000x16x16 : Shape := ⟨4, ![1, 10000, 16, 16]⟩
abbrev S160000x16 : Shape := ⟨2, ![160000, 16]⟩
abbrev S10000x128 : Shape := ⟨2, ![10000, 128]⟩

abbrev nBuf : Space → Nat
  | .hbm => 54
  | .vmem => 0
  | .smem => 0
  | _ => 0

abbrev bufTy : (tb : Table) → Fin (tcTables nBuf tb) → BufTy
  | .hbm, ⟨0, _⟩ => ⟨S1x10000, .i32⟩
  | .hbm, ⟨1, _⟩ => ⟨S1x10000x16, .f32⟩
  | .hbm, ⟨2, _⟩ => ⟨S100x128, .f32⟩
  | .hbm, ⟨3, _⟩ => ⟨S_, .i32⟩
  | .hbm, ⟨4, _⟩ => ⟨S1x10000, .i32⟩
  | .hbm, ⟨5, _⟩ => ⟨S1x10000, .i1⟩
  | .hbm, ⟨6, _⟩ => ⟨S_, .i32⟩
  | .hbm, ⟨7, _⟩ => ⟨S1x10000, .i32⟩
  | .hbm, ⟨8, _⟩ => ⟨S1x10000, .i32⟩
  | .hbm, ⟨9, _⟩ => ⟨S1x10000, .i32⟩
  | .hbm, ⟨10, _⟩ => ⟨S1x10000x1, .i32⟩
  | .hbm, ⟨11, _⟩ => ⟨S1x10000x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S15, .f32⟩
  | .hbm, ⟨20, _⟩ => ⟨S_, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S_, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S15, .f32⟩
  | .hbm, ⟨29, _⟩ => ⟨S1, .f32⟩
  | .hbm, ⟨30, _⟩ => ⟨S15, .f32⟩
  | .hbm, ⟨31, _⟩ => ⟨S15, .f32⟩
  | .hbm, ⟨32, _⟩ => ⟨S15, .f32⟩
  | .hbm, ⟨33, _⟩ => ⟨S1, .f32⟩
  | .hbm, ⟨34, _⟩ => ⟨S16, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x10000x16x1, .f32⟩
  | .hbm, ⟨44, _⟩ => ⟨S1x1x1x16, .f32⟩
  | .hbm, ⟨45, _⟩ => ⟨S1x10000x16x16, .f32⟩
  | .hbm, ⟨46, _⟩ => ⟨S1x10000x16x16, .f32⟩
  | .hbm, ⟨47, _⟩ => ⟨S1x10000x16x16, .f32⟩
  | .hbm, ⟨48, _⟩ => ⟨S1x10000x16x16, .f32⟩
  | .hbm, ⟨49, _⟩ => ⟨S1x10000x16x16, .f32⟩
  | .hbm, ⟨50, _⟩ => ⟨S1x10000x16x16, .f32⟩
  | .hbm, ⟨51, _⟩ => ⟨S1x10000x16x16, .f32⟩
  | .hbm, ⟨52, _⟩ => ⟨S160000x16, .f32⟩
  | .hbm, ⟨53, _⟩ => ⟨S10000x128, .f32⟩
  | _, _ => ⟨S1x10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩

abbrev nD : Nat := 1
abbrev τ : Topo := Topo.v7x

variable {F : FTy → Type} [FloatOps F]
-- ==== First.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x16x128 : Shape := ⟨3, ![3, 16, 128]⟩
abbrev S3x1x128 : Shape := ⟨3, ![3, 1, 128]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x1x128 : Shape := ⟨3, ![1, 1, 128]⟩
abbrev S1x128 : Shape := ⟨2, ![1, 128]⟩
abbrev S400x128 : Shape := ⟨2, ![400, 128]⟩
abbrev S6400x128 : Shape := ⟨2, ![6400, 128]⟩
abbrev S6400x16 : Shape := ⟨2, ![6400, 16]⟩
abbrev S400x1x128 : Shape := ⟨3, ![400, 1, 128]⟩
abbrev S400x16x128 : Shape := ⟨3, ![400, 16, 128]⟩

abbrev nBuf : Space → Nat
  | .hbm => 28
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x128x128, .f32⟩
  | .hbm, ⟨9, _⟩ => ⟨S3x128x128, .f32⟩
  | .hbm, ⟨10, _⟩ => ⟨S3x16x128, .f32⟩
  | .hbm, ⟨11, _⟩ => ⟨S3x128x128, .bf16⟩
  | .hbm, ⟨12, _⟩ => ⟨S3x128x128, .bf16⟩
  | .hbm, ⟨13, _⟩ => ⟨S3x1x128, .f32⟩
  | .hbm, ⟨14, _⟩ => ⟨S3x1x128, .f32⟩
  | .hbm, ⟨15, _⟩ => ⟨S1x128x128, .f32⟩
  | .hbm, ⟨16, _⟩ => ⟨S128x128, .f32⟩
  | .hbm, ⟨17, _⟩ => ⟨S1x128x128, .bf16⟩
  | .hbm, ⟨18, _⟩ => ⟨S128x128, .bf16⟩
  | .hbm, ⟨19, _⟩ => ⟨S1x16x128, .f32⟩
  | .hbm, ⟨20, _⟩ => ⟨S16x128, .f32⟩
  | .hbm, ⟨21, _⟩ => ⟨S1x1x128, .f32⟩
  | .hbm, ⟨22, _⟩ => ⟨S1x128, .f32⟩
  | .hbm, ⟨23, _⟩ => ⟨S1x128x128, .bf16⟩
  | .hbm, ⟨24, _⟩ => ⟨S128x128, .bf16⟩
  | .hbm, ⟨25, _⟩ => ⟨S1x1x128, .f32⟩
  | .hbm, ⟨26, _⟩ => ⟨S1x128, .f32⟩
  | .hbm, ⟨27, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S6400x128, .f32⟩
  | .local _ .vmem, ⟨3, _⟩ => ⟨S6400x128, .f32⟩
  | .local _ .vmem, ⟨4, _⟩ => ⟨S6400x16, .f32⟩
  | .local _ .vmem, ⟨5, _⟩ => ⟨S6400x16, .f32⟩
  | .local _ .vmem, ⟨6, _⟩ => ⟨S128x128, .f32⟩
  | .local _ .vmem, ⟨7, _⟩ => ⟨S128x128, .bf16⟩
  | .local _ .vmem, ⟨8, _⟩ => ⟨S16x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S400x128, .f32⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FirstRefIdeal.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S1x10000x128 : Shape := ⟨3, ![1, 10000, 128]⟩
abbrev S1x10000x16x128 : Shape := ⟨4, ![1, 10000, 16, 128]⟩
abbrev S1x10000x16x16 : Shape := ⟨4, ![1, 10000, 16, 16]⟩
abbrev S1x272x128 : Shape := ⟨3, ![1, 272, 128]⟩
abbrev S272x128 : Shape := ⟨2, ![272, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x10000x1x128 : Shape := ⟨4, ![1, 10000, 1, 128]⟩
abbrev S1x10000x16x272 : Shape := ⟨4, ![1, 10000, 16, 272]⟩
abbrev S1x1x1x128 : Shape := ⟨4, ![1, 1, 1, 128]⟩
abbrev S_ : Shape := ⟨0, ![]⟩
abbrev S1x10000x16x1 : Shape := ⟨4, ![1, 10000, 16, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S1x10000x128, .f32⟩
  | .hbm, ⟨9, _⟩ => ⟨S1x10000x16x128, .f32⟩
  | .hbm, ⟨10, _⟩ => ⟨S1x10000x16x16, .f32⟩
  | .hbm, ⟨11, _⟩ => ⟨S1x272x128, .f32⟩
  | .hbm, ⟨12, _⟩ => ⟨S272x128, .f32⟩
  | .hbm, ⟨13, _⟩ => ⟨S1x128, .f32⟩
  | .hbm, ⟨14, _⟩ => ⟨S128, .f32⟩
  | .hbm, ⟨15, _⟩ => ⟨S1x128x128, .f32⟩
  | .hbm, ⟨16, _⟩ => ⟨S128x128, .f32⟩
  | .hbm, ⟨17, _⟩ => ⟨S1x128, .f32⟩
  | .hbm, ⟨18, _⟩ => ⟨S128, .f32⟩
  | .hbm, ⟨19, _⟩ => ⟨S1x10000x1x128, .f32⟩
  | .hbm, ⟨20, _⟩ => ⟨S1x10000x16x128, .f32⟩
  | .hbm, ⟨21, _⟩ => ⟨S1x10000x16x272, .f32⟩
  | .hbm, ⟨22, _⟩ => ⟨S1x10000x16x128, .f32⟩
  | .hbm, ⟨23, _⟩ => ⟨S1x1x1x128, .f32⟩
  | .hbm, ⟨24, _⟩ => ⟨S1x10000x16x128, .f32⟩
  | .hbm, ⟨25, _⟩ => ⟨S1x10000x16x128, .f32⟩
  | .hbm, ⟨26, _⟩ => ⟨S_, .f32⟩
  | .hbm, ⟨27, _⟩ => ⟨S1x10000x16x128, .f32⟩
  | .hbm, ⟨28, _⟩ => ⟨S1x10000x16x128, .f32⟩
  | .hbm, ⟨29, _⟩ => ⟨S1x10000x16x128, .f32⟩
  | .hbm, ⟨30, _⟩ => ⟨S1x10000x16x128, .f32⟩
  | .hbm, ⟨31, _⟩ => ⟨S1x10000x16x128, .i1⟩
  | .hbm, ⟨32, _⟩ => ⟨S1x10000x16x128, .f32⟩
  | .hbm, ⟨33, _⟩ => ⟨S1x10000x16x128, .f32⟩
  | .hbm, ⟨34, _⟩ => ⟨S1x10000x16x128, .f32⟩
  | .hbm, ⟨35, _⟩ => ⟨S1x10000x16x128, .f32⟩
  | .hbm, ⟨36, _⟩ => ⟨S1x10000x16x128, .f32⟩
  | .hbm, ⟨37, _⟩ => ⟨S1x10000x16x128, .f32⟩
  | .hbm, ⟨38, _⟩ => ⟨S1x10000x16x128, .f32⟩
  | .hbm, ⟨39, _⟩ => ⟨S1x10000x16x128, .f32⟩
  | .hbm, ⟨40, _⟩ => ⟨S1x10000x16x128, .f32⟩
  | .hbm, ⟨41, _⟩ => ⟨S1x1x1x128, .f32⟩
  | .hbm, ⟨42, _⟩ => ⟨S1x10000x16x128, .f32⟩
  | .hbm, ⟨43, _⟩ => ⟨S1x10000x16x128, .f32⟩
  | .hbm, ⟨44, _⟩ => ⟨S1x10000x16x1, .f32⟩
  | .hbm, ⟨45, _⟩ => ⟨S1x10000x16x128, .f32⟩
  | .hbm, ⟨46, _⟩ => ⟨S1x10000x16x128, .f32⟩
  | .hbm, ⟨47, _⟩ => ⟨S_, .f32⟩
  | .hbm, ⟨48, _⟩ => ⟨S1x10000x128, .f32⟩
  | .hbm, ⟨49, _⟩ => ⟨S1x10000x128, .f32⟩
  | .hbm, ⟨50, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Middle.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x272x16 : Shape := ⟨3, ![3, 272, 16]⟩
abbrev S3x16 : Shape := ⟨2, ![3, 16]⟩
abbrev S3x16x16 : Shape := ⟨3, ![3, 16, 16]⟩
abbrev S3x16x128 : Shape := ⟨3, ![3, 16, 128]⟩
abbrev S3x128x16 : Shape := ⟨3, ![3, 128, 16]⟩
abbrev S3x1x128 : Shape := ⟨3, ![3, 1, 128]⟩
abbrev S3x1x16 : Shape := ⟨3, ![3, 1, 16]⟩
abbrev S1x128x16 : Shape := ⟨3, ![1, 128, 16]⟩
abbrev S128x16 : Shape := ⟨2, ![128, 16]⟩
abbrev S1x16x16 : Shape := ⟨3, ![1, 16, 16]⟩
abbrev S16x16 : Shape := ⟨2, ![16, 16]⟩
abbrev S1x1x16 : Shape := ⟨3, ![1, 1, 16]⟩
abbrev S1x16 : Shape := ⟨2, ![1, 16]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x1x128 : Shape := ⟨3, ![1, 1, 128]⟩
abbrev S1x128 : Shape := ⟨2, ![1, 128]⟩
abbrev S400x128 : Shape := ⟨2, ![400, 128]⟩
abbrev S6400x128 : Shape := ⟨2, ![6400, 128]⟩
abbrev S6400x16 : Shape := ⟨2, ![6400, 16]⟩
abbrev S400x16 : Shape := ⟨2, ![400, 16]⟩
abbrev S400x1x16 : Shape := ⟨3, ![400, 1, 16]⟩
abbrev S400x16x16 : Shape := ⟨3, ![400, 16, 16]⟩
abbrev S16x6400 : Shape := ⟨2, ![16, 6400]⟩
abbrev S400x1x128 : Shape := ⟨3, ![400, 1, 128]⟩
abbrev S400x16x128 : Shape := ⟨3, ![400, 16, 128]⟩

abbrev nBuf : Space → Nat
  | .hbm => 51
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x272x16, .f32⟩
  | .hbm, ⟨9, _⟩ => ⟨S3x16, .f32⟩
  | .hbm, ⟨10, _⟩ => ⟨S3x16x16, .f32⟩
  | .hbm, ⟨11, _⟩ => ⟨S3x16, .f32⟩
  | .hbm, ⟨12, _⟩ => ⟨S3x128x128, .f32⟩
  | .hbm, ⟨13, _⟩ => ⟨S3x128x128, .f32⟩
  | .hbm, ⟨14, _⟩ => ⟨S3x16x128, .f32⟩
  | .hbm, ⟨15, _⟩ => ⟨S3x128x16, .f32⟩
  | .hbm, ⟨16, _⟩ => ⟨S3x128x16, .f32⟩
  | .hbm, ⟨17, _⟩ => ⟨S3x16x16, .f32⟩
  | .hbm, ⟨18, _⟩ => ⟨S3x128x128, .bf16⟩
  | .hbm, ⟨19, _⟩ => ⟨S3x128x128, .bf16⟩
  | .hbm, ⟨20, _⟩ => ⟨S3x128x16, .bf16⟩
  | .hbm, ⟨21, _⟩ => ⟨S3x1x128, .f32⟩
  | .hbm, ⟨22, _⟩ => ⟨S3x1x128, .f32⟩
  | .hbm, ⟨23, _⟩ => ⟨S3x1x16, .f32⟩
  | .hbm, ⟨24, _⟩ => ⟨S3x1x16, .f32⟩
  | .hbm, ⟨25, _⟩ => ⟨S1x128x16, .f32⟩
  | .hbm, ⟨26, _⟩ => ⟨S128x16, .f32⟩
  | .hbm, ⟨27, _⟩ => ⟨S1x128x16, .bf16⟩
  | .hbm, ⟨28, _⟩ => ⟨S128x16, .bf16⟩
  | .hbm, ⟨29, _⟩ => ⟨S1x16x16, .f32⟩
  | .hbm, ⟨30, _⟩ => ⟨S16x16, .f32⟩
  | .hbm, ⟨31, _⟩ => ⟨S1x1x16, .f32⟩
  | .hbm, ⟨32, _⟩ => ⟨S1x16, .f32⟩
  | .hbm, ⟨33, _⟩ => ⟨S1x16x16, .f32⟩
  | .hbm, ⟨34, _⟩ => ⟨S16x16, .f32⟩
  | .hbm, ⟨35, _⟩ => ⟨S1x1x16, .f32⟩
  | .hbm, ⟨36, _⟩ => ⟨S1x16, .f32⟩
  | .hbm, ⟨37, _⟩ => ⟨S1x128x128, .f32⟩
  | .hbm, ⟨38, _⟩ => ⟨S128x128, .f32⟩
  | .hbm, ⟨39, _⟩ => ⟨S1x128x128, .bf16⟩
  | .hbm, ⟨40, _⟩ => ⟨S128x128, .bf16⟩
  | .hbm, ⟨41, _⟩ => ⟨S1x16x128, .f32⟩
  | .hbm, ⟨42, _⟩ => ⟨S16x128, .f32⟩
  | .hbm, ⟨43, _⟩ => ⟨S1x1x128, .f32⟩
  | .hbm, ⟨44, _⟩ => ⟨S1x128, .f32⟩
  | .hbm, ⟨45, _⟩ => ⟨S1x128x128, .bf16⟩
  | .hbm, ⟨46, _⟩ => ⟨S128x128, .bf16⟩
  | .hbm, ⟨47, _⟩ => ⟨S1x1x128, .f32⟩
  | .hbm, ⟨48, _⟩ => ⟨S1x128, .f32⟩
  | .hbm, ⟨49, _⟩ => ⟨S160000x16, .f32⟩
  | .hbm, ⟨50, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S6400x128, .f32⟩
  | .local _ .vmem, ⟨3, _⟩ => ⟨S6400x128, .f32⟩
  | .local _ .vmem, ⟨4, _⟩ => ⟨S6400x16, .f32⟩
  | .local _ .vmem, ⟨5, _⟩ => ⟨S6400x16, .f32⟩
  | .local _ .vmem, ⟨6, _⟩ => ⟨S128x16, .f32⟩
  | .local _ .vmem, ⟨7, _⟩ => ⟨S128x16, .bf16⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S128x128, .f32⟩
  | .local _ .vmem, ⟨13, _⟩ => ⟨S128x128, .bf16⟩
  | .local _ .vmem, ⟨14, _⟩ => ⟨S16x128, .f32⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S6400x16, .f32⟩
  | .local _ .vmem, ⟨19, _⟩ => ⟨S6400x16, .f32⟩
  | .local _ .vmem, ⟨20, _⟩ => ⟨S400x128, .f32⟩
  | .local _ .vmem, ⟨21, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S6400x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S400x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MiddleRefIdeal.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x272x16 : Shape := ⟨3, ![3, 272, 16]⟩
abbrev S3x16 : Shape := ⟨2, ![3, 16]⟩
abbrev S3x16x16 : Shape := ⟨3, ![3, 16, 16]⟩
abbrev S1x10000x128 : Shape := ⟨3, ![1, 10000, 128]⟩
abbrev S1x10000x16x128 : Shape := ⟨4, ![1, 10000, 16, 128]⟩
abbrev S1x10000x16x16 : Shape := ⟨4, ![1, 10000, 16, 16]⟩
abbrev S1x272x16 : Shape := ⟨3, ![1, 272, 16]⟩
abbrev S272x16 : Shape := ⟨2, ![272, 16]⟩
abbrev S1x16 : Shape := ⟨2, ![1, 16]⟩
abbrev S16 : Shape := ⟨1, ![16]⟩
abbrev S1x16x16 : Shape := ⟨3, ![1, 16, 16]⟩
abbrev S16x16 : Shape := ⟨2, ![16, 16]⟩
abbrev S1x10000x1x128 : Shape := ⟨4, ![1, 10000, 1, 128]⟩
abbrev S1x10000x16x272 : Shape := ⟨4, ![1, 10000, 16, 272]⟩
abbrev S1x1x1x16 : Shape := ⟨4, ![1, 1, 1, 16]⟩
abbrev S_ : Shape := ⟨0, ![]⟩
abbrev S1x10000x16x1 : Shape := ⟨4, ![1, 10000, 16, 1]⟩
abbrev S1x272x128 : Shape := ⟨3, ![1, 272, 128]⟩
abbrev S272x128 : Shape := ⟨2, ![272, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x1x1x128 : Shape := ⟨4, ![1, 1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x272x16, .f32⟩
  | .hbm, ⟨9, _⟩ => ⟨S3x16, .f32⟩
  | .hbm, ⟨10, _⟩ => ⟨S3x16x16, .f32⟩
  | .hbm, ⟨11, _⟩ => ⟨S3x16, .f32⟩
  | .hbm, ⟨12, _⟩ => ⟨S1x10000x128, .f32⟩
  | .hbm, ⟨13, _⟩ => ⟨S1x10000x16x128, .f32⟩
  | .hbm, ⟨14, _⟩ => ⟨S1x10000x16x16, .f32⟩
  | .hbm, ⟨15, _⟩ => ⟨S1x272x16, .f32⟩
  | .hbm, ⟨16, _⟩ => ⟨S272x16, .f32⟩
  | .hbm, ⟨17, _⟩ => ⟨S1x16, .f32⟩
  | .hbm, ⟨18, _⟩ => ⟨S16, .f32⟩
  | .hbm, ⟨19, _⟩ => ⟨S1x16x16, .f32⟩
  | .hbm, ⟨20, _⟩ => ⟨S16x16, .f32⟩
  | .hbm, ⟨21, _⟩ => ⟨S1x16, .f32⟩
  | .hbm, ⟨22, _⟩ => ⟨S16, .f32⟩
  | .hbm, ⟨23, _⟩ => ⟨S1x10000x1x128, .f32⟩
  | .hbm, ⟨24, _⟩ => ⟨S1x10000x16x128, .f32⟩
  | .hbm, ⟨25, _⟩ => ⟨S1x10000x16x272, .f32⟩
  | .hbm, ⟨26, _⟩ => ⟨S1x10000x16x16, .f32⟩
  | .hbm, ⟨27, _⟩ => ⟨S1x1x1x16, .f32⟩
  | .hbm, ⟨28, _⟩ => ⟨S1x10000x16x16, .f32⟩
  | .hbm, ⟨29, _⟩ => ⟨S1x10000x16x16, .f32⟩
  | .hbm, ⟨30, _⟩ => ⟨S_, .f32⟩
  | .hbm, ⟨31, _⟩ => ⟨S1x10000x16x16, .f32⟩
  | .hbm, ⟨32, _⟩ => ⟨S1x10000x16x16, .f32⟩
  | .hbm, ⟨33, _⟩ => ⟨S1x10000x16x16, .f32⟩
  | .hbm, ⟨34, _⟩ => ⟨S1x10000x16x16, .f32⟩
  | .hbm, ⟨35, _⟩ => ⟨S1x10000x16x16, .i1⟩
  | .hbm, ⟨36, _⟩ => ⟨S1x10000x16x16, .f32⟩
  | .hbm, ⟨37, _⟩ => ⟨S1x10000x16x16, .f32⟩
  | .hbm, ⟨38, _⟩ => ⟨S1x10000x16x16, .f32⟩
  | .hbm, ⟨39, _⟩ => ⟨S1x10000x16x16, .f32⟩
  | .hbm, ⟨40, _⟩ => ⟨S1x10000x16x16, .f32⟩
  | .hbm, ⟨41, _⟩ => ⟨S1x10000x16x16, .f32⟩
  | .hbm, ⟨42, _⟩ => ⟨S1x10000x16x16, .f32⟩
  | .hbm, ⟨43, _⟩ => ⟨S1x10000x16x16, .f32⟩
  | .hbm, ⟨44, _⟩ => ⟨S1x10000x16x16, .f32⟩
  | .hbm, ⟨45, _⟩ => ⟨S1x1x1x16, .f32⟩
  | .hbm, ⟨46, _⟩ => ⟨S1x10000x16x16, .f32⟩
  | .hbm, ⟨47, _⟩ => ⟨S1x10000x16x16, .f32⟩
  | .hbm, ⟨48, _⟩ => ⟨S1x10000x16x1, .f32⟩
  | .hbm, ⟨49, _⟩ => ⟨S1x10000x16x16, .f32⟩
  | .hbm, ⟨50, _⟩ => ⟨S1x10000x16x16, .f32⟩
  | .hbm, ⟨51, _⟩ => ⟨S1x10000x16x16, .f32⟩
  | .hbm, ⟨52, _⟩ => ⟨S1x272x128, .f32⟩
  | .hbm, ⟨53, _⟩ => ⟨S272x128, .f32⟩
  | .hbm, ⟨54, _⟩ => ⟨S1x128, .f32⟩
  | .hbm, ⟨55, _⟩ => ⟨S128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x10000x1x128, .f32⟩
  | .hbm, ⟨61, _⟩ => ⟨S1x10000x16x128, .f32⟩
  | .hbm, ⟨62, _⟩ => ⟨S1x10000x16x272, .f32⟩
  | .hbm, ⟨63, _⟩ => ⟨S1x10000x16x128, .f32⟩
  | .hbm, ⟨64, _⟩ => ⟨S1x1x1x128, .f32⟩
  | .hbm, ⟨65, _⟩ => ⟨S1x10000x16x128, .f32⟩
  | .hbm, ⟨66, _⟩ => ⟨S1x10000x16x128, .f32⟩
  | .hbm, ⟨67, _⟩ => ⟨S_, .f32⟩
  | .hbm, ⟨68, _⟩ => ⟨S1x10000x16x128, .f32⟩
  | .hbm, ⟨69, _⟩ => ⟨S1x10000x16x128, .f32⟩
  | .hbm, ⟨70, _⟩ => ⟨S1x10000x16x128, .f32⟩
  | .hbm, ⟨71, _⟩ => ⟨S1x10000x16x128, .f32⟩
  | .hbm, ⟨72, _⟩ => ⟨S1x10000x16x128, .i1⟩
  | .hbm, ⟨73, _⟩ => ⟨S1x10000x16x128, .f32⟩
  | .hbm, ⟨74, _⟩ => ⟨S1x10000x16x128, .f32⟩
  | .hbm, ⟨75, _⟩ => ⟨S1x10000x16x128, .f32⟩
  | .hbm, ⟨76, _⟩ => ⟨S1x10000x16x128, .f32⟩
  | .hbm, ⟨77, _⟩ => ⟨S1x10000x16x128, .f32⟩
  | .hbm, ⟨78, _⟩ => ⟨S1x10000x16x128, .f32⟩
  | .hbm, ⟨79, _⟩ => ⟨S1x10000x16x128, .f32⟩
  | .hbm, ⟨80, _⟩ => ⟨S1x10000x16x128, .f32⟩
  | .hbm, ⟨81, _⟩ => ⟨S1x10000x16x128, .f32⟩
  | .hbm, ⟨82, _⟩ => ⟨S1x1x1x128, .f32⟩
  | .hbm, ⟨83, _⟩ => ⟨S1x10000x16x128, .f32⟩
  | .hbm, ⟨84, _⟩ => ⟨S1x10000x16x128, .f32⟩
  | .hbm, ⟨85, _⟩ => ⟨S1x10000x16x1, .f32⟩
  | .hbm, ⟨86, _⟩ => ⟨S1x10000x16x128, .f32⟩
  | .hbm, ⟨87, _⟩ => ⟨S1x10000x16x128, .f32⟩
  | .hbm, ⟨88, _⟩ => ⟨S_, .f32⟩
  | .hbm, ⟨89, _⟩ => ⟨S1x10000x128, .f32⟩
  | .hbm, ⟨90, _⟩ => ⟨S1x10000x128, .f32⟩
  | .hbm, ⟨91, _⟩ => ⟨S160000x16, .f32⟩
  | .hbm, ⟨92, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩

abbrev nD : Nat := 1
abbrev τ : Topo := Topo.v7x

variable {F : FTy → Type} [FloatOps F]
-- ==== Late.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x272x16 : Shape := ⟨3, ![3, 272, 16]⟩
abbrev S3x16 : Shape := ⟨2, ![3, 16]⟩
abbrev S3x16x16 : Shape := ⟨3, ![3, 16, 16]⟩
abbrev S3x16x128 : Shape := ⟨3, ![3, 16, 128]⟩
abbrev S3x128x16 : Shape := ⟨3, ![3, 128, 16]⟩
abbrev S3x1x128 : Shape := ⟨3, ![3, 1, 128]⟩
abbrev S3x1x16 : Shape := ⟨3, ![3, 1, 16]⟩
abbrev S1x128x16 : Shape := ⟨3, ![1, 128, 16]⟩
abbrev S128x16 : Shape := ⟨2, ![128, 16]⟩
abbrev S1x16x16 : Shape := ⟨3, ![1, 16, 16]⟩
abbrev S16x16 : Shape := ⟨2, ![16, 16]⟩
abbrev S1x1x16 : Shape := ⟨3, ![1, 1, 16]⟩
abbrev S1x16 : Shape := ⟨2, ![1, 16]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x1x128 : Shape := ⟨3, ![1, 1, 128]⟩
abbrev S1x128 : Shape := ⟨2, ![1, 128]⟩
abbrev S400x128 : Shape := ⟨2, ![400, 128]⟩
abbrev S6400x128 : Shape := ⟨2, ![6400, 128]⟩
abbrev S6400x16 : Shape := ⟨2, ![6400, 16]⟩
abbrev S400x16 : Shape := ⟨2, ![400, 16]⟩
abbrev S400x1x16 : Shape := ⟨3, ![400, 1, 16]⟩
abbrev S400x16x16 : Shape := ⟨3, ![400, 16, 16]⟩
abbrev S16x6400 : Shape := ⟨2, ![16, 6400]⟩
abbrev S400x1x128 : Shape := ⟨3, ![400, 1, 128]⟩
abbrev S400x16x128 : Shape := ⟨3, ![400, 16, 128]⟩

abbrev nBuf : Space → Nat
  | .hbm => 51
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x272x16, .f32⟩
  | .hbm, ⟨9, _⟩ => ⟨S3x16, .f32⟩
  | .hbm, ⟨10, _⟩ => ⟨S3x16x16, .f32⟩
  | .hbm, ⟨11, _⟩ => ⟨S3x16, .f32⟩
  | .hbm, ⟨12, _⟩ => ⟨S3x128x128, .f32⟩
  | .hbm, ⟨13, _⟩ => ⟨S3x128x128, .f32⟩
  | .hbm, ⟨14, _⟩ => ⟨S3x16x128, .f32⟩
  | .hbm, ⟨15, _⟩ => ⟨S3x128x16, .f32⟩
  | .hbm, ⟨16, _⟩ => ⟨S3x128x16, .f32⟩
  | .hbm, ⟨17, _⟩ => ⟨S3x16x16, .f32⟩
  | .hbm, ⟨18, _⟩ => ⟨S3x128x128, .bf16⟩
  | .hbm, ⟨19, _⟩ => ⟨S3x128x128, .bf16⟩
  | .hbm, ⟨20, _⟩ => ⟨S3x128x16, .bf16⟩
  | .hbm, ⟨21, _⟩ => ⟨S3x1x128, .f32⟩
  | .hbm, ⟨22, _⟩ => ⟨S3x1x128, .f32⟩
  | .hbm, ⟨23, _⟩ => ⟨S3x1x16, .f32⟩
  | .hbm, ⟨24, _⟩ => ⟨S3x1x16, .f32⟩
  | .hbm, ⟨25, _⟩ => ⟨S1x128x16, .f32⟩
  | .hbm, ⟨26, _⟩ => ⟨S128x16, .f32⟩
  | .hbm, ⟨27, _⟩ => ⟨S1x128x16, .bf16⟩
  | .hbm, ⟨28, _⟩ => ⟨S128x16, .bf16⟩
  | .hbm, ⟨29, _⟩ => ⟨S1x16x16, .f32⟩
  | .hbm, ⟨30, _⟩ => ⟨S16x16, .f32⟩
  | .hbm, ⟨31, _⟩ => ⟨S1x1x16, .f32⟩
  | .hbm, ⟨32, _⟩ => ⟨S1x16, .f32⟩
  | .hbm, ⟨33, _⟩ => ⟨S1x16x16, .f32⟩
  | .hbm, ⟨34, _⟩ => ⟨S16x16, .f32⟩
  | .hbm, ⟨35, _⟩ => ⟨S1x1x16, .f32⟩
  | .hbm, ⟨36, _⟩ => ⟨S1x16, .f32⟩
  | .hbm, ⟨37, _⟩ => ⟨S1x128x128, .f32⟩
  | .hbm, ⟨38, _⟩ => ⟨S128x128, .f32⟩
  | .hbm, ⟨39, _⟩ => ⟨S1x128x128, .bf16⟩
  | .hbm, ⟨40, _⟩ => ⟨S128x128, .bf16⟩
  | .hbm, ⟨41, _⟩ => ⟨S1x16x128, .f32⟩
  | .hbm, ⟨42, _⟩ => ⟨S16x128, .f32⟩
  | .hbm, ⟨43, _⟩ => ⟨S1x1x128, .f32⟩
  | .hbm, ⟨44, _⟩ => ⟨S1x128, .f32⟩
  | .hbm, ⟨45, _⟩ => ⟨S1x128x128, .bf16⟩
  | .hbm, ⟨46, _⟩ => ⟨S128x128, .bf16⟩
  | .hbm, ⟨47, _⟩ => ⟨S1x1x128, .f32⟩
  | .hbm, ⟨48, _⟩ => ⟨S1x128, .f32⟩
  | .hbm, ⟨49, _⟩ => ⟨S160000x16, .f32⟩
  | .hbm, ⟨50, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S6400x128, .f32⟩
  | .local _ .vmem, ⟨3, _⟩ => ⟨S6400x128, .f32⟩
  | .local _ .vmem, ⟨4, _⟩ => ⟨S6400x16, .f32⟩
  | .local _ .vmem, ⟨5, _⟩ => ⟨S6400x16, .f32⟩
  | .local _ .vmem, ⟨6, _⟩ => ⟨S128x16, .f32⟩
  | .local _ .vmem, ⟨7, _⟩ => ⟨S128x16, .bf16⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S128x128, .f32⟩
  | .local _ .vmem, ⟨13, _⟩ => ⟨S128x128, .bf16⟩
  | .local _ .vmem, ⟨14, _⟩ => ⟨S16x128, .f32⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S6400x16, .f32⟩
  | .local _ .vmem, ⟨19, _⟩ => ⟨S6400x16, .f32⟩
  | .local _ .vmem, ⟨20, _⟩ => ⟨S400x128, .f32⟩
  | .local _ .vmem, ⟨21, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S6400x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S400x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== LateRefIdeal.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x128 : Shape := ⟨3, ![3, 272, 128]⟩
abbrev S3x128 : Shape := ⟨2, ![3, 128]⟩
abbrev S3x128x128 : Shape := ⟨3, ![3, 128, 128]⟩
abbrev S3x272x16 : Shape := ⟨3, ![3, 272, 16]⟩
abbrev S3x16 : Shape := ⟨2, ![3, 16]⟩
abbrev S3x16x16 : Shape := ⟨3, ![3, 16, 16]⟩
abbrev S1x10000x128 : Shape := ⟨3, ![1, 10000, 128]⟩
abbrev S1x10000x16x128 : Shape := ⟨4, ![1, 10000, 16, 128]⟩
abbrev S1x10000x16x16 : Shape := ⟨4, ![1, 10000, 16, 16]⟩
abbrev S1x272x16 : Shape := ⟨3, ![1, 272, 16]⟩
abbrev S272x16 : Shape := ⟨2, ![272, 16]⟩
abbrev S1x16 : Shape := ⟨2, ![1, 16]⟩
abbrev S16 : Shape := ⟨1, ![16]⟩
abbrev S1x16x16 : Shape := ⟨3, ![1, 16, 16]⟩
abbrev S16x16 : Shape := ⟨2, ![16, 16]⟩
abbrev S1x10000x1x128 : Shape := ⟨4, ![1, 10000, 1, 128]⟩
abbrev S1x10000x16x272 : Shape := ⟨4, ![1, 10000, 16, 272]⟩
abbrev S1x1x1x16 : Shape := ⟨4, ![1, 1, 1, 16]⟩
abbrev S_ : Shape := ⟨0, ![]⟩
abbrev S1x10000x16x1 : Shape := ⟨4, ![1, 10000, 16, 1]⟩
abbrev S1x272x128 : Shape := ⟨3, ![1, 272, 128]⟩
abbrev S272x128 : Shape := ⟨2, ![272, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x1x1x128 : Shape := ⟨4, ![1, 1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x272x16, .f32⟩
  | .hbm, ⟨9, _⟩ => ⟨S3x16, .f32⟩
  | .hbm, ⟨10, _⟩ => ⟨S3x16x16, .f32⟩
  | .hbm, ⟨11, _⟩ => ⟨S3x16, .f32⟩
  | .hbm, ⟨12, _⟩ => ⟨S1x10000x128, .f32⟩
  | .hbm, ⟨13, _⟩ => ⟨S1x10000x16x128, .f32⟩
  | .hbm, ⟨14, _⟩ => ⟨S1x10000x16x16, .f32⟩
  | .hbm, ⟨15, _⟩ => ⟨S1x272x16, .f32⟩
  | .hbm, ⟨16, _⟩ => ⟨S272x16, .f32⟩
  | .hbm, ⟨17, _⟩ => ⟨S1x16, .f32⟩
  | .hbm, ⟨18, _⟩ => ⟨S16, .f32⟩
  | .hbm, ⟨19, _⟩ => ⟨S1x16x16, .f32⟩
  | .hbm, ⟨20, _⟩ => ⟨S16x16, .f32⟩
  | .hbm, ⟨21, _⟩ => ⟨S1x16, .f32⟩
  | .hbm, ⟨22, _⟩ => ⟨S16, .f32⟩
  | .hbm, ⟨23, _⟩ => ⟨S1x10000x1x128, .f32⟩
  | .hbm, ⟨24, _⟩ => ⟨S1x10000x16x128, .f32⟩
  | .hbm, ⟨25, _⟩ => ⟨S1x10000x16x272, .f32⟩
  | .hbm, ⟨26, _⟩ => ⟨S1x10000x16x16, .f32⟩
  | .hbm, ⟨27, _⟩ => ⟨S1x1x1x16, .f32⟩
  | .hbm, ⟨28, _⟩ => ⟨S1x10000x16x16, .f32⟩
  | .hbm, ⟨29, _⟩ => ⟨S1x10000x16x16, .f32⟩
  | .hbm, ⟨30, _⟩ => ⟨S_, .f32⟩
  | .hbm, ⟨31, _⟩ => ⟨S1x10000x16x16, .f32⟩
  | .hbm, ⟨32, _⟩ => ⟨S1x10000x16x16, .f32⟩
  | .hbm, ⟨33, _⟩ => ⟨S1x10000x16x16, .f32⟩
  | .hbm, ⟨34, _⟩ => ⟨S1x10000x16x16, .f32⟩
  | .hbm, ⟨35, _⟩ => ⟨S1x10000x16x16, .i1⟩
  | .hbm, ⟨36, _⟩ => ⟨S1x10000x16x16, .f32⟩
  | .hbm, ⟨37, _⟩ => ⟨S1x10000x16x16, .f32⟩
  | .hbm, ⟨38, _⟩ => ⟨S1x10000x16x16, .f32⟩
  | .hbm, ⟨39, _⟩ => ⟨S1x10000x16x16, .f32⟩
  | .hbm, ⟨40, _⟩ => ⟨S1x10000x16x16, .f32⟩
  | .hbm, ⟨41, _⟩ => ⟨S1x10000x16x16, .f32⟩
  | .hbm, ⟨42, _⟩ => ⟨S1x10000x16x16, .f32⟩
  | .hbm, ⟨43, _⟩ => ⟨S1x10000x16x16, .f32⟩
  | .hbm, ⟨44, _⟩ => ⟨S1x10000x16x16, .f32⟩
  | .hbm, ⟨45, _⟩ => ⟨S1x1x1x16, .f32⟩
  | .hbm, ⟨46, _⟩ => ⟨S1x10000x16x16, .f32⟩
  | .hbm, ⟨47, _⟩ => ⟨S1x10000x16x16, .f32⟩
  | .hbm, ⟨48, _⟩ => ⟨S1x10000x16x1, .f32⟩
  | .hbm, ⟨49, _⟩ => ⟨S1x10000x16x16, .f32⟩
  | .hbm, ⟨50, _⟩ => ⟨S1x10000x16x16, .f32⟩
  | .hbm, ⟨51, _⟩ => ⟨S1x10000x16x16, .f32⟩
  | .hbm, ⟨52, _⟩ => ⟨S1x272x128, .f32⟩
  | .hbm, ⟨53, _⟩ => ⟨S272x128, .f32⟩
  | .hbm, ⟨54, _⟩ => ⟨S1x128, .f32⟩
  | .hbm, ⟨55, _⟩ => ⟨S128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x10000x1x128, .f32⟩
  | .hbm, ⟨61, _⟩ => ⟨S1x10000x16x128, .f32⟩
  | .hbm, ⟨62, _⟩ => ⟨S1x10000x16x272, .f32⟩
  | .hbm, ⟨63, _⟩ => ⟨S1x10000x16x128, .f32⟩
  | .hbm, ⟨64, _⟩ => ⟨S1x1x1x128, .f32⟩
  | .hbm, ⟨65, _⟩ => ⟨S1x10000x16x128, .f32⟩
  | .hbm, ⟨66, _⟩ => ⟨S1x10000x16x128, .f32⟩
  | .hbm, ⟨67, _⟩ => ⟨S_, .f32⟩
  | .hbm, ⟨68, _⟩ => ⟨S1x10000x16x128, .f32⟩
  | .hbm, ⟨69, _⟩ => ⟨S1x10000x16x128, .f32⟩
  | .hbm, ⟨70, _⟩ => ⟨S1x10000x16x128, .f32⟩
  | .hbm, ⟨71, _⟩ => ⟨S1x10000x16x128, .f32⟩
  | .hbm, ⟨72, _⟩ => ⟨S1x10000x16x128, .i1⟩
  | .hbm, ⟨73, _⟩ => ⟨S1x10000x16x128, .f32⟩
  | .hbm, ⟨74, _⟩ => ⟨S1x10000x16x128, .f32⟩
  | .hbm, ⟨75, _⟩ => ⟨S1x10000x16x128, .f32⟩
  | .hbm, ⟨76, _⟩ => ⟨S1x10000x16x128, .f32⟩
  | .hbm, ⟨77, _⟩ => ⟨S1x10000x16x128, .f32⟩
  | .hbm, ⟨78, _⟩ => ⟨S1x10000x16x128, .f32⟩
  | .hbm, ⟨79, _⟩ => ⟨S1x10000x16x128, .f32⟩
  | .hbm, ⟨80, _⟩ => ⟨S1x10000x16x128, .f32⟩
  | .hbm, ⟨81, _⟩ => ⟨S1x10000x16x128, .f32⟩
  | .hbm, ⟨82, _⟩ => ⟨S1x1x1x128, .f32⟩
  | .hbm, ⟨83, _⟩ => ⟨S1x10000x16x128, .f32⟩
  | .hbm, ⟨84, _⟩ => ⟨S1x10000x16x128, .f32⟩
  | .hbm, ⟨85, _⟩ => ⟨S1x10000x16x1, .f32⟩
  | .hbm, ⟨86, _⟩ => ⟨S1x10000x16x128, .f32⟩
  | .hbm, ⟨87, _⟩ => ⟨S1x10000x16x128, .f32⟩
  | .hbm, ⟨88, _⟩ => ⟨S_, .f32⟩
  | .hbm, ⟨89, _⟩ => ⟨S1x10000x128, .f32⟩
  | .hbm, ⟨90, _⟩ => ⟨S1x10000x128, .f32⟩
  | .hbm, ⟨91, _⟩ => ⟨S160000x16, .f32⟩
  | .hbm, ⟨92, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩

abbrev nD : Nat := 1
abbrev τ : Topo := Topo.v7x

variable {F : FTy → Type} [FloatOps F]
-- ==== Last.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x16 : Shape := ⟨3, ![3, 272, 16]⟩
abbrev S3x16 : Shape := ⟨2, ![3, 16]⟩
abbrev S3x16x16 : Shape := ⟨3, ![3, 16, 16]⟩
abbrev S3x128x16 : Shape := ⟨3, ![3, 128, 16]⟩
abbrev S3x1x16 : Shape := ⟨3, ![3, 1, 16]⟩
abbrev S1x128x16 : Shape := ⟨3, ![1, 128, 16]⟩
abbrev S128x16 : Shape := ⟨2, ![128, 16]⟩
abbrev S1x16x16 : Shape := ⟨3, ![1, 16, 16]⟩
abbrev S16x16 : Shape := ⟨2, ![16, 16]⟩
abbrev S1x1x16 : Shape := ⟨3, ![1, 1, 16]⟩
abbrev S1x16 : Shape := ⟨2, ![1, 16]⟩
abbrev S1x10000x16x16 : Shape := ⟨4, ![1, 10000, 16, 16]⟩
abbrev S400x128 : Shape := ⟨2, ![400, 128]⟩
abbrev S6400x128 : Shape := ⟨2, ![6400, 128]⟩
abbrev S6400x16 : Shape := ⟨2, ![6400, 16]⟩
abbrev S1x400x16x16 : Shape := ⟨4, ![1, 400, 16, 16]⟩
abbrev S400x16 : Shape := ⟨2, ![400, 16]⟩
abbrev S400x1x16 : Shape := ⟨3, ![400, 1, 16]⟩
abbrev S400x16x16 : Shape := ⟨3, ![400, 16, 16]⟩
abbrev S16x6400 : Shape := ⟨2, ![16, 6400]⟩

abbrev nBuf : Space → Nat
  | .hbm => 27
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x16, .f32⟩
  | .hbm, ⟨5, _⟩ => ⟨S3x16, .f32⟩
  | .hbm, ⟨6, _⟩ => ⟨S3x16x16, .f32⟩
  | .hbm, ⟨7, _⟩ => ⟨S3x16, .f32⟩
  | .hbm, ⟨8, _⟩ => ⟨S3x128x16, .f32⟩
  | .hbm, ⟨9, _⟩ => ⟨S3x128x16, .f32⟩
  | .hbm, ⟨10, _⟩ => ⟨S3x16x16, .f32⟩
  | .hbm, ⟨11, _⟩ => ⟨S3x128x16, .bf16⟩
  | .hbm, ⟨12, _⟩ => ⟨S3x1x16, .f32⟩
  | .hbm, ⟨13, _⟩ => ⟨S3x1x16, .f32⟩
  | .hbm, ⟨14, _⟩ => ⟨S1x128x16, .f32⟩
  | .hbm, ⟨15, _⟩ => ⟨S128x16, .f32⟩
  | .hbm, ⟨16, _⟩ => ⟨S1x128x16, .bf16⟩
  | .hbm, ⟨17, _⟩ => ⟨S128x16, .bf16⟩
  | .hbm, ⟨18, _⟩ => ⟨S1x16x16, .f32⟩
  | .hbm, ⟨19, _⟩ => ⟨S16x16, .f32⟩
  | .hbm, ⟨20, _⟩ => ⟨S1x1x16, .f32⟩
  | .hbm, ⟨21, _⟩ => ⟨S1x16, .f32⟩
  | .hbm, ⟨22, _⟩ => ⟨S1x16x16, .f32⟩
  | .hbm, ⟨23, _⟩ => ⟨S16x16, .f32⟩
  | .hbm, ⟨24, _⟩ => ⟨S1x1x16, .f32⟩
  | .hbm, ⟨25, _⟩ => ⟨S1x16, .f32⟩
  | .hbm, ⟨26, _⟩ => ⟨S1x10000x16x16, .f32⟩
  | .local _ .vmem, ⟨0, _⟩ => ⟨S400x128, .f32⟩
  | .local _ .vmem, ⟨1, _⟩ => ⟨S400x128, .f32⟩
  | .local _ .vmem, ⟨2, _⟩ => ⟨S6400x128, .f32⟩
  | .local _ .vmem, ⟨3, _⟩ => ⟨S6400x128, .f32⟩
  | .local _ .vmem, ⟨4, _⟩ => ⟨S6400x16, .f32⟩
  | .local _ .vmem, ⟨5, _⟩ => ⟨S6400x16, .f32⟩
  | .local _ .vmem, ⟨6, _⟩ => ⟨S128x16, .f32⟩
  | .local _ .vmem, ⟨7, _⟩ => ⟨S128x16, .bf16⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S1x400x16x16, .f32⟩
  | .local _ .vmem, ⟨13, _⟩ => ⟨S1x400x16x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x400x16x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LastRefIdeal.lean ====
abbrev S10000x128 : Shape := ⟨2, ![10000, 128]⟩
abbrev S160000x128 : Shape := ⟨2, ![160000, 128]⟩
abbrev S160000x16 : Shape := ⟨2, ![160000, 16]⟩
abbrev S1x10000x16 : Shape := ⟨3, ![1, 10000, 16]⟩
abbrev S3x272x16 : Shape := ⟨3, ![3, 272, 16]⟩
abbrev S3x16 : Shape := ⟨2, ![3, 16]⟩
abbrev S3x16x16 : Shape := ⟨3, ![3, 16, 16]⟩
abbrev S1x10000x128 : Shape := ⟨3, ![1, 10000, 128]⟩
abbrev S1x10000x16x128 : Shape := ⟨4, ![1, 10000, 16, 128]⟩
abbrev S1x10000x16x16 : Shape := ⟨4, ![1, 10000, 16, 16]⟩
abbrev S1x272x16 : Shape := ⟨3, ![1, 272, 16]⟩
abbrev S272x16 : Shape := ⟨2, ![272, 16]⟩
abbrev S1x16 : Shape := ⟨2, ![1, 16]⟩
abbrev S16 : Shape := ⟨1, ![16]⟩
abbrev S1x16x16 : Shape := ⟨3, ![1, 16, 16]⟩
abbrev S16x16 : Shape := ⟨2, ![16, 16]⟩
abbrev S1x10000x1x128 : Shape := ⟨4, ![1, 10000, 1, 128]⟩
abbrev S1x10000x16x272 : Shape := ⟨4, ![1, 10000, 16, 272]⟩
abbrev S1x1x1x16 : Shape := ⟨4, ![1, 1, 1, 16]⟩
abbrev S_ : Shape := ⟨0, ![]⟩
abbrev S1x10000x16x1 : Shape := ⟨4, ![1, 10000, 16, 1]⟩

abbrev nBuf : Space → Nat
  | .hbm => 48
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S160000x128, .f32⟩
  | .hbm, ⟨2, _⟩ => ⟨S160000x16, .f32⟩
  | .hbm, ⟨3, _⟩ => ⟨S1x10000x16, .f32⟩
  | .hbm, ⟨4, _⟩ => ⟨S3x272x16, .f32⟩
  | .hbm, ⟨5, _⟩ => ⟨S3x16, .f32⟩
  | .hbm, ⟨6, _⟩ => ⟨S3x16x16, .f32⟩
  | .hbm, ⟨7, _⟩ => ⟨S3x16, .f32⟩
  | .hbm, ⟨8, _⟩ => ⟨S1x10000x128, .f32⟩
  | .hbm, ⟨9, _⟩ => ⟨S1x10000x16x128, .f32⟩
  | .hbm, ⟨10, _⟩ => ⟨S1x10000x16x16, .f32⟩
  | .hbm, ⟨11, _⟩ => ⟨S1x272x16, .f32⟩
  | .hbm, ⟨12, _⟩ => ⟨S272x16, .f32⟩
  | .hbm, ⟨13, _⟩ => ⟨S1x16, .f32⟩
  | .hbm, ⟨14, _⟩ => ⟨S16, .f32⟩
  | .hbm, ⟨15, _⟩ => ⟨S1x16x16, .f32⟩
  | .hbm, ⟨16, _⟩ => ⟨S16x16, .f32⟩
  | .hbm, ⟨17, _⟩ => ⟨S1x16, .f32⟩
  | .hbm, ⟨18, _⟩ => ⟨S16, .f32⟩
  | .hbm, ⟨19, _⟩ => ⟨S1x10000x1x128, .f32⟩
  | .hbm, ⟨20, _⟩ => ⟨S1x10000x16x128, .f32⟩
  | .hbm, ⟨21, _⟩ => ⟨S1x10000x16x272, .f32⟩
  | .hbm, ⟨22, _⟩ => ⟨S1x10000x16x16, .f32⟩
  | .hbm, ⟨23, _⟩ => ⟨S1x1x1x16, .f32⟩
  | .hbm, ⟨24, _⟩ => ⟨S1x10000x16x16, .f32⟩
  | .hbm, ⟨25, _⟩ => ⟨S1x10000x16x16, .f32⟩
  | .hbm, ⟨26, _⟩ => ⟨S_, .f32⟩
  | .hbm, ⟨27, _⟩ => ⟨S1x10000x16x16, .f32⟩
  | .hbm, ⟨28, _⟩ => ⟨S1x10000x16x16, .f32⟩
  | .hbm, ⟨29, _⟩ => ⟨S1x10000x16x16, .f32⟩
  | .hbm, ⟨30, _⟩ => ⟨S1x10000x16x16, .f32⟩
  | .hbm, ⟨31, _⟩ => ⟨S1x10000x16x16, .i1⟩
  | .hbm, ⟨32, _⟩ => ⟨S1x10000x16x16, .f32⟩
  | .hbm, ⟨33, _⟩ => ⟨S1x10000x16x16, .f32⟩
  | .hbm, ⟨34, _⟩ => ⟨S1x10000x16x16, .f32⟩
  | .hbm, ⟨35, _⟩ => ⟨S1x10000x16x16, .f32⟩
  | .hbm, ⟨36, _⟩ => ⟨S1x10000x16x16, .f32⟩
  | .hbm, ⟨37, _⟩ => ⟨S1x10000x16x16, .f32⟩
  | .hbm, ⟨38, _⟩ => ⟨S1x10000x16x16, .f32⟩
  | .hbm, ⟨39, _⟩ => ⟨S1x10000x16x16, .f32⟩
  | .hbm, ⟨40, _⟩ => ⟨S1x10000x16x16, .f32⟩
  | .hbm, ⟨41, _⟩ => ⟨S1x1x1x16, .f32⟩
  | .hbm, ⟨42, _⟩ => ⟨S1x10000x16x16, .f32⟩
  | .hbm, ⟨43, _⟩ => ⟨S1x10000x16x16, .f32⟩
  | .hbm, ⟨44, _⟩ => ⟨S1x10000x16x1, .f32⟩
  | .hbm, ⟨45, _⟩ => ⟨S1x10000x16x16, .f32⟩
  | .hbm, ⟨46, _⟩ => ⟨S1x10000x16x16, .f32⟩
  | .hbm, ⟨47, _⟩ => ⟨S1x10000x16x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Proof.Initial.lean ====
/-
  The first call's two results as functions of its arguments: every edge's distance spread over sixteen Gaussians whose
  centres lie 11/30 apart, and every atom's row of the embedding table.
-/
module

public import Idealize.ShloMosaic.Lib.Pointwise

@[expose] public section

noncomputable section

namespace Cert.Proof.Initial

open Idealize.ShloMosaic

/-- Gaussian `k` at distance `d`: its centre is `k · 11/30`, the factor `-1/2` over the square of `11/30`. -/
def gauss (d : EReal) (k : Fin 16) : EReal :=
  Ideal.exp (((-450 / 121 : ℝ) : EReal) * ((d - ((k * (11 / 30) : ℝ) : EReal)) * (d - ((k * (11 / 30) : ℝ) : EReal))))

/-- Row `r` is edge `(r / 16, r % 16)`'s. -/
def spread (d : FVec Ideal ⟨3, ![1, 10000, 16]⟩ .f32) : FVec Ideal ⟨2, ![160000, 16]⟩ .f32 := fun i =>
  gauss (d (ix3 0 (⟨(i 0).val / 16, by have := (i 0).isLt; simp at this; omega⟩ : Fin 10000) (⟨(i 0).val % 16, by omega⟩ : Fin 16))) (i 1)

/-- Row `r` is the row of the table that atom `r`'s number names. -/
def embedded (z : IVec ⟨2, ![1, 10000]⟩ 32) (x : FVec Ideal ⟨2, ![100, 128]⟩ .f32) : FVec Ideal ⟨2, ![10000, 128]⟩ .f32 := fun i =>
  x (ix2 (⟨(z (ix2 0 (i 0))).toNat % 100, Nat.mod_lt _ (by decide)⟩ : Fin 100) (i 1))

/-- An index below 16, as a 32-bit word, read as a number. -/
theorem index_apply (k : Fin 16) : FloatOps.sitofp (F := Ideal) .f32 (BitVec.ofNat 32 k) = ((k : ℝ) : EReal) := by
  show (((BitVec.ofNat 32 k).toInt : ℝ) : EReal) = _
  have h : (BitVec.ofNat 32 k).toInt = (k : ℤ) := by
    rw [BitVec.toInt_eq_toNat_cond, BitVec.toNat_ofNat]; have := k.isLt; omega
  rw [h]; norm_cast

/-- The kernel's spelling: the centre is the index times the spacing, the factor multiplies one difference first. -/
theorem gauss_kernel (d : EReal) (k : Fin 16) :
    Ideal.exp (((-450 / 121 : ℝ) : EReal) * (d - FloatOps.sitofp (F := Ideal) .f32 (BitVec.ofNat 32 k) * ((11 / 30 : ℝ) : EReal))
      * (d - FloatOps.sitofp (F := Ideal) .f32 (BitVec.ofNat 32 k) * ((11 / 30 : ℝ) : EReal))) = gauss d k := by
  unfold gauss
  rw [index_apply, ← EReal.coe_mul, mul_assoc]

/-- The row of a table that a number's indicator picks. -/
theorem indicator_row (w : BitVec 32) (hw : w.toNat < 100) (g : Fin 100 → EReal) :
    ∑ k : Fin 100, FloatOps.sitofp (F := Ideal) .f32 (BitVec.setWidth 32 (IntOp.cmpi .eq w (BitVec.ofNat 32 k))) * g k
      = g ⟨w.toNat % 100, Nat.mod_lt _ (by decide)⟩ := by
  refine (Finset.sum_eq_single ⟨w.toNat % 100, Nat.mod_lt _ (by decide)⟩ (fun k _ hk => ?_) (fun h => absurd (Finset.mem_univ _) h)).trans ?_
  · have e : IntOp.cmpi .eq w (BitVec.ofNat 32 k) = 0#1 := by
      have : (w == BitVec.ofNat 32 k) = false := by
        rw [beq_eq_false_iff_ne]
        intro h
        refine hk (Fin.ext ?_)
        have := congrArg BitVec.toNat h
        rw [BitVec.toNat_ofNat] at this
        have := k.isLt
        show k.val = w.toNat % 100
        omega
      show BitVec.ofBool (w == BitVec.ofNat 32 k) = 0#1
      rw [this]; rfl
    rw [e]
    show ((((BitVec.setWidth 32 0#1).toInt : ℤ) : ℝ) : EReal) * g k = 0
    rw [show (BitVec.setWidth 32 0#1).toInt = 0 by decide, Int.cast_zero, EReal.coe_zero, zero_mul]
  · have e : IntOp.cmpi .eq w (BitVec.ofNat 32 (w.toNat % 100)) = 1#1 := by
      have : (w == BitVec.ofNat 32 (w.toNat % 100)) = true := by
        rw [Nat.mod_eq_of_lt hw, BitVec.ofNat_toNat, BitVec.setWidth_eq, beq_self_eq_true]
      show BitVec.ofBool (w == BitVec.ofNat 32 (w.toNat % 100)) = 1#1
      rw [this]; rfl
    show FloatOps.sitofp (F := Ideal) .f32 (BitVec.setWidth 32 (IntOp.cmpi .eq w (BitVec.ofNat 32 (w.toNat % 100)))) * _ = _
    rw [e]
    show ((((BitVec.setWidth 32 1#1).toInt : ℤ) : ℝ) : EReal) * _ = _
    rw [show (BitVec.setWidth 32 1#1).toInt = 1 by decide, Int.cast_one, EReal.coe_one, one_mul]

end Cert.Proof.Initial
-- ==== Proof.InitValue.lean ====
/-
  The first call: what its body computes of the blocks of one grid point, and from that the two whole result arrays of
  the argument arrays. Its one-hot product picks the table's row where the atomic number names one.
-/
module

public import proofs.«01_k».proof.Proof.Initial
public import proofs.«01_k».proof.Proof.Gen.InitIdeal.Value
public import Idealize.ShloMosaic.Lib.Pipeline.ValueKit

@[expose] public section

set_option maxRecDepth 16384

noncomputable section

namespace Cert.Proof.InitValue

open Idealize.ShloMosaic Idealize.ShloMosaic.TcCoe Idealize.SL.Sem
open Idealize.ShloMosaic.Pipeline (Dat)
open Cert.InitIdeal Cert.InitIdeal.Gen Cert.Proof.Initial

variable (m : (ℓ : Loc nD τ sig) → Buf (Elt Ideal) ℓ)

/-- The windows' block indices: the distances, the atomic numbers and both results move with the grid, the table stays. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ t.val < 25 :=
  (by decide +kernel : ∀ t : Fin grid0.N, _)

/-- The two named constants: the spacing of the centres, -/
theorem width : Named.named (F := Ideal) κ "width" (φ := .f32) 0x3EBBBBBC#32 = ((11 / 30 : ℝ) : EReal) :=
  IdealRules.named_const.ideal_named_scalar _ _ _ _ rfl

/-- and the factor of the exponent. -/
theorem coeff : Named.named (F := Ideal) κ "coeff" (φ := .f32) 0xC06E043B#32 = ((-450 / 121 : ℝ) : EReal) :=
  IdealRules.named_const.ideal_named_scalar _ _ _ _ rfl

/-- What the body stores at index `y` of point `t`'s block of edges. -/
theorem point_spread (c : Dev nD) (t : Fin cfg0.N) (y : S6400x16.Idx) :
    k0_pay1 (iblk m c 0 t) y
    = spread (m ((c : Thread nD τ).loc main_arg1)) (((cfg0.win 3).blk t).view.emb y) := by
  pointwise [k0_pay1, spread, width, coeff]
  refine (gauss_kernel (iblk m c 0 t (ix2 _ _)) (y 1)).trans ?_
  blk_point [iblk, V, idx t]

/-- What the body stores at index `y` of point `t`'s block of atoms. -/
theorem point_embedded (c : Dev nD) (hz : ∀ i : S1x10000.Idx, (m ((c : Thread nD τ).loc main_arg0) i : BitVec 32).toNat < 100)
    (t : Fin cfg0.N) (y : S400x128.Idx) :
    k0_pay2 (iblk m c 1 t) (iblk m c 2 t) y
    = embedded (m ((c : Thread nD τ).loc main_arg0)) (m ((c : Thread nD τ).loc main_arg2)) (((cfg0.win 4).blk t).view.emb y) := by
  have hw : (iblk m c 1 t (ix2 (y 0) 0) : BitVec 32)
      = m ((c : Thread nD τ).loc main_arg0) (ix2 0 ((((cfg0.win 4).blk t).view.emb y) 0)) := by
    blk_point [iblk, V, idx t]
  pointwise [k0_pay2, embedded]
  rw [indicator_row _ (by rw [hw]; exact hz _) fun k => iblk m c 2 t (ix2 k (y 1))]
  simp only [hw]
  blk_point [iblk, V, idx t]

theorem final_spread (c : Dev nD) : (dats m 0 c).arrAt 3 (cfgs 0).N = spread (m ((c : Thread nD τ).loc main_arg1)) := by
  refine (dats m 0 c).arrAt_eq_of_covers 3 _ (by decide +kernel) fun t _ y => ?_
  blk_simp
  rw [after0_3]
  frame_out
  exact point_spread m c t y

theorem final_embedded (c : Dev nD) (hz : ∀ i : S1x10000.Idx, (m ((c : Thread nD τ).loc main_arg0) i : BitVec 32).toNat < 100) :
    (dats m 0 c).arrAt 4 (cfgs 0).N
    = embedded (m ((c : Thread nD τ).loc main_arg0)) (m ((c : Thread nD τ).loc main_arg2)) := by
  refine (dats m 0 c).arrAt_eq_of_covers 4 _ (by decide +kernel) fun t _ y => ?_
  blk_simp
  rw [after0_4]
  frame_out
  exact point_embedded m c hz t y

end Cert.Proof.InitValue
-- ==== Proof.InitReference.lean ====
/-
  The reference of the first call, read at an index: its sixteen centres are the multiples of 11/30, so its edges are
  the distances spread over the Gaussians (`Initial.spread`); and where every atomic number names a row of the table the
  rows it picks are the embedded ones (`Initial.embedded`): bringing a negative number into range changes nothing, nor
  does the gather's clamp.
-/
module

public import proofs.«01_k».proof.Proof.Initial
public import proofs.«01_k».proof.Proof.Gen.InitRefIdeal.Run

@[expose] public section

set_option maxRecDepth 16384

noncomputable section

namespace Cert.Proof.InitReference

open Idealize.ShloMosaic Idealize.ShloMosaic.TcCoe Idealize.SL.Sem
open Cert.InitRefIdeal Cert.InitRefIdeal.Gen Cert.Proof.Initial

/-! ## The literals -/

theorem lit_end : Ideal.ofBits .f32 0x40B00000#32 = ((11 / 2 : ℝ) : EReal) := by
  simp [Ideal.ofBits, Ideal.ieee, -EReal.coe_mul]; norm_num

theorem lit_steps : Ideal.ofBits .f32 0x41700000#32 = ((15 : ℝ) : EReal) := by
  simp [Ideal.ofBits, Ideal.ieee, -EReal.coe_mul]; norm_num

theorem lit_half : Ideal.ofBits .f32 0xBF000000#32 = ((-1 / 2 : ℝ) : EReal) := by
  simp [Ideal.ofBits, Ideal.ieee, -EReal.coe_mul]; norm_num

/-! ## The centres -/

/-- The sixteen centres. -/
def centres : FVec Ideal S16 .f32 :=
  concatenate S16 0 [⟨S15, (addf (mulf (broadcastInDim S15 ![0] bcast_S1_S15_0 (shapeCast S1 (id (constant S_ .f32 0x00000000#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast S1 (id (constant S_ .f32 0x40B00000#32)) shapeCasts_S_S1)) (Host.divf (sitofp .f32 (iotaInDim S15 32 0)) (broadcastInDim S15 ![] bcast_S_S15 (constant S_ .f32 0x41700000#32)))) : FVec Ideal S15 .f32)⟩, ⟨S1, (broadcastInDim S1 ![] bcast_S_S1 (id (constant S_ .f32 0x40B00000#32)) : FVec Ideal S1 .f32)⟩] concatenates_S15_S1_S16_d0

theorem centres_apply (k : Fin 16) : centres (ix1 k) = ((k * (11 / 30) : ℝ) : EReal) := by
  unfold centres
  simp only [id]
  pointwise []
  have hk : FloatOps.sitofp (F := Ideal) .f32 (BitVec.ofNat 32 k) = ((k : ℝ) : EReal) := index_apply k
  rw [hk, lit_steps, lit_end, Ideal.div_coe (by norm_num)]
  split
  · rw [zero_mul, zero_add, ← EReal.coe_mul, ← EReal.coe_mul]
    exact congrArg _ (by ring)
  · have h15 : k.val = 15 := by have := k.isLt; omega
    rw [h15]
    exact congrArg _ (by norm_num)

/-- The distance of the first two. -/
def spacing : FVec Ideal S_ .f32 :=
  subf (shapeCast S_ (extractStridedSlice S1 ![1] centres slices_S16_S1_1) shapeCasts_S1_S_)
    (shapeCast S_ (extractStridedSlice S1 ![0] centres slices_S16_S1_0) shapeCasts_S1_S_)

theorem spacing_apply (i : S_.Idx) : spacing i = ((11 / 30 : ℝ) : EReal) := by
  unfold spacing
  pointwise []
  rw [centres_apply, centres_apply, ← EReal.coe_sub]
  exact congrArg _ (by norm_num)

/-! ## The edges -/

def spreadOf (d : FVec Ideal S1x10000x16 .f32) : FVec Ideal S160000x16 .f32 :=
  shapeCast S160000x16 (Host.exp (mulf (broadcastInDim S1x10000x16x16 ![] bcast_S_S1x10000x16x16
      (Host.divf (constant S_ .f32 0xBF000000#32) (mulf spacing spacing)))
    (mulf (subf (broadcastInDim S1x10000x16x16 ![0, 1, 2, 3] bcast_S1x10000x16x1_S1x10000x16x16_0_1_2_3 (broadcastInDim S1x10000x16x1 ![0, 1, 2] bcast_S1x10000x16_S1x10000x16x1_0_1_2 d))
        (broadcastInDim S1x10000x16x16 ![0, 1, 2, 3] bcast_S1x1x1x16_S1x10000x16x16_0_1_2_3 (broadcastInDim S1x1x1x16 ![3] bcast_S16_S1x1x1x16_3 centres)))
      (subf (broadcastInDim S1x10000x16x16 ![0, 1, 2, 3] bcast_S1x10000x16x1_S1x10000x16x16_0_1_2_3 (broadcastInDim S1x10000x16x1 ![0, 1, 2] bcast_S1x10000x16_S1x10000x16x1_0_1_2 d))
        (broadcastInDim S1x10000x16x16 ![0, 1, 2, 3] bcast_S1x1x1x16_S1x10000x16x16_0_1_2_3 (broadcastInDim S1x1x1x16 ![3] bcast_S16_S1x1x1x16_3 centres))))))
    shapeCasts_S1x10000x16x16_S160000x16

theorem spreadOf_eq (d : FVec Ideal S1x10000x16 .f32) : spreadOf d = spread d := by
  funext y
  obtain ⟨r, k, rfl⟩ : ∃ (r : Fin 160000) (k : Fin 16), y = ix2 r k := ⟨y 0, y 1, by idx_ext⟩
  unfold spreadOf
  pointwise [spread, gauss]
  rw [spacing_apply, centres_apply, lit_half, ← EReal.coe_mul, Ideal.div_coe (by norm_num), ← EReal.coe_mul]
  norm_num

variable (m : (ℓ : Loc nD τ sig) → Buf (Elt Ideal) ℓ)

theorem res_eq (c : Dev nD) : Value.res_out0 m c = spread (m ((c.tc : Thread nD τ).loc main_arg1)) := by
  rw [← spreadOf_eq]
  unfold Value.res_out0 Value.res_main_v24 spreadOf spacing centres
  rfl

/-! ## The atoms -/

/-- A number brought into range, as the reference does. -/
def number (z : IVec S1x10000 32) : IVec S1x10000x1 32 :=
  broadcastInDim S1x10000x1 ![0, 1] bcast_S1x10000_S1x10000x1_0_1
    (select (cmpi .slt z (broadcastInDim S1x10000 ![] bcast_S_S1x10000 (constantI S_ 32 0#32)))
      (addi z (broadcastInDim S1x10000 ![] bcast_S_S1x10000 (constantI S_ 32 100#32))) z)

theorem number_apply (z : IVec S1x10000 32) (i : Fin 1) (a : Fin 10000) (k : Fin 1) (h : (z (ix2 0 a)).toNat < 100) :
    number z (ix3 i a k) = z (ix2 0 a) := by
  unfold number
  pointwise []
  have e : IntOp.cmpi .slt (z (ix2 0 a)) 0#32 = 0#1 := by
    have e' : (z (ix2 0 a)).slt 0#32 = false := by
      rw [BitVec.slt_eq_decide, decide_eq_false_iff_not, BitVec.toInt_eq_toNat_cond]
      have h0 : (0#32).toInt = 0 := by decide
      rw [h0]; omega
    show BitVec.ofBool ((z (ix2 0 a)).slt 0#32) = 0#1
    rw [e']; rfl
  rw [e]
  rfl

abbrev gdims : GatherDims S100x128 S1x10000x1 S1x10000x128 := gather_S100x128_S1x10000x1_S1x10000x128_2_0_n_n_0_2_1128

theorem gather_at (x : FVec Ideal S100x128 .f32) (z : IVec S1x10000x1 32) (a : Fin 10000) (f : Fin 128) (r : Fin 100)
    (hr : min (z (ix3 0 a 0)).toInt.toNat 99 = r.val) :
    Host.gather gdims x z (ix3 0 a f) = x (ix2 r f) := by
  unfold Host.gather
  congr 1
  funext b
  refine Fin.ext ?_
  show gdims.start (ix3 0 a f) z b + gdims.batchCoord (ix3 0 a f) b + gdims.offCoord (ix3 0 a f) b = _
  rw [GatherDims.batchCoord_eq_zero _ _ _ List.not_mem_nil]
  have h01 : b = 0 ∨ b = 1 := by fin_cases b <;> simp
  rcases h01 with rfl | rfl
  · rw [GatherDims.offCoord_eq_zero _ _ _ (fun h => ((GatherDims.mem_sKept _ _).mp h).1 (by decide))]
    unfold GatherDims.start
    rw [dif_pos (show (0 : Fin 2) ∈ gdims.startIndexMap by decide)]
    have hsi : gdims.siIdx (ix3 0 a f) ⟨List.idxOf (0 : Fin 2) gdims.startIndexMap, List.idxOf_lt_length_iff.2 (by decide)⟩
        = ix3 0 a 0 := by
      funext b; refine Fin.ext ?_
      match b with
      | ⟨0, _⟩ => rfl
      | ⟨1, _⟩ => rfl
      | ⟨2, _⟩ => rfl
    rw [hsi]
    exact hr
  · unfold GatherDims.start
    rw [dif_neg (show (1 : Fin 2) ∉ gdims.startIndexMap by decide)]
    show 0 + 0 + gdims.offCoord (ix3 0 a f) 1 = f.val
    unfold GatherDims.offCoord
    rw [dif_pos (show (1 : Fin 2) ∈ gdims.sKept by decide)]
    show 0 + 0 + f.val = f.val
    omega

/-- Where every number names a row of the table, the rows picked are the embedded ones. -/
theorem picked_eq (z : IVec S1x10000 32) (x : FVec Ideal S100x128 .f32) (h : ∀ i : S1x10000.Idx, (z i).toNat < 100) :
    shapeCast S10000x128 (Host.gather gdims x (number z)) shapeCasts_S1x10000x128_S10000x128 = embedded z x := by
  funext y
  obtain ⟨a, f, rfl⟩ : ∃ (a : Fin 10000) (f : Fin 128), y = ix2 a f := ⟨y 0, y 1, by idx_ext⟩
  have hz := h (ix2 0 a)
  pointwise [embedded]
  refine gather_at x (number z) a f ⟨(z (ix2 0 a)).toNat % 100, Nat.mod_lt _ (by decide)⟩ ?_
  rw [number_apply z 0 a 0 hz, BitVec.toInt_eq_toNat_cond]
  show _ = (z (ix2 0 a)).toNat % 100
  omega

end Cert.Proof.InitReference
-- ==== Proof.Network.lean ====
/-
  The two-layer perceptron both message passings apply to a neighbour: its first layer reads the atom's features, the
  neighbour's and the edge's side by side, through the three bands of rows of one weight matrix; a softplus stands
  between the layers. Here over the extended reals, with the two spellings of softplus and of the first layer that the
  programs use.
-/
module

public import Idealize.ShloMosaic.Lib.Pointwise

@[expose] public section

noncomputable section

namespace Cert.Proof.Network

open Idealize.ShloMosaic

/-- `log (1 + exp x)` in the form that does not overflow: `max x 0 + log (1 + exp (-|x|))`. -/
def softplus (x : EReal) : EReal := max x 0 + Ideal.log (1 + Ideal.exp (-(max x (-x))))

/-- The kernels' spelling: the exponent is `0 - |x|`. -/
theorem softplus_kernel (x : Ideal .f32) :
    max x 0 + Ideal.log (1 + Ideal.exp (0 - FloatOps.absf x)) = softplus x := by
  rw [Ideal.absf_def, zero_sub]; rfl

/-- The host's spelling: `log1p`, and a branch for a value unlike itself, of which there is none. -/
theorem softplus_host (x : Ideal .f32) :
    (if x ≠ x then x else max x 0 + Ideal.log1p (Ideal.exp (-FloatOps.absf x))) = softplus x := by
  rw [if_neg (not_not.mpr rfl), Ideal.absf_def]; rfl

/-- The first layer before its softplus, at one unit: the atom's features `x`, the neighbour's `y` and the edge's `e`
    against their bands `wx`, `wy`, `we` of the unit's weights, and the bias `b`. -/
def act (x y : Fin 128 → EReal) (e : Fin 16 → EReal) (wx wy : Fin 128 → EReal) (we : Fin 16 → EReal) (b : EReal) : EReal :=
  ∑ k, y k * wy k + ∑ k, e k * we k + ∑ k, x k * wx k + b

/-- A sum over `n = p + q + r` rows is the sums over its three bands. -/
theorem sum_bands {n p q r : ℕ} (h : n = p + q + r) (g : Fin n → EReal) :
    ∑ k, g k = ∑ k : Fin p, g ⟨k, by omega⟩ + (∑ k : Fin q, g ⟨p + k, by omega⟩ + ∑ k : Fin r, g ⟨p + q + k, by omega⟩) := by
  subst h
  rw [Fin.sum_univ_add, Fin.sum_univ_add, add_assoc]
  rfl

/-- The same as one product of the 272 features side by side with the unit's 272 weights. -/
theorem act_cat (x y : Fin 128 → EReal) (e : Fin 16 → EReal) (w : Fin 272 → EReal) (b : EReal) :
    ∑ k : Fin 272, (if h : (k : ℕ) < 128 then x ⟨k, h⟩ else
        if h : (k : ℕ) - 128 < 128 then y ⟨(k : ℕ) - 128, h⟩ else e ⟨(k : ℕ) - 128 - 128, by omega⟩) * w k + b
      = act x y e (fun k => w ⟨k, by omega⟩) (fun k => w ⟨128 + k, by omega⟩) (fun k => w ⟨256 + k, by omega⟩) b := by
  unfold act
  refine congrArg (· + b) ?_
  rw [sum_bands (p := 128) (q := 128) (r := 16) rfl, add_comm]
  refine congrArg₂ (· + ·) (congrArg₂ (· + ·) ?_ ?_) ?_ <;> refine Finset.sum_congr rfl fun k _ => ?_ <;> have hk := k.isLt
  · rw [dif_neg (by simp), dif_pos (by simp)]
    exact congrArg (y · * _) (Fin.ext (by simp))
  · rw [dif_neg (by simp; omega), dif_neg (by simp; omega)]
    exact congrArg (e · * _) (Fin.ext (by simp; omega))
  · rw [dif_pos k.isLt]

end Cert.Proof.Network
-- ==== Proof.Messages.lean ====
/-
  What a message passing makes of its arrays, read at an index: the next features of an atom, the atom's own and the sum
  over its sixteen neighbours of the node network's outputs; and the next features of an edge, the edge's own and the
  edge network's output. Row `16 a + j` of the gathered rows and of the edges belongs to neighbour `j` of atom `a`.
-/
module

public import proofs.«01_k».proof.Proof.Network
public import Idealize.ShloMosaic.Lib.Pointwise

@[expose] public section

noncomputable section

namespace Cert.Proof.Messages

open Idealize.ShloMosaic Cert.Proof.Network

/-- The hidden unit `k` of a network with `n` hidden units, layer `l` of the weights, at the atom in row `a` of `node`
    and the neighbour in row `r` of `rows` and `edge`. -/
def hiddenAt {n : ℕ} (l : Fin 3) (node : FVec Ideal ⟨2, ![10000, 128]⟩ .f32) (rows : FVec Ideal ⟨2, ![160000, 128]⟩ .f32)
    (edge : FVec Ideal ⟨2, ![160000, 16]⟩ .f32) (w1 : FVec Ideal ⟨3, ![3, 272, n]⟩ .f32) (b1 : FVec Ideal ⟨2, ![3, n]⟩ .f32)
    (a : Fin 10000) (r : Fin 160000) (k : Fin n) : EReal :=
  softplus (act (fun q => node (ix2 a q)) (fun q => rows (ix2 r q)) (fun q => edge (ix2 r q))
    (fun q => w1 (ix3 l ⟨q, by omega⟩ k)) (fun q => w1 (ix3 l ⟨128 + q, by omega⟩ k))
    (fun q => w1 (ix3 l ⟨256 + q, by omega⟩ k)) (b1 (ix2 l k)))

/-- Feature `f` of atom `a` after the node update of layer `l`. -/
def nodeAt (l : Fin 3) (node : FVec Ideal ⟨2, ![10000, 128]⟩ .f32) (rows : FVec Ideal ⟨2, ![160000, 128]⟩ .f32)
    (edge : FVec Ideal ⟨2, ![160000, 16]⟩ .f32) (w1 : FVec Ideal ⟨3, ![3, 272, 128]⟩ .f32) (b1 : FVec Ideal ⟨2, ![3, 128]⟩ .f32)
    (w2 : FVec Ideal ⟨3, ![3, 128, 128]⟩ .f32) (b2 : FVec Ideal ⟨2, ![3, 128]⟩ .f32) (a : Fin 10000) (f : Fin 128) : EReal :=
  node (ix2 a f) + ∑ j : Fin 16, (∑ k, hiddenAt l node rows edge w1 b1 a ⟨a * 16 + j, by omega⟩ k * w2 (ix3 l k f) + b2 (ix2 l f))

/-- Feature `f` of edge `r`, an edge of atom `a`, after the edge update of layer `l`. -/
def edgeAt (l : Fin 3) (node : FVec Ideal ⟨2, ![10000, 128]⟩ .f32) (rows : FVec Ideal ⟨2, ![160000, 128]⟩ .f32)
    (edge : FVec Ideal ⟨2, ![160000, 16]⟩ .f32) (w1 : FVec Ideal ⟨3, ![3, 272, 16]⟩ .f32) (b1 : FVec Ideal ⟨2, ![3, 16]⟩ .f32)
    (w2 : FVec Ideal ⟨3, ![3, 16, 16]⟩ .f32) (b2 : FVec Ideal ⟨2, ![3, 16]⟩ .f32) (a : Fin 10000) (r : Fin 160000) (f : Fin 16) : EReal :=
  edge (ix2 r f) + (∑ k, hiddenAt l node rows edge w1 b1 a r k * w2 (ix3 l k f) + b2 (ix2 l f))

/-- All the atoms' next features, -/
def nodes (l : Fin 3) (node : FVec Ideal ⟨2, ![10000, 128]⟩ .f32) (rows : FVec Ideal ⟨2, ![160000, 128]⟩ .f32)
    (edge : FVec Ideal ⟨2, ![160000, 16]⟩ .f32) (w1 : FVec Ideal ⟨3, ![3, 272, 128]⟩ .f32) (b1 : FVec Ideal ⟨2, ![3, 128]⟩ .f32)
    (w2 : FVec Ideal ⟨3, ![3, 128, 128]⟩ .f32) (b2 : FVec Ideal ⟨2, ![3, 128]⟩ .f32) : FVec Ideal ⟨2, ![10000, 128]⟩ .f32 :=
  fun i => nodeAt l node rows edge w1 b1 w2 b2 (i 0) (i 1)

/-- all the edges', -/
def edges (l : Fin 3) (node : FVec Ideal ⟨2, ![10000, 128]⟩ .f32) (rows : FVec Ideal ⟨2, ![160000, 128]⟩ .f32)
    (edge : FVec Ideal ⟨2, ![160000, 16]⟩ .f32) (w1 : FVec Ideal ⟨3, ![3, 272, 16]⟩ .f32) (b1 : FVec Ideal ⟨2, ![3, 16]⟩ .f32)
    (w2 : FVec Ideal ⟨3, ![3, 16, 16]⟩ .f32) (b2 : FVec Ideal ⟨2, ![3, 16]⟩ .f32) : FVec Ideal ⟨2, ![160000, 16]⟩ .f32 :=
  fun i => edgeAt l node rows edge w1 b1 w2 b2 ⟨(i 0).val / 16, by have := (i 0).isLt; dsimp at this; omega⟩ (i 0) (i 1)

/-- and all the edges' by atom and neighbour. -/
def edgesOf (l : Fin 3) (node : FVec Ideal ⟨2, ![10000, 128]⟩ .f32) (rows : FVec Ideal ⟨2, ![160000, 128]⟩ .f32)
    (edge : FVec Ideal ⟨2, ![160000, 16]⟩ .f32) (w1 : FVec Ideal ⟨3, ![3, 272, 16]⟩ .f32) (b1 : FVec Ideal ⟨2, ![3, 16]⟩ .f32)
    (w2 : FVec Ideal ⟨3, ![3, 16, 16]⟩ .f32) (b2 : FVec Ideal ⟨2, ![3, 16]⟩ .f32) : FVec Ideal ⟨4, ![1, 10000, 16, 16]⟩ .f32 :=
  fun i => edgeAt l node rows edge w1 b1 w2 b2 (i 1)
    ⟨(i 1).val * 16 + (i 2).val, by have := (i 1).isLt; have := (i 2).isLt; dsimp at *; omega⟩ (i 3)

end Cert.Proof.Messages
-- ==== Proof.FirstValue.lean ====
/-
  The first node update's TensorCore call: what its body computes of the blocks of one grid point, and from that the
  whole result array, the next features of every atom (`Messages.nodes`) of the argument arrays.
-/
module

public import proofs.«01_k».proof.Proof.Messages
public import proofs.«01_k».proof.Proof.Gen.FirstIdeal.Value
public import Idealize.ShloMosaic.Lib.Pipeline.ValueKit

@[expose] public section

set_option maxRecDepth 16384

noncomputable section

namespace Cert.Proof.FirstValue

open Idealize.ShloMosaic Idealize.ShloMosaic.TcCoe Idealize.SL.Sem
open Idealize.ShloMosaic.Pipeline (Dat)
open Cert.FirstIdeal Cert.FirstIdeal.Gen Cert.Proof.Network Cert.Proof.Messages

variable (m : (ℓ : Loc nD τ sig) → Buf (Elt Ideal) ℓ)

/-- The windows' block indices: the first three and the result move with the grid, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 25 :=
  (by decide +kernel : ∀ t : Fin grid0.N, _)

/-- What the body stores at index `y` of point `t`'s block is the next features where `y` sits in the array. -/
theorem point (c : Dev nD) (t : Fin cfg0.N) (y : S400x128.Idx) :
    k0_pay1 (iblk m c 0 t) (k0_pay2 (iblk m c 7 t)) (k0_pay3 (iblk m c 8 t)) (k0_pay5 (iblk m c 0 t) (iblk m c 1 t) (iblk m c 2 t)
       (iblk m c 3 t) (iblk m c 4 t) (iblk m c 5 t) (iblk m c 6 t)) (k0_pay6 (iblk m c 0 t) (iblk m c 1 t) (iblk m c 2 t)
       (iblk m c 3 t) (iblk m c 4 t) (iblk m c 5 t) (iblk m c 6 t)) y
    = nodes 0 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (((cfg0.win 9).blk t).view.emb y) := by
  pointwise [k0_pay1, k0_pay2, k0_pay3, k0_pay5, k0_pay6, k0_pay4, nodes, nodeAt, hiddenAt, act]
  simp only [softplus_kernel]
  blk_point [iblk, V, idx t]

theorem final (c : Dev nD) : (dats m 0 c).arrAt 9 (cfgs 0).N
    = nodes 0 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) := by
  refine (dats m 0 c).arrAt_eq_of_covers 9 _ (by decide +kernel) fun t _ y => ?_
  blk_simp
  rw [after0_9]
  frame_out
  exact point m c t y

end Cert.Proof.FirstValue
-- ==== Proof.FirstReference.lean ====
/-
  The reference's first node update, read at an index: with every neighbour counted it is the next features of every atom
  (`Messages.nodes`).
-/
module

public import proofs.«01_k».proof.Proof.Messages
public import proofs.«01_k».proof.Proof.Gen.FirstRefIdeal.Run

@[expose] public section

set_option maxRecDepth 16384

noncomputable section

namespace Cert.Proof.FirstReference

open Idealize.ShloMosaic Idealize.ShloMosaic.TcCoe Idealize.SL.Sem
open Cert.FirstRefIdeal Cert.FirstRefIdeal.Gen Cert.Proof.Network Cert.Proof.Messages

/-- The pre-activations. -/
def acts (x0 : FVec Ideal S10000x128 .f32) (x1 : FVec Ideal S160000x128 .f32) (x2 : FVec Ideal S160000x16 .f32)
    (w : FVec Ideal S3x272x128 .f32) (b : FVec Ideal S3x128 .f32) : FVec Ideal S1x10000x16x128 .f32 :=
  addf (Host.dotGeneral dot_S1x10000x16x272_S272x128_S1x10000x16x128_3_0_012_1_n_n none
      (concatenate S1x10000x16x272 3
        [⟨S1x10000x16x128, (broadcastInDim S1x10000x16x128 ![0, 1, 2, 3] bcast_S1x10000x1x128_S1x10000x16x128_0_1_2_3
            (broadcastInDim S1x10000x1x128 ![0, 1, 3] bcast_S1x10000x128_S1x10000x1x128_0_1_3
              (shapeCast S1x10000x128 x0 shapeCasts_S10000x128_S1x10000x128)) : FVec Ideal S1x10000x16x128 .f32)⟩,
         ⟨S1x10000x16x128, (shapeCast S1x10000x16x128 x1 shapeCasts_S160000x128_S1x10000x16x128 : FVec Ideal S1x10000x16x128 .f32)⟩,
         ⟨S1x10000x16x16, (shapeCast S1x10000x16x16 x2 shapeCasts_S160000x16_S1x10000x16x16 : FVec Ideal S1x10000x16x16 .f32)⟩]
        concatenates_S1x10000x16x128_S1x10000x16x128_S1x10000x16x16_S1x10000x16x272_d3)
      (shapeCast S272x128 (extractStridedSlice S1x272x128 ![0, 0, 0] w slices_S3x272x128_S1x272x128_0_0_0) shapeCasts_S1x272x128_S272x128))
    (broadcastInDim S1x10000x16x128 ![0, 1, 2, 3] bcast_S1x1x1x128_S1x10000x16x128_0_1_2_3
      (broadcastInDim S1x1x1x128 ![3] bcast_S128_S1x1x1x128_3
        (shapeCast S128 (extractStridedSlice S1x128 ![0, 0] b slices_S3x128_S1x128_0_0) shapeCasts_S1x128_S128)))

theorem acts_apply (x0 : FVec Ideal S10000x128 .f32) (x1 : FVec Ideal S160000x128 .f32) (x2 : FVec Ideal S160000x16 .f32)
    (w : FVec Ideal S3x272x128 .f32) (b : FVec Ideal S3x128 .f32) (i : Fin 1) (a : Fin 10000) (j : Fin 16) (f : Fin 128) :
    acts x0 x1 x2 w b (ix4 i a j f)
      = act (fun q => x0 (ix2 a q)) (fun q => x1 (ix2 (⟨a * 16 + j, by omega⟩ : Fin 160000) q))
          (fun q => x2 (ix2 (⟨a * 16 + j, by omega⟩ : Fin 160000) q)) (fun q => w (ix3 0 ⟨q, by omega⟩ f))
          (fun q => w (ix3 0 ⟨128 + q, by omega⟩ f)) (fun q => w (ix3 0 ⟨256 + q, by omega⟩ f)) (b (ix2 0 f)) := by
  unfold acts
  pointwise []
  exact act_cat (fun q => x0 (ix2 a q)) (fun q => x1 (ix2 (⟨a * 16 + j, by omega⟩ : Fin 160000) q))
    (fun q => x2 (ix2 (⟨a * 16 + j, by omega⟩ : Fin 160000) q)) (fun q => w (ix3 0 q f)) (b (ix2 0 f))

/-- The zeros the softplus compares with, -/
def zeros : FVec Ideal S1x10000x16x128 .f32 :=
  broadcastInDim S1x10000x16x128 ![] bcast_S_S1x10000x16x128 (constant S_ .f32 0x00000000#32)

/-- and the softplus of an array. -/
def softplusOf (x : FVec Ideal S1x10000x16x128 .f32) : FVec Ideal S1x10000x16x128 .f32 :=
  select (cmpf .une (subf x zeros) (subf x zeros)) (addf x zeros)
    (addf (maximumf x zeros) (Host.log1p (Host.exp (Host.negf (Host.absf (subf x zeros))))))

theorem softplusOf_apply (x : FVec Ideal S1x10000x16x128 .f32) (i : Fin 1) (a : Fin 10000) (j : Fin 16) (f : Fin 128) :
    softplusOf x (ix4 i a j f) = softplus (x (ix4 i a j f)) := by
  unfold softplusOf zeros
  pointwise []
  exact softplus_host _

/-- The update of the hidden units `s`. -/
def update (x0 : FVec Ideal S10000x128 .f32) (s : FVec Ideal S1x10000x16x128 .f32) (mask : FVec Ideal S1x10000x16 .f32)
    (w : FVec Ideal S3x128x128 .f32) (b : FVec Ideal S3x128 .f32) : FVec Ideal S10000x128 .f32 :=
  shapeCast S10000x128 (addf (shapeCast S1x10000x128 x0 shapeCasts_S10000x128_S1x10000x128)
    (Host.reduceAdd (mulf (addf (Host.dotGeneral dot_S1x10000x16x128_S128x128_S1x10000x16x128_3_0_012_1_n_n none s
          (shapeCast S128x128 (extractStridedSlice S1x128x128 ![0, 0, 0] w slices_S3x128x128_S1x128x128_0_0_0) shapeCasts_S1x128x128_S128x128))
        (broadcastInDim S1x10000x16x128 ![0, 1, 2, 3] bcast_S1x1x1x128_S1x10000x16x128_0_1_2_3
          (broadcastInDim S1x1x1x128 ![3] bcast_S128_S1x1x1x128_3
            (shapeCast S128 (extractStridedSlice S1x128 ![0, 0] b slices_S3x128_S1x128_0_0) shapeCasts_S1x128_S128))))
      (broadcastInDim S1x10000x16x128 ![0, 1, 2, 3] bcast_S1x10000x16x1_S1x10000x16x128_0_1_2_3
        (broadcastInDim S1x10000x16x1 ![0, 1, 2] bcast_S1x10000x16_S1x10000x16x1_0_1_2 mask)))
      (constant S_ .f32 0x00000000#32) reducesTo_S1x10000x16x128_S1x10000x128_d2 h_S_)) shapeCasts_S1x10000x128_S10000x128

theorem update_apply (x0 : FVec Ideal S10000x128 .f32) (s : FVec Ideal S1x10000x16x128 .f32) (mask : FVec Ideal S1x10000x16 .f32)
    (hmask : ∀ i, mask i = 1) (w : FVec Ideal S3x128x128 .f32) (b : FVec Ideal S3x128 .f32) (a : Fin 10000) (f : Fin 128) :
    update x0 s mask w b (ix2 a f)
      = x0 (ix2 a f) + ∑ j : Fin 16, (∑ k : Fin 128, s (ix4 0 a j k) * w (ix3 0 k f) + b (ix2 0 f)) := by
  unfold update
  pointwise []
  simp only [hmask, mul_one]

variable (m : (ℓ : Loc nD τ sig) → Buf (Elt Ideal) ℓ)

theorem res_eq (c : Dev nD) : Value.res_out0 m c
    = update (m ((c.tc : Thread nD τ).loc main_arg0)) (softplusOf (acts (m ((c.tc : Thread nD τ).loc main_arg0))
        (m ((c.tc : Thread nD τ).loc main_arg1)) (m ((c.tc : Thread nD τ).loc main_arg2)) (m ((c.tc : Thread nD τ).loc main_arg4))
        (m ((c.tc : Thread nD τ).loc main_arg5)))) (m ((c.tc : Thread nD τ).loc main_arg3)) (m ((c.tc : Thread nD τ).loc main_arg6))
        (m ((c.tc : Thread nD τ).loc main_arg7)) := by
  unfold Value.res_out0 Value.res_main_v28 update softplusOf zeros acts
  rfl

/-- With every neighbour counted, the reference's result is the next features of every atom. -/
theorem res_eq_nodes (c : Dev nD) (hmask : ∀ i : S1x10000x16.Idx, m ((c.tc : Thread nD τ).loc main_arg3) i = (1 : Ideal .f32)) :
    Value.res_out0 m c
      = nodes 0 (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) := by
  rw [res_eq]
  funext y
  obtain ⟨a, f, rfl⟩ : ∃ (a : Fin 10000) (f : Fin 128), y = ix2 a f := ⟨y 0, y 1, by idx_ext⟩
  rw [update_apply _ _ _ hmask]
  simp only [softplusOf_apply, acts_apply]
  rfl

end Cert.Proof.FirstReference
-- ==== Proof.MiddleValue.lean ====
/-
  The first edge update and the second node update, one TensorCore call: what its body computes of the blocks of one grid
  point, and from that the two whole result arrays, the edges' next features (`Messages.edges`) and the atoms' next
  features (`Messages.nodes`) from those edges.
-/
module

public import proofs.«01_k».proof.Proof.Messages
public import proofs.«01_k».proof.Proof.Gen.MiddleIdeal.Value
public import Idealize.ShloMosaic.Lib.Pipeline.ValueKit

@[expose] public section

set_option maxRecDepth 16384

noncomputable section

namespace Cert.Proof.MiddleValue

open Idealize.ShloMosaic Idealize.ShloMosaic.TcCoe Idealize.SL.Sem
open Idealize.ShloMosaic.Pipeline (Dat)
open Cert.MiddleIdeal Cert.MiddleIdeal.Gen Cert.Proof.Network Cert.Proof.Messages

variable (m : (ℓ : Loc nD τ sig) → Buf (Elt Ideal) ℓ)

/-- The windows' block indices: the first three and the results move with the grid, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] ∧ t.val < 25 :=
  (by decide +kernel : ∀ t : Fin grid0.N, _)

/-- The edge block the body stores at point `t`, at index `y`, is the edges' next features where `y` sits in the array. -/
theorem point_edges (c : Dev nD) (t : Fin cfg0.N) (y : S6400x16.Idx) :
    k0_pay8 (iblk m c 2 t) (k0_pay2 (iblk m c 7 t)) (k0_pay3 (iblk m c 8 t))
      (k0_pay5 (iblk m c 0 t) (iblk m c 1 t) (iblk m c 2 t) (iblk m c 3 t) (iblk m c 4 t) (iblk m c 5 t) (iblk m c 6 t))
      (k0_pay6 (iblk m c 0 t) (iblk m c 1 t) (iblk m c 2 t) (iblk m c 3 t) (iblk m c 4 t) (iblk m c 5 t) (iblk m c 6 t)) (k0_pay7 (F := Ideal)) y
    = edges 0 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)) (((cfg0.win 15).blk t).view.emb y) := by
  pointwise [k0_pay8, k0_pay2, k0_pay3, k0_pay5, k0_pay6, k0_pay7, k0_pay4, edges, edgeAt, hiddenAt, act]
  simp only [softplus_kernel]
  blk_point [iblk, V, idx t]

theorem final_edges (c : Dev nD) : (dats m 0 c).arrAt 15 (cfgs 0).N
    = edges 0 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]
  unfold_out out0_15
  frame_out
  exact point_edges m c t y

/-- The node block the body stores at point `t`, at index `y`, is the atoms' next features where `y` sits in the array. -/
theorem point_nodes (c : Dev nD) (t : Fin cfg0.N) (y : S400x128.Idx) :
    k0_pay1 (iblk m c 0 t) (k0_pay9 (iblk m c 13 t)) (k0_pay10 (iblk m c 14 t))
      (k0_pay12 (iblk m c 0 t) (iblk m c 1 t) (iblk m c 2 t) (k0_pay2 (iblk m c 7 t)) (k0_pay3 (iblk m c 8 t))
      (k0_pay5 (iblk m c 0 t) (iblk m c 1 t) (iblk m c 2 t) (iblk m c 3 t) (iblk m c 4 t) (iblk m c 5 t) (iblk m c 6 t))
      (k0_pay6 (iblk m c 0 t) (iblk m c 1 t) (iblk m c 2 t) (iblk m c 3 t) (iblk m c 4 t) (iblk m c 5 t) (iblk m c 6 t)) (k0_pay7 (F := Ideal))
        (iblk m c 9 t) (iblk m c 10 t) (iblk m c 11 t) (iblk m c 12 t))
      (k0_pay13 (iblk m c 0 t) (iblk m c 1 t) (iblk m c 2 t) (k0_pay2 (iblk m c 7 t)) (k0_pay3 (iblk m c 8 t))
      (k0_pay5 (iblk m c 0 t) (iblk m c 1 t) (iblk m c 2 t) (iblk m c 3 t) (iblk m c 4 t) (iblk m c 5 t) (iblk m c 6 t))
      (k0_pay6 (iblk m c 0 t) (iblk m c 1 t) (iblk m c 2 t) (iblk m c 3 t) (iblk m c 4 t) (iblk m c 5 t) (iblk m c 6 t)) (k0_pay7 (F := Ideal))
        (iblk m c 9 t) (iblk m c 10 t) (iblk m c 11 t) (iblk m c 12 t)) y
    = nodes 1 (m ((c : Thread nD τ).loc main_arg0)) (m ((c : Thread nD τ).loc main_arg1))
        (edges 0 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)))
        (m ((c : Thread nD τ).loc main_arg4)) (m ((c : Thread nD τ).loc main_arg5)) (m ((c : Thread nD τ).loc main_arg6)) (m ((c : Thread nD τ).loc main_arg7)) (((cfg0.win 16).blk t).view.emb y) := by
  pointwise [k0_pay1, k0_pay9, k0_pay10, k0_pay11, k0_pay12, k0_pay13, nodes, nodeAt, hiddenAt, act]
  simp only [softplus_kernel, point_edges]
  generalize edges 0 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)) = e
  blk_point [iblk, V, idx t]

theorem final_nodes (c : Dev nD) : (dats m 0 c).arrAt 16 (cfgs 0).N
    = nodes 1 (m ((c : Thread nD τ).loc main_arg0)) (m ((c : Thread nD τ).loc main_arg1))
        (edges 0 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)))
        (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t _ y => ?_
  blk_simp
  rw [after0_16]
  unfold_out out0_16
  frame_out
  exact point_nodes m c t y

end Cert.Proof.MiddleValue
-- ==== Proof.MiddleReference.lean ====
/-
  The reference's first edge update and second node update, read at an index: with every neighbour counted they are the
  next features of every edge (`Messages.edges`) and, from those, the next features of every atom (`Messages.nodes`).
-/
module

public import proofs.«01_k».proof.Proof.Messages
public import proofs.«01_k».proof.Proof.Gen.MiddleRefIdeal.Run

@[expose] public section

set_option maxRecDepth 16384

noncomputable section

namespace Cert.Proof.MiddleReference

open Idealize.ShloMosaic Idealize.ShloMosaic.TcCoe Idealize.SL.Sem
open Cert.MiddleRefIdeal Cert.MiddleRefIdeal.Gen Cert.Proof.Network Cert.Proof.Messages

/-! ## The edge update -/

/-- The edge network's pre-activations. -/
def edgeActs (x0 : FVec Ideal S10000x128 .f32) (x1 : FVec Ideal S160000x128 .f32) (x2 : FVec Ideal S160000x16 .f32)
    (w : FVec Ideal S3x272x16 .f32) (b : FVec Ideal S3x16 .f32) : FVec Ideal S1x10000x16x16 .f32 :=
  addf (Host.dotGeneral dot_S1x10000x16x272_S272x16_S1x10000x16x16_3_0_012_1_n_n none
      (concatenate S1x10000x16x272 3
        [⟨S1x10000x16x128, (broadcastInDim S1x10000x16x128 ![0, 1, 2, 3] bcast_S1x10000x1x128_S1x10000x16x128_0_1_2_3
            (broadcastInDim S1x10000x1x128 ![0, 1, 3] bcast_S1x10000x128_S1x10000x1x128_0_1_3
              (shapeCast S1x10000x128 x0 shapeCasts_S10000x128_S1x10000x128)) : FVec Ideal S1x10000x16x128 .f32)⟩,
         ⟨S1x10000x16x128, (shapeCast S1x10000x16x128 x1 shapeCasts_S160000x128_S1x10000x16x128 : FVec Ideal S1x10000x16x128 .f32)⟩,
         ⟨S1x10000x16x16, (shapeCast S1x10000x16x16 x2 shapeCasts_S160000x16_S1x10000x16x16 : FVec Ideal S1x10000x16x16 .f32)⟩]
        concatenates_S1x10000x16x128_S1x10000x16x128_S1x10000x16x16_S1x10000x16x272_d3)
      (shapeCast S272x16 (extractStridedSlice S1x272x16 ![0, 0, 0] w slices_S3x272x16_S1x272x16_0_0_0) shapeCasts_S1x272x16_S272x16))
    (broadcastInDim S1x10000x16x16 ![0, 1, 2, 3] bcast_S1x1x1x16_S1x10000x16x16_0_1_2_3
      (broadcastInDim S1x1x1x16 ![3] bcast_S16_S1x1x1x16_3
        (shapeCast S16 (extractStridedSlice S1x16 ![0, 0] b slices_S3x16_S1x16_0_0) shapeCasts_S1x16_S16)))

theorem edgeActs_apply (x0 : FVec Ideal S10000x128 .f32) (x1 : FVec Ideal S160000x128 .f32) (x2 : FVec Ideal S160000x16 .f32)
    (w : FVec Ideal S3x272x16 .f32) (b : FVec Ideal S3x16 .f32) (i : Fin 1) (a : Fin 10000) (j : Fin 16) (f : Fin 16) :
    edgeActs x0 x1 x2 w b (ix4 i a j f)
      = act (fun q => x0 (ix2 a q)) (fun q => x1 (ix2 (⟨a * 16 + j, by omega⟩ : Fin 160000) q))
          (fun q => x2 (ix2 (⟨a * 16 + j, by omega⟩ : Fin 160000) q)) (fun q => w (ix3 0 ⟨q, by omega⟩ f))
          (fun q => w (ix3 0 ⟨128 + q, by omega⟩ f)) (fun q => w (ix3 0 ⟨256 + q, by omega⟩ f)) (b (ix2 0 f)) := by
  unfold edgeActs
  pointwise []
  exact act_cat (fun q => x0 (ix2 a q)) (fun q => x1 (ix2 (⟨a * 16 + j, by omega⟩ : Fin 160000) q))
    (fun q => x2 (ix2 (⟨a * 16 + j, by omega⟩ : Fin 160000) q)) (fun q => w (ix3 0 q f)) (b (ix2 0 f))

/-- The zeros the edge network's softplus compares with, -/
def edgeZeros : FVec Ideal S1x10000x16x16 .f32 :=
  broadcastInDim S1x10000x16x16 ![] bcast_S_S1x10000x16x16 (constant S_ .f32 0x00000000#32)

/-- the softplus of an array, -/
def edgeSoftplus (x : FVec Ideal S1x10000x16x16 .f32) : FVec Ideal S1x10000x16x16 .f32 :=
  select (cmpf .une (subf x edgeZeros) (subf x edgeZeros)) (addf x edgeZeros)
    (addf (maximumf x edgeZeros) (Host.log1p (Host.exp (Host.negf (Host.absf (subf x edgeZeros))))))

theorem edgeSoftplus_apply (x : FVec Ideal S1x10000x16x16 .f32) (i : Fin 1) (a : Fin 10000) (j : Fin 16) (f : Fin 16) :
    edgeSoftplus x (ix4 i a j f) = softplus (x (ix4 i a j f)) := by
  unfold edgeSoftplus edgeZeros
  pointwise []
  exact softplus_host _

/-- and the edges' update by the hidden units `s`. -/
def edgeUpdate (x2 : FVec Ideal S160000x16 .f32) (s : FVec Ideal S1x10000x16x16 .f32) (mask : FVec Ideal S1x10000x16 .f32)
    (w : FVec Ideal S3x16x16 .f32) (b : FVec Ideal S3x16 .f32) : FVec Ideal S1x10000x16x16 .f32 :=
  addf (shapeCast S1x10000x16x16 x2 shapeCasts_S160000x16_S1x10000x16x16)
    (mulf (addf (Host.dotGeneral dot_S1x10000x16x16_S16x16_S1x10000x16x16_3_0_012_1_n_n none s
          (shapeCast S16x16 (extractStridedSlice S1x16x16 ![0, 0, 0] w slices_S3x16x16_S1x16x16_0_0_0) shapeCasts_S1x16x16_S16x16))
        (broadcastInDim S1x10000x16x16 ![0, 1, 2, 3] bcast_S1x1x1x16_S1x10000x16x16_0_1_2_3
          (broadcastInDim S1x1x1x16 ![3] bcast_S16_S1x1x1x16_3
            (shapeCast S16 (extractStridedSlice S1x16 ![0, 0] b slices_S3x16_S1x16_0_0) shapeCasts_S1x16_S16))))
      (broadcastInDim S1x10000x16x16 ![0, 1, 2, 3] bcast_S1x10000x16x1_S1x10000x16x16_0_1_2_3
        (broadcastInDim S1x10000x16x1 ![0, 1, 2] bcast_S1x10000x16_S1x10000x16x1_0_1_2 mask)))

theorem edgeUpdate_apply (x2 : FVec Ideal S160000x16 .f32) (s : FVec Ideal S1x10000x16x16 .f32) (mask : FVec Ideal S1x10000x16 .f32)
    (hmask : ∀ i, mask i = 1) (w : FVec Ideal S3x16x16 .f32) (b : FVec Ideal S3x16 .f32) (i : Fin 1) (a : Fin 10000) (j : Fin 16) (f : Fin 16) :
    edgeUpdate x2 s mask w b (ix4 i a j f)
      = x2 (ix2 ⟨a * 16 + j, by omega⟩ f) + (∑ k : Fin 16, s (ix4 i a j k) * w (ix3 0 k f) + b (ix2 0 f)) := by
  unfold edgeUpdate
  pointwise []
  simp only [hmask, mul_one]

/-! ## The node update -/

/-- The node network's pre-activations. -/
def nodeActs (x0 : FVec Ideal S10000x128 .f32) (x1 : FVec Ideal S160000x128 .f32) (x2 : FVec Ideal S1x10000x16x16 .f32)
    (w : FVec Ideal S3x272x128 .f32) (b : FVec Ideal S3x128 .f32) : FVec Ideal S1x10000x16x128 .f32 :=
  addf (Host.dotGeneral dot_S1x10000x16x272_S272x128_S1x10000x16x128_3_0_012_1_n_n none
      (concatenate S1x10000x16x272 3
        [⟨S1x10000x16x128, (broadcastInDim S1x10000x16x128 ![0, 1, 2, 3] bcast_S1x10000x1x128_S1x10000x16x128_0_1_2_3
            (broadcastInDim S1x10000x1x128 ![0, 1, 3] bcast_S1x10000x128_S1x10000x1x128_0_1_3
              (shapeCast S1x10000x128 x0 shapeCasts_S10000x128_S1x10000x128)) : FVec Ideal S1x10000x16x128 .f32)⟩,
         ⟨S1x10000x16x128, (shapeCast S1x10000x16x128 x1 shapeCasts_S160000x128_S1x10000x16x128 : FVec Ideal S1x10000x16x128 .f32)⟩,
         ⟨S1x10000x16x16, x2⟩]
        concatenates_S1x10000x16x128_S1x10000x16x128_S1x10000x16x16_S1x10000x16x272_d3)
      (shapeCast S272x128 (extractStridedSlice S1x272x128 ![1, 0, 0] w slices_S3x272x128_S1x272x128_1_0_0) shapeCasts_S1x272x128_S272x128))
    (broadcastInDim S1x10000x16x128 ![0, 1, 2, 3] bcast_S1x1x1x128_S1x10000x16x128_0_1_2_3
      (broadcastInDim S1x1x1x128 ![3] bcast_S128_S1x1x1x128_3
        (shapeCast S128 (extractStridedSlice S1x128 ![1, 0] b slices_S3x128_S1x128_1_0) shapeCasts_S1x128_S128)))

theorem nodeActs_apply (x0 : FVec Ideal S10000x128 .f32) (x1 : FVec Ideal S160000x128 .f32) (x2 : FVec Ideal S1x10000x16x16 .f32)
    (w : FVec Ideal S3x272x128 .f32) (b : FVec Ideal S3x128 .f32) (i : Fin 1) (a : Fin 10000) (j : Fin 16) (f : Fin 128) :
    nodeActs x0 x1 x2 w b (ix4 i a j f)
      = act (fun q => x0 (ix2 a q)) (fun q => x1 (ix2 (⟨a * 16 + j, by omega⟩ : Fin 160000) q))
          (fun q => x2 (ix4 0 a j q)) (fun q => w (ix3 1 ⟨q, by omega⟩ f))
          (fun q => w (ix3 1 ⟨128 + q, by omega⟩ f)) (fun q => w (ix3 1 ⟨256 + q, by omega⟩ f)) (b (ix2 1 f)) := by
  unfold nodeActs
  pointwise []
  exact act_cat (fun q => x0 (ix2 a q)) (fun q => x1 (ix2 (⟨a * 16 + j, by omega⟩ : Fin 160000) q))
    (fun q => x2 (ix4 0 a j q)) (fun q => w (ix3 1 q f)) (b (ix2 1 f))

/-- The zeros the node network's softplus compares with, -/
def nodeZeros : FVec Ideal S1x10000x16x128 .f32 :=
  broadcastInDim S1x10000x16x128 ![] bcast_S_S1x10000x16x128 (constant S_ .f32 0x00000000#32)

/-- the softplus of an array, -/
def nodeSoftplus (x : FVec Ideal S1x10000x16x128 .f32) : FVec Ideal S1x10000x16x128 .f32 :=
  select (cmpf .une (subf x nodeZeros) (subf x nodeZeros)) (addf x nodeZeros)
    (addf (maximumf x nodeZeros) (Host.log1p (Host.exp (Host.negf (Host.absf (subf x nodeZeros))))))

theorem nodeSoftplus_apply (x : FVec Ideal S1x10000x16x128 .f32) (i : Fin 1) (a : Fin 10000) (j : Fin 16) (f : Fin 128) :
    nodeSoftplus x (ix4 i a j f) = softplus (x (ix4 i a j f)) := by
  unfold nodeSoftplus nodeZeros
  pointwise []
  exact softplus_host _

/-- and the atoms' update by the hidden units `s`. -/
def nodeUpdate (x0 : FVec Ideal S10000x128 .f32) (s : FVec Ideal S1x10000x16x128 .f32) (mask : FVec Ideal S1x10000x16 .f32)
    (w : FVec Ideal S3x128x128 .f32) (b : FVec Ideal S3x128 .f32) : FVec Ideal S10000x128 .f32 :=
  shapeCast S10000x128 (addf (shapeCast S1x10000x128 x0 shapeCasts_S10000x128_S1x10000x128)
    (Host.reduceAdd (mulf (addf (Host.dotGeneral dot_S1x10000x16x128_S128x128_S1x10000x16x128_3_0_012_1_n_n none s
          (shapeCast S128x128 (extractStridedSlice S1x128x128 ![1, 0, 0] w slices_S3x128x128_S1x128x128_1_0_0) shapeCasts_S1x128x128_S128x128))
        (broadcastInDim S1x10000x16x128 ![0, 1, 2, 3] bcast_S1x1x1x128_S1x10000x16x128_0_1_2_3
          (broadcastInDim S1x1x1x128 ![3] bcast_S128_S1x1x1x128_3
            (shapeCast S128 (extractStridedSlice S1x128 ![1, 0] b slices_S3x128_S1x128_1_0) shapeCasts_S1x128_S128))))
      (broadcastInDim S1x10000x16x128 ![0, 1, 2, 3] bcast_S1x10000x16x1_S1x10000x16x128_0_1_2_3
        (broadcastInDim S1x10000x16x1 ![0, 1, 2] bcast_S1x10000x16_S1x10000x16x1_0_1_2 mask)))
      (constant S_ .f32 0x00000000#32) reducesTo_S1x10000x16x128_S1x10000x128_d2 h_S_)) shapeCasts_S1x10000x128_S10000x128

theorem nodeUpdate_apply (x0 : FVec Ideal S10000x128 .f32) (s : FVec Ideal S1x10000x16x128 .f32) (mask : FVec Ideal S1x10000x16 .f32)
    (hmask : ∀ i, mask i = 1) (w : FVec Ideal S3x128x128 .f32) (b : FVec Ideal S3x128 .f32) (a : Fin 10000) (f : Fin 128) :
    nodeUpdate x0 s mask w b (ix2 a f)
      = x0 (ix2 a f) + ∑ j : Fin 16, (∑ k : Fin 128, s (ix4 0 a j k) * w (ix3 1 k f) + b (ix2 1 f)) := by
  unfold nodeUpdate
  pointwise []
  simp only [hmask, mul_one]

/-! ## The two results -/

variable (m : (ℓ : Loc nD τ sig) → Buf (Elt Ideal) ℓ)

/-- The edges' next features, by atom and neighbour. -/
def newEdges (c : Dev nD) : FVec Ideal S1x10000x16x16 .f32 :=
  edgeUpdate (m ((c.tc : Thread nD τ).loc main_arg2)) (edgeSoftplus (edgeActs (m ((c.tc : Thread nD τ).loc main_arg0)) (m ((c.tc : Thread nD τ).loc main_arg1)) (m ((c.tc : Thread nD τ).loc main_arg2))
    (m ((c.tc : Thread nD τ).loc main_arg8)) (m ((c.tc : Thread nD τ).loc main_arg9)))) (m ((c.tc : Thread nD τ).loc main_arg3))
    (m ((c.tc : Thread nD τ).loc main_arg10)) (m ((c.tc : Thread nD τ).loc main_arg11))

theorem res0_eq (c : Dev nD) : Value.res_out0 m c = shapeCast S160000x16 (newEdges m c) shapeCasts_S1x10000x16x16_S160000x16 := by
  unfold Value.res_out0 Value.res_main_v52 newEdges edgeUpdate edgeSoftplus edgeZeros edgeActs
  rfl

theorem res1_eq (c : Dev nD) : Value.res_out1 m c
    = nodeUpdate (m ((c.tc : Thread nD τ).loc main_arg0)) (nodeSoftplus (nodeActs (m ((c.tc : Thread nD τ).loc main_arg0)) (m ((c.tc : Thread nD τ).loc main_arg1)) (newEdges m c)
        (m ((c.tc : Thread nD τ).loc main_arg4)) (m ((c.tc : Thread nD τ).loc main_arg5)))) (m ((c.tc : Thread nD τ).loc main_arg3))
        (m ((c.tc : Thread nD τ).loc main_arg6)) (m ((c.tc : Thread nD τ).loc main_arg7)) := by
  unfold Value.res_out1 Value.res_main_v53 nodeUpdate nodeSoftplus nodeZeros nodeActs newEdges edgeUpdate edgeSoftplus edgeZeros edgeActs
  rfl

variable {m} {c : Dev nD} (hmask : ∀ i : S1x10000x16.Idx, m ((c.tc : Thread nD τ).loc main_arg3) i = (1 : Ideal .f32))
include hmask

theorem newEdges_apply (i : Fin 1) (a : Fin 10000) (j : Fin 16) (f : Fin 16) :
    newEdges m c (ix4 i a j f)
      = edgeAt 0 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) a ⟨a * 16 + j, by omega⟩ f := by
  unfold newEdges
  rw [edgeUpdate_apply _ _ _ hmask]
  simp only [edgeSoftplus_apply, edgeActs_apply]
  rfl

/-- With every neighbour counted, the reference's first result is the next features of every edge, -/
theorem res_eq_edges : Value.res_out0 m c
    = edges 0 (m ((c.tc : Thread nD τ).loc main_arg0)) (m ((c.tc : Thread nD τ).loc main_arg1)) (m ((c.tc : Thread nD τ).loc main_arg2))
        (m ((c.tc : Thread nD τ).loc main_arg8)) (m ((c.tc : Thread nD τ).loc main_arg9)) (m ((c.tc : Thread nD τ).loc main_arg10))
        (m ((c.tc : Thread nD τ).loc main_arg11)) := by
  rw [res0_eq]
  funext y
  obtain ⟨r, f, rfl⟩ : ∃ (r : Fin 160000) (f : Fin 16), y = ix2 r f := ⟨y 0, y 1, by idx_ext⟩
  have h : shapeCast S160000x16 (newEdges m c) shapeCasts_S1x10000x16x16_S160000x16 (ix2 r f)
      = newEdges m c (ix4 0 (⟨r / 16, by omega⟩ : Fin 10000) (⟨r % 16, by omega⟩ : Fin 16) f) := by
    pointwise []
  rw [h, newEdges_apply hmask]
  have hr : (⟨(⟨r / 16, by omega⟩ : Fin 10000) * 16 + (⟨r % 16, by omega⟩ : Fin 16), by dsimp only; omega⟩ : Fin 160000) = r :=
    Fin.ext (Nat.div_add_mod' r 16)
  rw [hr]
  rfl

/-- and its second the next features of every atom from those edges. -/
theorem res_eq_nodes : Value.res_out1 m c
    = nodes 1 (m ((c.tc : Thread nD τ).loc main_arg0)) (m ((c.tc : Thread nD τ).loc main_arg1))
        (edges 0 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)))
        (m ((c.tc : Thread nD τ).loc main_arg4)) (m ((c.tc : Thread nD τ).loc main_arg5)) (m ((c.tc : Thread nD τ).loc main_arg6))
        (m ((c.tc : Thread nD τ).loc main_arg7)) := by
  rw [res1_eq]
  funext y
  obtain ⟨a, f, rfl⟩ : ∃ (a : Fin 10000) (f : Fin 128), y = ix2 a f := ⟨y 0, y 1, by idx_ext⟩
  have he : ∀ (j : Fin 16) (q : Fin 16), edges 0 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) (ix2 (⟨a * 16 + j, by omega⟩ : Fin 160000) q)
        = edgeAt 0 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) a ⟨a * 16 + j, by omega⟩ q := fun j q => by
    have ha : (⟨(a * 16 + j) / 16, by omega⟩ : Fin 10000) = a := Fin.ext (by dsimp only; omega)
    exact congrArg (fun a' => edgeAt 0 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) a' ⟨a * 16 + j, by omega⟩ q) ha
  rw [nodeUpdate_apply _ _ _ hmask]
  simp only [nodeSoftplus_apply, nodeActs_apply, newEdges_apply hmask, ← he]
  rfl

end Cert.Proof.MiddleReference
-- ==== Proof.LateValue.lean ====
/-
  The second edge update and the third node update, one TensorCore call: what its body computes of the blocks of one grid
  point, and from that the two whole result arrays, the edges' next features (`Messages.edges`) and the atoms' next
  features (`Messages.nodes`) from those edges.
-/
module

public import proofs.«01_k».proof.Proof.Messages
public import proofs.«01_k».proof.Proof.Gen.LateIdeal.Value
public import Idealize.ShloMosaic.Lib.Pipeline.ValueKit

@[expose] public section

set_option maxRecDepth 16384

noncomputable section

namespace Cert.Proof.LateValue

open Idealize.ShloMosaic Idealize.ShloMosaic.TcCoe Idealize.SL.Sem
open Idealize.ShloMosaic.Pipeline (Dat)
open Cert.LateIdeal Cert.LateIdeal.Gen Cert.Proof.Network Cert.Proof.Messages

variable (m : (ℓ : Loc nD τ sig) → Buf (Elt Ideal) ℓ)

/-- The windows' block indices: the first three and the results move with the grid, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] ∧ t.val < 25 :=
  (by decide +kernel : ∀ t : Fin grid0.N, _)

/-- The edge block the body stores at point `t`, at index `y`, is the edges' next features where `y` sits in the array. -/
theorem point_edges (c : Dev nD) (t : Fin cfg0.N) (y : S6400x16.Idx) :
    k0_pay8 (iblk m c 2 t) (k0_pay2 (iblk m c 7 t)) (k0_pay3 (iblk m c 8 t))
      (k0_pay5 (iblk m c 0 t) (iblk m c 1 t) (iblk m c 2 t) (iblk m c 3 t) (iblk m c 4 t) (iblk m c 5 t) (iblk m c 6 t))
      (k0_pay6 (iblk m c 0 t) (iblk m c 1 t) (iblk m c 2 t) (iblk m c 3 t) (iblk m c 4 t) (iblk m c 5 t) (iblk m c 6 t)) (k0_pay7 (F := Ideal)) y
    = edges 1 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)) (((cfg0.win 15).blk t).view.emb y) := by
  pointwise [k0_pay8, k0_pay2, k0_pay3, k0_pay5, k0_pay6, k0_pay7, k0_pay4, edges, edgeAt, hiddenAt, act]
  simp only [softplus_kernel]
  blk_point [iblk, V, idx t]

theorem final_edges (c : Dev nD) : (dats m 0 c).arrAt 15 (cfgs 0).N
    = edges 1 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]
  unfold_out out0_15
  frame_out
  exact point_edges m c t y

/-- The node block the body stores at point `t`, at index `y`, is the atoms' next features where `y` sits in the array. -/
theorem point_nodes (c : Dev nD) (t : Fin cfg0.N) (y : S400x128.Idx) :
    k0_pay1 (iblk m c 0 t) (k0_pay9 (iblk m c 13 t)) (k0_pay10 (iblk m c 14 t))
      (k0_pay12 (iblk m c 0 t) (iblk m c 1 t) (iblk m c 2 t) (k0_pay2 (iblk m c 7 t)) (k0_pay3 (iblk m c 8 t))
      (k0_pay5 (iblk m c 0 t) (iblk m c 1 t) (iblk m c 2 t) (iblk m c 3 t) (iblk m c 4 t) (iblk m c 5 t) (iblk m c 6 t))
      (k0_pay6 (iblk m c 0 t) (iblk m c 1 t) (iblk m c 2 t) (iblk m c 3 t) (iblk m c 4 t) (iblk m c 5 t) (iblk m c 6 t)) (k0_pay7 (F := Ideal))
        (iblk m c 9 t) (iblk m c 10 t) (iblk m c 11 t) (iblk m c 12 t))
      (k0_pay13 (iblk m c 0 t) (iblk m c 1 t) (iblk m c 2 t) (k0_pay2 (iblk m c 7 t)) (k0_pay3 (iblk m c 8 t))
      (k0_pay5 (iblk m c 0 t) (iblk m c 1 t) (iblk m c 2 t) (iblk m c 3 t) (iblk m c 4 t) (iblk m c 5 t) (iblk m c 6 t))
      (k0_pay6 (iblk m c 0 t) (iblk m c 1 t) (iblk m c 2 t) (iblk m c 3 t) (iblk m c 4 t) (iblk m c 5 t) (iblk m c 6 t)) (k0_pay7 (F := Ideal))
        (iblk m c 9 t) (iblk m c 10 t) (iblk m c 11 t) (iblk m c 12 t)) y
    = nodes 2 (m ((c : Thread nD τ).loc main_arg0)) (m ((c : Thread nD τ).loc main_arg1))
        (edges 1 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)))
        (m ((c : Thread nD τ).loc main_arg4)) (m ((c : Thread nD τ).loc main_arg5)) (m ((c : Thread nD τ).loc main_arg6)) (m ((c : Thread nD τ).loc main_arg7)) (((cfg0.win 16).blk t).view.emb y) := by
  pointwise [k0_pay1, k0_pay9, k0_pay10, k0_pay11, k0_pay12, k0_pay13, nodes, nodeAt, hiddenAt, act]
  simp only [softplus_kernel, point_edges]
  generalize edges 1 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)) = e
  blk_point [iblk, V, idx t]

theorem final_nodes (c : Dev nD) : (dats m 0 c).arrAt 16 (cfgs 0).N
    = nodes 2 (m ((c : Thread nD τ).loc main_arg0)) (m ((c : Thread nD τ).loc main_arg1))
        (edges 1 (m ((c : Thread nD τ).loc main_arg0)) (m ((c : Thread nD τ).loc main_arg1)) (m ((c : Thread nD τ).loc main_arg2))
        (m ((c : Thread nD τ).loc main_arg8)) (m ((c : Thread nD τ).loc main_arg9)) (m ((c : Thread nD τ).loc main_arg10)) (m ((c : Thread nD τ).loc main_arg11)))
        (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t _ y => ?_
  blk_simp
  rw [after0_16]
  unfold_out out0_16
  frame_out
  exact point_nodes m c t y

end Cert.Proof.LateValue
-- ==== Proof.LateReference.lean ====
/-
  The reference's second edge update and third node update, read at an index: with every neighbour counted they are the
  next features of every edge (`Messages.edges`) and, from those, the next features of every atom (`Messages.nodes`).
-/
module

public import proofs.«01_k».proof.Proof.Messages
public import proofs.«01_k».proof.Proof.Gen.LateRefIdeal.Run

@[expose] public section

set_option maxRecDepth 16384

noncomputable section

namespace Cert.Proof.LateReference

open Idealize.ShloMosaic Idealize.ShloMosaic.TcCoe Idealize.SL.Sem
open Cert.LateRefIdeal Cert.LateRefIdeal.Gen Cert.Proof.Network Cert.Proof.Messages

/-! ## The edge update -/

/-- The edge network's pre-activations. -/
def edgeActs (x0 : FVec Ideal S10000x128 .f32) (x1 : FVec Ideal S160000x128 .f32) (x2 : FVec Ideal S160000x16 .f32)
    (w : FVec Ideal S3x272x16 .f32) (b : FVec Ideal S3x16 .f32) : FVec Ideal S1x10000x16x16 .f32 :=
  addf (Host.dotGeneral dot_S1x10000x16x272_S272x16_S1x10000x16x16_3_0_012_1_n_n none
      (concatenate S1x10000x16x272 3
        [⟨S1x10000x16x128, (broadcastInDim S1x10000x16x128 ![0, 1, 2, 3] bcast_S1x10000x1x128_S1x10000x16x128_0_1_2_3
            (broadcastInDim S1x10000x1x128 ![0, 1, 3] bcast_S1x10000x128_S1x10000x1x128_0_1_3
              (shapeCast S1x10000x128 x0 shapeCasts_S10000x128_S1x10000x128)) : FVec Ideal S1x10000x16x128 .f32)⟩,
         ⟨S1x10000x16x128, (shapeCast S1x10000x16x128 x1 shapeCasts_S160000x128_S1x10000x16x128 : FVec Ideal S1x10000x16x128 .f32)⟩,
         ⟨S1x10000x16x16, (shapeCast S1x10000x16x16 x2 shapeCasts_S160000x16_S1x10000x16x16 : FVec Ideal S1x10000x16x16 .f32)⟩]
        concatenates_S1x10000x16x128_S1x10000x16x128_S1x10000x16x16_S1x10000x16x272_d3)
      (shapeCast S272x16 (extractStridedSlice S1x272x16 ![1, 0, 0] w slices_S3x272x16_S1x272x16_1_0_0) shapeCasts_S1x272x16_S272x16))
    (broadcastInDim S1x10000x16x16 ![0, 1, 2, 3] bcast_S1x1x1x16_S1x10000x16x16_0_1_2_3
      (broadcastInDim S1x1x1x16 ![3] bcast_S16_S1x1x1x16_3
        (shapeCast S16 (extractStridedSlice S1x16 ![1, 0] b slices_S3x16_S1x16_1_0) shapeCasts_S1x16_S16)))

theorem edgeActs_apply (x0 : FVec Ideal S10000x128 .f32) (x1 : FVec Ideal S160000x128 .f32) (x2 : FVec Ideal S160000x16 .f32)
    (w : FVec Ideal S3x272x16 .f32) (b : FVec Ideal S3x16 .f32) (i : Fin 1) (a : Fin 10000) (j : Fin 16) (f : Fin 16) :
    edgeActs x0 x1 x2 w b (ix4 i a j f)
      = act (fun q => x0 (ix2 a q)) (fun q => x1 (ix2 (⟨a * 16 + j, by omega⟩ : Fin 160000) q))
          (fun q => x2 (ix2 (⟨a * 16 + j, by omega⟩ : Fin 160000) q)) (fun q => w (ix3 1 ⟨q, by omega⟩ f))
          (fun q => w (ix3 1 ⟨128 + q, by omega⟩ f)) (fun q => w (ix3 1 ⟨256 + q, by omega⟩ f)) (b (ix2 1 f)) := by
  unfold edgeActs
  pointwise []
  exact act_cat (fun q => x0 (ix2 a q)) (fun q => x1 (ix2 (⟨a * 16 + j, by omega⟩ : Fin 160000) q))
    (fun q => x2 (ix2 (⟨a * 16 + j, by omega⟩ : Fin 160000) q)) (fun q => w (ix3 1 q f)) (b (ix2 1 f))

/-- The zeros the edge network's softplus compares with, -/
def edgeZeros : FVec Ideal S1x10000x16x16 .f32 :=
  broadcastInDim S1x10000x16x16 ![] bcast_S_S1x10000x16x16 (constant S_ .f32 0x00000000#32)

/-- the softplus of an array, -/
def edgeSoftplus (x : FVec Ideal S1x10000x16x16 .f32) : FVec Ideal S1x10000x16x16 .f32 :=
  select (cmpf .une (subf x edgeZeros) (subf x edgeZeros)) (addf x edgeZeros)
    (addf (maximumf x edgeZeros) (Host.log1p (Host.exp (Host.negf (Host.absf (subf x edgeZeros))))))

theorem edgeSoftplus_apply (x : FVec Ideal S1x10000x16x16 .f32) (i : Fin 1) (a : Fin 10000) (j : Fin 16) (f : Fin 16) :
    edgeSoftplus x (ix4 i a j f) = softplus (x (ix4 i a j f)) := by
  unfold edgeSoftplus edgeZeros
  pointwise []
  exact softplus_host _

/-- and the edges' update by the hidden units `s`. -/
def edgeUpdate (x2 : FVec Ideal S160000x16 .f32) (s : FVec Ideal S1x10000x16x16 .f32) (mask : FVec Ideal S1x10000x16 .f32)
    (w : FVec Ideal S3x16x16 .f32) (b : FVec Ideal S3x16 .f32) : FVec Ideal S1x10000x16x16 .f32 :=
  addf (shapeCast S1x10000x16x16 x2 shapeCasts_S160000x16_S1x10000x16x16)
    (mulf (addf (Host.dotGeneral dot_S1x10000x16x16_S16x16_S1x10000x16x16_3_0_012_1_n_n none s
          (shapeCast S16x16 (extractStridedSlice S1x16x16 ![1, 0, 0] w slices_S3x16x16_S1x16x16_1_0_0) shapeCasts_S1x16x16_S16x16))
        (broadcastInDim S1x10000x16x16 ![0, 1, 2, 3] bcast_S1x1x1x16_S1x10000x16x16_0_1_2_3
          (broadcastInDim S1x1x1x16 ![3] bcast_S16_S1x1x1x16_3
            (shapeCast S16 (extractStridedSlice S1x16 ![1, 0] b slices_S3x16_S1x16_1_0) shapeCasts_S1x16_S16))))
      (broadcastInDim S1x10000x16x16 ![0, 1, 2, 3] bcast_S1x10000x16x1_S1x10000x16x16_0_1_2_3
        (broadcastInDim S1x10000x16x1 ![0, 1, 2] bcast_S1x10000x16_S1x10000x16x1_0_1_2 mask)))

theorem edgeUpdate_apply (x2 : FVec Ideal S160000x16 .f32) (s : FVec Ideal S1x10000x16x16 .f32) (mask : FVec Ideal S1x10000x16 .f32)
    (hmask : ∀ i, mask i = 1) (w : FVec Ideal S3x16x16 .f32) (b : FVec Ideal S3x16 .f32) (i : Fin 1) (a : Fin 10000) (j : Fin 16) (f : Fin 16) :
    edgeUpdate x2 s mask w b (ix4 i a j f)
      = x2 (ix2 ⟨a * 16 + j, by omega⟩ f) + (∑ k : Fin 16, s (ix4 i a j k) * w (ix3 1 k f) + b (ix2 1 f)) := by
  unfold edgeUpdate
  pointwise []
  simp only [hmask, mul_one]

/-! ## The node update -/

/-- The node network's pre-activations. -/
def nodeActs (x0 : FVec Ideal S10000x128 .f32) (x1 : FVec Ideal S160000x128 .f32) (x2 : FVec Ideal S1x10000x16x16 .f32)
    (w : FVec Ideal S3x272x128 .f32) (b : FVec Ideal S3x128 .f32) : FVec Ideal S1x10000x16x128 .f32 :=
  addf (Host.dotGeneral dot_S1x10000x16x272_S272x128_S1x10000x16x128_3_0_012_1_n_n none
      (concatenate S1x10000x16x272 3
        [⟨S1x10000x16x128, (broadcastInDim S1x10000x16x128 ![0, 1, 2, 3] bcast_S1x10000x1x128_S1x10000x16x128_0_1_2_3
            (broadcastInDim S1x10000x1x128 ![0, 1, 3] bcast_S1x10000x128_S1x10000x1x128_0_1_3
              (shapeCast S1x10000x128 x0 shapeCasts_S10000x128_S1x10000x128)) : FVec Ideal S1x10000x16x128 .f32)⟩,
         ⟨S1x10000x16x128, (shapeCast S1x10000x16x128 x1 shapeCasts_S160000x128_S1x10000x16x128 : FVec Ideal S1x10000x16x128 .f32)⟩,
         ⟨S1x10000x16x16, x2⟩]
        concatenates_S1x10000x16x128_S1x10000x16x128_S1x10000x16x16_S1x10000x16x272_d3)
      (shapeCast S272x128 (extractStridedSlice S1x272x128 ![2, 0, 0] w slices_S3x272x128_S1x272x128_2_0_0) shapeCasts_S1x272x128_S272x128))
    (broadcastInDim S1x10000x16x128 ![0, 1, 2, 3] bcast_S1x1x1x128_S1x10000x16x128_0_1_2_3
      (broadcastInDim S1x1x1x128 ![3] bcast_S128_S1x1x1x128_3
        (shapeCast S128 (extractStridedSlice S1x128 ![2, 0] b slices_S3x128_S1x128_2_0) shapeCasts_S1x128_S128)))

theorem nodeActs_apply (x0 : FVec Ideal S10000x128 .f32) (x1 : FVec Ideal S160000x128 .f32) (x2 : FVec Ideal S1x10000x16x16 .f32)
    (w : FVec Ideal S3x272x128 .f32) (b : FVec Ideal S3x128 .f32) (i : Fin 1) (a : Fin 10000) (j : Fin 16) (f : Fin 128) :
    nodeActs x0 x1 x2 w b (ix4 i a j f)
      = act (fun q => x0 (ix2 a q)) (fun q => x1 (ix2 (⟨a * 16 + j, by omega⟩ : Fin 160000) q))
          (fun q => x2 (ix4 0 a j q)) (fun q => w (ix3 2 ⟨q, by omega⟩ f))
          (fun q => w (ix3 2 ⟨128 + q, by omega⟩ f)) (fun q => w (ix3 2 ⟨256 + q, by omega⟩ f)) (b (ix2 2 f)) := by
  unfold nodeActs
  pointwise []
  exact act_cat (fun q => x0 (ix2 a q)) (fun q => x1 (ix2 (⟨a * 16 + j, by omega⟩ : Fin 160000) q))
    (fun q => x2 (ix4 0 a j q)) (fun q => w (ix3 2 q f)) (b (ix2 2 f))

/-- The zeros the node network's softplus compares with, -/
def nodeZeros : FVec Ideal S1x10000x16x128 .f32 :=
  broadcastInDim S1x10000x16x128 ![] bcast_S_S1x10000x16x128 (constant S_ .f32 0x00000000#32)

/-- the softplus of an array, -/
def nodeSoftplus (x : FVec Ideal S1x10000x16x128 .f32) : FVec Ideal S1x10000x16x128 .f32 :=
  select (cmpf .une (subf x nodeZeros) (subf x nodeZeros)) (addf x nodeZeros)
    (addf (maximumf x nodeZeros) (Host.log1p (Host.exp (Host.negf (Host.absf (subf x nodeZeros))))))

theorem nodeSoftplus_apply (x : FVec Ideal S1x10000x16x128 .f32) (i : Fin 1) (a : Fin 10000) (j : Fin 16) (f : Fin 128) :
    nodeSoftplus x (ix4 i a j f) = softplus (x (ix4 i a j f)) := by
  unfold nodeSoftplus nodeZeros
  pointwise []
  exact softplus_host _

/-- and the atoms' update by the hidden units `s`. -/
def nodeUpdate (x0 : FVec Ideal S10000x128 .f32) (s : FVec Ideal S1x10000x16x128 .f32) (mask : FVec Ideal S1x10000x16 .f32)
    (w : FVec Ideal S3x128x128 .f32) (b : FVec Ideal S3x128 .f32) : FVec Ideal S10000x128 .f32 :=
  shapeCast S10000x128 (addf (shapeCast S1x10000x128 x0 shapeCasts_S10000x128_S1x10000x128)
    (Host.reduceAdd (mulf (addf (Host.dotGeneral dot_S1x10000x16x128_S128x128_S1x10000x16x128_3_0_012_1_n_n none s
          (shapeCast S128x128 (extractStridedSlice S1x128x128 ![2, 0, 0] w slices_S3x128x128_S1x128x128_2_0_0) shapeCasts_S1x128x128_S128x128))
        (broadcastInDim S1x10000x16x128 ![0, 1, 2, 3] bcast_S1x1x1x128_S1x10000x16x128_0_1_2_3
          (broadcastInDim S1x1x1x128 ![3] bcast_S128_S1x1x1x128_3
            (shapeCast S128 (extractStridedSlice S1x128 ![2, 0] b slices_S3x128_S1x128_2_0) shapeCasts_S1x128_S128))))
      (broadcastInDim S1x10000x16x128 ![0, 1, 2, 3] bcast_S1x10000x16x1_S1x10000x16x128_0_1_2_3
        (broadcastInDim S1x10000x16x1 ![0, 1, 2] bcast_S1x10000x16_S1x10000x16x1_0_1_2 mask)))
      (constant S_ .f32 0x00000000#32) reducesTo_S1x10000x16x128_S1x10000x128_d2 h_S_)) shapeCasts_S1x10000x128_S10000x128

theorem nodeUpdate_apply (x0 : FVec Ideal S10000x128 .f32) (s : FVec Ideal S1x10000x16x128 .f32) (mask : FVec Ideal S1x10000x16 .f32)
    (hmask : ∀ i, mask i = 1) (w : FVec Ideal S3x128x128 .f32) (b : FVec Ideal S3x128 .f32) (a : Fin 10000) (f : Fin 128) :
    nodeUpdate x0 s mask w b (ix2 a f)
      = x0 (ix2 a f) + ∑ j : Fin 16, (∑ k : Fin 128, s (ix4 0 a j k) * w (ix3 2 k f) + b (ix2 2 f)) := by
  unfold nodeUpdate
  pointwise []
  simp only [hmask, mul_one]

/-! ## The two results -/

variable (m : (ℓ : Loc nD τ sig) → Buf (Elt Ideal) ℓ)

/-- The edges' next features, by atom and neighbour. -/
def newEdges (c : Dev nD) : FVec Ideal S1x10000x16x16 .f32 :=
  edgeUpdate (m ((c.tc : Thread nD τ).loc main_arg2)) (edgeSoftplus (edgeActs (m ((c.tc : Thread nD τ).loc main_arg0)) (m ((c.tc : Thread nD τ).loc main_arg1)) (m ((c.tc : Thread nD τ).loc main_arg2))
    (m ((c.tc : Thread nD τ).loc main_arg8)) (m ((c.tc : Thread nD τ).loc main_arg9)))) (m ((c.tc : Thread nD τ).loc main_arg3))
    (m ((c.tc : Thread nD τ).loc main_arg10)) (m ((c.tc : Thread nD τ).loc main_arg11))

theorem res0_eq (c : Dev nD) : Value.res_out0 m c = shapeCast S160000x16 (newEdges m c) shapeCasts_S1x10000x16x16_S160000x16 := by
  unfold Value.res_out0 Value.res_main_v52 newEdges edgeUpdate edgeSoftplus edgeZeros edgeActs
  rfl

theorem res1_eq (c : Dev nD) : Value.res_out1 m c
    = nodeUpdate (m ((c.tc : Thread nD τ).loc main_arg0)) (nodeSoftplus (nodeActs (m ((c.tc : Thread nD τ).loc main_arg0)) (m ((c.tc : Thread nD τ).loc main_arg1)) (newEdges m c)
        (m ((c.tc : Thread nD τ).loc main_arg4)) (m ((c.tc : Thread nD τ).loc main_arg5)))) (m ((c.tc : Thread nD τ).loc main_arg3))
        (m ((c.tc : Thread nD τ).loc main_arg6)) (m ((c.tc : Thread nD τ).loc main_arg7)) := by
  unfold Value.res_out1 Value.res_main_v53 nodeUpdate nodeSoftplus nodeZeros nodeActs newEdges edgeUpdate edgeSoftplus edgeZeros edgeActs
  rfl

variable {m} {c : Dev nD} (hmask : ∀ i : S1x10000x16.Idx, m ((c.tc : Thread nD τ).loc main_arg3) i = (1 : Ideal .f32))
include hmask

theorem newEdges_apply (i : Fin 1) (a : Fin 10000) (j : Fin 16) (f : Fin 16) :
    newEdges m c (ix4 i a j f)
      = edgeAt 1 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) a ⟨a * 16 + j, by omega⟩ f := by
  unfold newEdges
  rw [edgeUpdate_apply _ _ _ hmask]
  simp only [edgeSoftplus_apply, edgeActs_apply]
  rfl

/-- With every neighbour counted, the reference's first result is the next features of every edge, -/
theorem res_eq_edges : Value.res_out0 m c
    = edges 1 (m ((c.tc : Thread nD τ).loc main_arg0)) (m ((c.tc : Thread nD τ).loc main_arg1)) (m ((c.tc : Thread nD τ).loc main_arg2))
        (m ((c.tc : Thread nD τ).loc main_arg8)) (m ((c.tc : Thread nD τ).loc main_arg9)) (m ((c.tc : Thread nD τ).loc main_arg10))
        (m ((c.tc : Thread nD τ).loc main_arg11)) := by
  rw [res0_eq]
  funext y
  obtain ⟨r, f, rfl⟩ : ∃ (r : Fin 160000) (f : Fin 16), y = ix2 r f := ⟨y 0, y 1, by idx_ext⟩
  have h : shapeCast S160000x16 (newEdges m c) shapeCasts_S1x10000x16x16_S160000x16 (ix2 r f)
      = newEdges m c (ix4 0 (⟨r / 16, by omega⟩ : Fin 10000) (⟨r % 16, by omega⟩ : Fin 16) f) := by
    pointwise []
  rw [h, newEdges_apply hmask]
  have hr : (⟨(⟨r / 16, by omega⟩ : Fin 10000) * 16 + (⟨r % 16, by omega⟩ : Fin 16), by dsimp only; omega⟩ : Fin 160000) = r :=
    Fin.ext (Nat.div_add_mod' r 16)
  rw [hr]
  rfl

/-- and its second the next features of every atom from those edges. -/
theorem res_eq_nodes : Value.res_out1 m c
    = nodes 2 (m ((c.tc : Thread nD τ).loc main_arg0)) (m ((c.tc : Thread nD τ).loc main_arg1))
        (edges 1 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)))
        (m ((c.tc : Thread nD τ).loc main_arg4)) (m ((c.tc : Thread nD τ).loc main_arg5)) (m ((c.tc : Thread nD τ).loc main_arg6))
        (m ((c.tc : Thread nD τ).loc main_arg7)) := by
  rw [res1_eq]
  funext y
  obtain ⟨a, f, rfl⟩ : ∃ (a : Fin 10000) (f : Fin 128), y = ix2 a f := ⟨y 0, y 1, by idx_ext⟩
  have he : ∀ (j : Fin 16) (q : Fin 16), edges 1 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) (ix2 (⟨a * 16 + j, by omega⟩ : Fin 160000) q)
        = edgeAt 1 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) a ⟨a * 16 + j, by omega⟩ q := fun j q => by
    have ha : (⟨(a * 16 + j) / 16, by omega⟩ : Fin 10000) = a := Fin.ext (by dsimp only; omega)
    exact congrArg (fun a' => edgeAt 1 (m ((c.tc : Thread nD τ).loc main_arg0)) (m ((c.tc : Thread nD τ).loc main_arg1)) (m ((c.tc : Thread nD τ).loc main_arg2))
          (m ((c.tc : Thread nD τ).loc main_arg8)) (m ((c.tc : Thread nD τ).loc main_arg9)) (m ((c.tc : Thread nD τ).loc main_arg10))
          (m ((c.tc : Thread nD τ).loc main_arg11)) a' ⟨a * 16 + j, by omega⟩ q) ha
  rw [nodeUpdate_apply _ _ _ hmask]
  simp only [nodeSoftplus_apply, nodeActs_apply, newEdges_apply hmask, ← he]
  rfl

end Cert.Proof.LateReference
-- ==== Proof.LastValue.lean ====
/-
  The last edge update's TensorCore call: what its body computes of the blocks of one grid point, and from that the
  whole result array, the next features of every edge (`Messages.edgeAt`) by atom and neighbour.
-/
module

public import proofs.«01_k».proof.Proof.Messages
public import proofs.«01_k».proof.Proof.Gen.LastIdeal.Value
public import Idealize.ShloMosaic.Lib.Pipeline.ValueKit

@[expose] public section

set_option maxRecDepth 16384

noncomputable section

namespace Cert.Proof.LastValue

open Idealize.ShloMosaic Idealize.ShloMosaic.TcCoe Idealize.SL.Sem
open Idealize.ShloMosaic.Pipeline (Dat)
open Cert.LastIdeal Cert.LastIdeal.Gen Cert.Proof.Network Cert.Proof.Messages

variable (m : (ℓ : Loc nD τ sig) → Buf (Elt Ideal) ℓ)

/-- The windows' block indices: the first three and the result move with the grid, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.val, 0, 0] ∧ t.val < 25 :=
  (by decide +kernel : ∀ t : Fin grid0.N, _)

/-- What the body stores at index `y` of point `t`'s block is the next features where `y` sits in the array. -/
theorem point (c : Dev nD) (t : Fin cfg0.N) (y : S1x400x16x16.Idx) :
    k0_pay1 (iblk m c 2 t) (k0_pay2 (iblk m c 7 t)) (k0_pay3 (iblk m c 8 t)) (k0_pay5 (iblk m c 0 t) (iblk m c 1 t) (iblk m c 2 t)
       (iblk m c 3 t) (iblk m c 4 t) (iblk m c 5 t) (iblk m c 6 t)) (k0_pay6 (iblk m c 0 t) (iblk m c 1 t) (iblk m c 2 t)
       (iblk m c 3 t) (iblk m c 4 t) (iblk m c 5 t) (iblk m c 6 t)) (k0_pay7 (F := Ideal)) y
    = edgesOf 2 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (((cfg0.win 9).blk t).view.emb y) := by
  pointwise [k0_pay1, k0_pay2, k0_pay3, k0_pay5, k0_pay6, k0_pay7, k0_pay4, edgesOf, edgeAt, hiddenAt, act]
  simp only [softplus_kernel]
  blk_point [iblk, V, idx t]

theorem final (c : Dev nD) : (dats m 0 c).arrAt 9 (cfgs 0).N
    = edgesOf 2 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) := by
  refine (dats m 0 c).arrAt_eq_of_covers 9 _ (by decide +kernel) fun t _ y => ?_
  blk_simp
  rw [after0_9]
  frame_out
  exact point m c t y

end Cert.Proof.LastValue
-- ==== Proof.LastReference.lean ====
/-
  The reference's last edge update, read at an index: with every neighbour counted it is the next features of every edge
  (`Messages.edgesOf`).
-/
module

public import proofs.«01_k».proof.Proof.Messages
public import proofs.«01_k».proof.Proof.Gen.LastRefIdeal.Run

@[expose] public section

set_option maxRecDepth 16384

noncomputable section

namespace Cert.Proof.LastReference

open Idealize.ShloMosaic Idealize.ShloMosaic.TcCoe Idealize.SL.Sem
open Cert.LastRefIdeal Cert.LastRefIdeal.Gen Cert.Proof.Network Cert.Proof.Messages

/-- The pre-activations. -/
def acts (x0 : FVec Ideal S10000x128 .f32) (x1 : FVec Ideal S160000x128 .f32) (x2 : FVec Ideal S160000x16 .f32)
    (w : FVec Ideal S3x272x16 .f32) (b : FVec Ideal S3x16 .f32) : FVec Ideal S1x10000x16x16 .f32 :=
  addf (Host.dotGeneral dot_S1x10000x16x272_S272x16_S1x10000x16x16_3_0_012_1_n_n none
      (concatenate S1x10000x16x272 3
        [⟨S1x10000x16x128, (broadcastInDim S1x10000x16x128 ![0, 1, 2, 3] bcast_S1x10000x1x128_S1x10000x16x128_0_1_2_3
            (broadcastInDim S1x10000x1x128 ![0, 1, 3] bcast_S1x10000x128_S1x10000x1x128_0_1_3
              (shapeCast S1x10000x128 x0 shapeCasts_S10000x128_S1x10000x128)) : FVec Ideal S1x10000x16x128 .f32)⟩,
         ⟨S1x10000x16x128, (shapeCast S1x10000x16x128 x1 shapeCasts_S160000x128_S1x10000x16x128 : FVec Ideal S1x10000x16x128 .f32)⟩,
         ⟨S1x10000x16x16, (shapeCast S1x10000x16x16 x2 shapeCasts_S160000x16_S1x10000x16x16 : FVec Ideal S1x10000x16x16 .f32)⟩]
        concatenates_S1x10000x16x128_S1x10000x16x128_S1x10000x16x16_S1x10000x16x272_d3)
      (shapeCast S272x16 (extractStridedSlice S1x272x16 ![2, 0, 0] w slices_S3x272x16_S1x272x16_2_0_0) shapeCasts_S1x272x16_S272x16))
    (broadcastInDim S1x10000x16x16 ![0, 1, 2, 3] bcast_S1x1x1x16_S1x10000x16x16_0_1_2_3
      (broadcastInDim S1x1x1x16 ![3] bcast_S16_S1x1x1x16_3
        (shapeCast S16 (extractStridedSlice S1x16 ![2, 0] b slices_S3x16_S1x16_2_0) shapeCasts_S1x16_S16)))

theorem acts_apply (x0 : FVec Ideal S10000x128 .f32) (x1 : FVec Ideal S160000x128 .f32) (x2 : FVec Ideal S160000x16 .f32)
    (w : FVec Ideal S3x272x16 .f32) (b : FVec Ideal S3x16 .f32) (i : Fin 1) (a : Fin 10000) (j : Fin 16) (f : Fin 16) :
    acts x0 x1 x2 w b (ix4 i a j f)
      = act (fun q => x0 (ix2 a q)) (fun q => x1 (ix2 (⟨a * 16 + j, by omega⟩ : Fin 160000) q))
          (fun q => x2 (ix2 (⟨a * 16 + j, by omega⟩ : Fin 160000) q)) (fun q => w (ix3 2 ⟨q, by omega⟩ f))
          (fun q => w (ix3 2 ⟨128 + q, by omega⟩ f)) (fun q => w (ix3 2 ⟨256 + q, by omega⟩ f)) (b (ix2 2 f)) := by
  unfold acts
  pointwise []
  exact act_cat (fun q => x0 (ix2 a q)) (fun q => x1 (ix2 (⟨a * 16 + j, by omega⟩ : Fin 160000) q))
    (fun q => x2 (ix2 (⟨a * 16 + j, by omega⟩ : Fin 160000) q)) (fun q => w (ix3 2 q f)) (b (ix2 2 f))

/-- The zeros the softplus compares with, -/
def zeros : FVec Ideal S1x10000x16x16 .f32 :=
  broadcastInDim S1x10000x16x16 ![] bcast_S_S1x10000x16x16 (constant S_ .f32 0x00000000#32)

/-- and the softplus of an array. -/
def softplusOf (x : FVec Ideal S1x10000x16x16 .f32) : FVec Ideal S1x10000x16x16 .f32 :=
  select (cmpf .une (subf x zeros) (subf x zeros)) (addf x zeros)
    (addf (maximumf x zeros) (Host.log1p (Host.exp (Host.negf (Host.absf (subf x zeros))))))

theorem softplusOf_apply (x : FVec Ideal S1x10000x16x16 .f32) (i : Fin 1) (a : Fin 10000) (j : Fin 16) (f : Fin 16) :
    softplusOf x (ix4 i a j f) = softplus (x (ix4 i a j f)) := by
  unfold softplusOf zeros
  pointwise []
  exact softplus_host _

/-- The update of the hidden units `s`. -/
def update (x2 : FVec Ideal S160000x16 .f32) (s : FVec Ideal S1x10000x16x16 .f32) (mask : FVec Ideal S1x10000x16 .f32)
    (w : FVec Ideal S3x16x16 .f32) (b : FVec Ideal S3x16 .f32) : FVec Ideal S1x10000x16x16 .f32 :=
  addf (shapeCast S1x10000x16x16 x2 shapeCasts_S160000x16_S1x10000x16x16)
    (mulf (addf (Host.dotGeneral dot_S1x10000x16x16_S16x16_S1x10000x16x16_3_0_012_1_n_n none s
          (shapeCast S16x16 (extractStridedSlice S1x16x16 ![2, 0, 0] w slices_S3x16x16_S1x16x16_2_0_0) shapeCasts_S1x16x16_S16x16))
        (broadcastInDim S1x10000x16x16 ![0, 1, 2, 3] bcast_S1x1x1x16_S1x10000x16x16_0_1_2_3
          (broadcastInDim S1x1x1x16 ![3] bcast_S16_S1x1x1x16_3
            (shapeCast S16 (extractStridedSlice S1x16 ![2, 0] b slices_S3x16_S1x16_2_0) shapeCasts_S1x16_S16))))
      (broadcastInDim S1x10000x16x16 ![0, 1, 2, 3] bcast_S1x10000x16x1_S1x10000x16x16_0_1_2_3
        (broadcastInDim S1x10000x16x1 ![0, 1, 2] bcast_S1x10000x16_S1x10000x16x1_0_1_2 mask)))

theorem update_apply (x2 : FVec Ideal S160000x16 .f32) (s : FVec Ideal S1x10000x16x16 .f32) (mask : FVec Ideal S1x10000x16 .f32)
    (hmask : ∀ i, mask i = 1) (w : FVec Ideal S3x16x16 .f32) (b : FVec Ideal S3x16 .f32) (i : Fin 1) (a : Fin 10000) (j : Fin 16) (f : Fin 16) :
    update x2 s mask w b (ix4 i a j f)
      = x2 (ix2 ⟨a * 16 + j, by omega⟩ f) + (∑ k : Fin 16, s (ix4 i a j k) * w (ix3 2 k f) + b (ix2 2 f)) := by
  unfold update
  pointwise []
  simp only [hmask, mul_one]

variable (m : (ℓ : Loc nD τ sig) → Buf (Elt Ideal) ℓ)

theorem res_eq (c : Dev nD) : Value.res_out0 m c
    = update (m ((c.tc : Thread nD τ).loc main_arg2)) (softplusOf (acts (m ((c.tc : Thread nD τ).loc main_arg0))
        (m ((c.tc : Thread nD τ).loc main_arg1)) (m ((c.tc : Thread nD τ).loc main_arg2)) (m ((c.tc : Thread nD τ).loc main_arg4))
        (m ((c.tc : Thread nD τ).loc main_arg5)))) (m ((c.tc : Thread nD τ).loc main_arg3)) (m ((c.tc : Thread nD τ).loc main_arg6))
        (m ((c.tc : Thread nD τ).loc main_arg7)) := by
  unfold Value.res_out0 Value.res_main_v26 update softplusOf zeros acts
  rfl

/-- With every neighbour counted, the reference's result is the next features of every edge. -/
theorem res_eq_edges (c : Dev nD) (hmask : ∀ i : S1x10000x16.Idx, m ((c.tc : Thread nD τ).loc main_arg3) i = (1 : Ideal .f32)) :
    Value.res_out0 m c
      = edgesOf 2 (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) := by
  rw [res_eq]
  funext y
  obtain ⟨i, a, j, f, rfl⟩ : ∃ (i : Fin 1) (a : Fin 10000) (j : Fin 16) (f : Fin 16), y = ix4 i a j f := ⟨y 0, y 1, y 2, y 3, by idx_ext⟩
  rw [update_apply _ _ _ hmask]
  simp only [softplusOf_apply, acts_apply]
  rfl

end Cert.Proof.LastReference
-- ==== Proof.Calls.lean ====
/-
  The claims of the TensorCore calls: the frames from their generated runs, and the values, each call's result and its
  reference's both being the arrays of `Initial` once the precondition says that every atomic number names a row of the
  table, and of `Messages` once it says that every neighbour is counted.
-/
module

public import proofs.«01_k».proof.Defs
public import proofs.«01_k».proof.Proof.Gen.Init
public import proofs.«01_k».proof.Proof.Gen.Init.Frame
public import proofs.«01_k».proof.Proof.Gen.InitIdeal
public import proofs.«01_k».proof.Proof.Gen.InitIdeal.Value
public import proofs.«01_k».proof.Proof.Gen.InitRefIdeal
public import proofs.«01_k».proof.Proof.Gen.InitRefIdeal.Run
public import proofs.«01_k».proof.Proof.Gen.Pre_number_in_table
public import proofs.«01_k».proof.Proof.InitValue
public import proofs.«01_k».proof.Proof.InitReference
public import proofs.«01_k».proof.Proof.Gen.First
public import proofs.«01_k».proof.Proof.Gen.First.Frame
public import proofs.«01_k».proof.Proof.Gen.FirstIdeal
public import proofs.«01_k».proof.Proof.Gen.FirstIdeal.Value
public import proofs.«01_k».proof.Proof.Gen.FirstRefIdeal
public import proofs.«01_k».proof.Proof.Gen.FirstRefIdeal.Run
public import proofs.«01_k».proof.Proof.Gen.Pre_mask_first
public import proofs.«01_k».proof.Proof.FirstValue
public import proofs.«01_k».proof.Proof.FirstReference
public import proofs.«01_k».proof.Proof.Gen.Middle
public import proofs.«01_k».proof.Proof.Gen.Middle.Frame
public import proofs.«01_k».proof.Proof.Gen.MiddleIdeal
public import proofs.«01_k».proof.Proof.Gen.MiddleIdeal.Value
public import proofs.«01_k».proof.Proof.Gen.MiddleRefIdeal
public import proofs.«01_k».proof.Proof.Gen.MiddleRefIdeal.Run
public import proofs.«01_k».proof.Proof.Gen.Pre_mask_middle
public import proofs.«01_k».proof.Proof.MiddleValue
public import proofs.«01_k».proof.Proof.MiddleReference
public import proofs.«01_k».proof.Proof.Gen.Late
public import proofs.«01_k».proof.Proof.Gen.Late.Frame
public import proofs.«01_k».proof.Proof.Gen.LateIdeal
public import proofs.«01_k».proof.Proof.Gen.LateIdeal.Value
public import proofs.«01_k».proof.Proof.Gen.LateRefIdeal
public import proofs.«01_k».proof.Proof.Gen.LateRefIdeal.Run
public import proofs.«01_k».proof.Proof.Gen.Pre_mask_late
public import proofs.«01_k».proof.Proof.LateValue
public import proofs.«01_k».proof.Proof.LateReference
public import proofs.«01_k».proof.Proof.Gen.Last
public import proofs.«01_k».proof.Proof.Gen.Last.Frame
public import proofs.«01_k».proof.Proof.Gen.LastIdeal
public import proofs.«01_k».proof.Proof.Gen.LastIdeal.Value
public import proofs.«01_k».proof.Proof.Gen.LastRefIdeal
public import proofs.«01_k».proof.Proof.Gen.LastRefIdeal.Run
public import proofs.«01_k».proof.Proof.Gen.Pre_mask_last
public import proofs.«01_k».proof.Proof.LastValue
public import proofs.«01_k».proof.Proof.LastReference
public import Idealize.ShloMosaic.Lib.Pointwise
public import Idealize.ShloMosaic.Lib.Quiescent

@[expose] public section

noncomputable section

namespace Cert.Proof.Calls

open Idealize.ShloMosaic Idealize.ShloMosaic.TcCoe Idealize.SL.Sem
open Cert.Proof.Messages Cert.Proof.Initial

/-! ## The first edges and the embedded atoms -/

theorem frame_init : Cert.quiescent_Init := fun m ρ _ => Cert.Init.Gen.frame m ρ

theorem frame_initIdeal : Cert.quiescent_InitIdeal := fun m ρ _ => Cert.InitIdeal.Gen.frame m ρ

theorem frame_initIdeal_pre : Cert.quiescent_InitIdeal_pre_number_in_table := fun m ρ _ => Cert.InitIdeal.Gen.frame m ρ

theorem frame_initRefIdeal : Cert.quiescent_InitRefIdeal := fun m ρ _ =>
  (θ_run Cert.InitRefIdeal.defs _ _).mono (fun r h => ⟨fun c => (h c).2.2, sem_eq_zero_of_no_sems (by decide) r.2⟩)
    (Cert.InitRefIdeal.Value.run (F := Ideal) m ρ)

theorem frame_initRefIdeal_pre : Cert.quiescent_InitRefIdeal_pre_number_in_table := fun m ρ _ => frame_initRefIdeal m ρ trivial

/-- The two constants the idealization names have the values of the certificate's table. -/
theorem preserves_init : Cert.preserves_Init_InitIdeal :=
  ⟨IdealRules.named_const.statement Cert.InitIdeal.κ "width" .f32 0x3EBBBBBC#32 ((11 / 30 : ℝ) : EReal) rfl,
    IdealRules.named_const.statement Cert.InitIdeal.κ "coeff" .f32 0xC06E043B#32 ((-450 / 121 : ℝ) : EReal) rfl⟩

/-- A signed word between 0 and 100 is below 100 read unsigned. -/
theorem lt_of_range (v : BitVec 32) (h : IntOp.andi (IntOp.cmpi .sge v 0#32) (IntOp.cmpi .slt v 100#32) = 1#1) : v.toNat < 100 := by
  have hb : ∀ p q : Bool, BitVec.ofBool p &&& BitVec.ofBool q = 1#1 → p = true ∧ q = true := by decide
  obtain ⟨h0, h1⟩ := hb ((0#32).sle v) (v.slt 100#32) h
  rw [BitVec.sle_eq_decide, decide_eq_true_eq] at h0
  rw [BitVec.slt_eq_decide, decide_eq_true_eq] at h1
  have e0 : (0#32).toInt = 0 := by decide
  have e1 : (100#32).toInt = 100 := by decide
  rw [e0, BitVec.toInt_eq_toNat_cond] at h0
  rw [e1, BitVec.toInt_eq_toNat_cond] at h1
  split at h0 <;> omega

/-- Where the precondition's array is all ones, every atomic number names a row of the table. -/
theorem number_lt (z : IVec Cert.Pre_number_in_table.S1x10000 32) (d : FVec Ideal Cert.Pre_number_in_table.S1x10000x16 .f32)
    (x : FVec Ideal Cert.Pre_number_in_table.S100x128 .f32)
    (h : Cert.Pre_number_in_table.fn (F := Ideal) z d x = fun _ => 1#1) (i : Cert.Pre_number_in_table.S1x10000.Idx) : (z i).toNat < 100 :=
  lt_of_range (z i) (congrFun h i)

/-- The rows picked from arrays equal to the kernel's arguments are the embedded atoms. -/
theorem picked_rows (z z' : IVec Cert.InitRefIdeal.S1x10000 32) (x x' : FVec Ideal Cert.InitRefIdeal.S100x128 .f32) (hz : z' = z) (hx : x' = x)
    (h : ∀ i : Cert.InitRefIdeal.S1x10000.Idx, (z i).toNat < 100) :
    shapeCast Cert.InitRefIdeal.S10000x128 (Host.gather InitReference.gdims x' (InitReference.number z'))
      Cert.InitRefIdeal.Facts₀.shapeCasts_S1x10000x128_S10000x128 = embedded z x := by
  subst hz hx
  exact InitReference.picked_eq _ _ h

theorem algebraic_init : Cert.algebraic_InitIdeal_InitRefIdeal_pre_number_in_table := fun m ρ m' ρ' hp ha =>
  have hlt := fun (c : Dev Cert.InitIdeal.nD) (i : Cert.InitIdeal.S1x10000.Idx) => number_lt _ _ _ (hp c) i
  ⟨fun c => spread (m ((c : Thread Cert.InitIdeal.nD Cert.InitIdeal.τ).loc Cert.InitIdeal.main_arg1)),
    fun c => embedded (m ((c : Thread Cert.InitIdeal.nD Cert.InitIdeal.τ).loc Cert.InitIdeal.main_arg0))
      (m ((c : Thread Cert.InitIdeal.nD Cert.InitIdeal.τ).loc Cert.InitIdeal.main_arg2)),
    (θ_run Cert.InitIdeal.defs _ _).mono (fun _ h c => ⟨(h c).1.trans (InitValue.final_spread m c),
        (h c).2.1.trans (InitValue.final_embedded m c (hlt c)), (h c).2.2⟩)
      (Cert.InitIdeal.Value.run_blocks m ρ),
    (θ_run Cert.InitRefIdeal.defs _ _).mono (fun _ h c => by
      obtain ⟨h0, h1, h2⟩ := ha c
      refine ⟨(h c).1.trans ((InitReference.res_eq m' c).trans (congrArg spread h1)),
        (h c).2.1.trans (picked_rows _ _ _ _ h0 h2 (hlt c)), (h c).2.2⟩)
      (Cert.InitRefIdeal.Value.run (F := Ideal) m' ρ')⟩

/-! ## The first node update -/

theorem frame_first : Cert.quiescent_First := fun m ρ _ => Cert.First.Gen.frame m ρ

theorem frame_firstIdeal : Cert.quiescent_FirstIdeal := fun m ρ _ => Cert.FirstIdeal.Gen.frame m ρ

theorem frame_firstIdeal_pre : Cert.quiescent_FirstIdeal_pre_mask_first := fun m ρ _ => Cert.FirstIdeal.Gen.frame m ρ

theorem frame_firstRefIdeal : Cert.quiescent_FirstRefIdeal := fun m ρ _ =>
  (θ_run Cert.FirstRefIdeal.defs _ _).mono (fun r h => ⟨fun c => (h c).2, sem_eq_zero_of_no_sems (by decide) r.2⟩)
    (Cert.FirstRefIdeal.Value.run (F := Ideal) m ρ)

theorem frame_firstRefIdeal_pre : Cert.quiescent_FirstRefIdeal_pre_mask_first := fun m ρ _ => frame_firstRefIdeal m ρ trivial

/-- Where the precondition's array is all ones, every neighbour is counted once. -/
theorem counted_first (x0 : FVec Ideal Cert.Pre_mask_first.S10000x128 .f32) (x1 : FVec Ideal Cert.Pre_mask_first.S160000x128 .f32) (x2 : FVec Ideal Cert.Pre_mask_first.S160000x16 .f32)
    (x3 : FVec Ideal Cert.Pre_mask_first.S1x10000x16 .f32) (x4 : FVec Ideal Cert.Pre_mask_first.S3x272x128 .f32) (x5 : FVec Ideal Cert.Pre_mask_first.S3x128 .f32)
    (x6 : FVec Ideal Cert.Pre_mask_first.S3x128x128 .f32) (x7 : FVec Ideal Cert.Pre_mask_first.S3x128 .f32)
    (h : Cert.Pre_mask_first.fn (F := Ideal) x0 x1 x2 x3 x4 x5 x6 x7 = fun _ => 1#1) (i : Cert.Pre_mask_first.S1x10000x16.Idx) :
    x3 i = (1 : Ideal .f32) := by
  have h' : Cert.Pre_mask_first.fn (F := Ideal) x0 x1 x2 x3 x4 x5 x6 x7 i = 1#1 := congrFun h i
  by_contra hne
  revert h'
  pointwise [Cert.Pre_mask_first.fn]
  rw [decide_eq_false hne]
  decide

theorem algebraic_first : Cert.algebraic_FirstIdeal_FirstRefIdeal_pre_mask_first := fun m ρ m' ρ' hp ha =>
  ⟨fun c => nodes 0 (m ((c : Thread Cert.FirstIdeal.nD Cert.FirstIdeal.τ).loc Cert.FirstIdeal.main_arg0)) (m ((c : Thread Cert.FirstIdeal.nD Cert.FirstIdeal.τ).loc Cert.FirstIdeal.main_arg1))
        (m ((c : Thread Cert.FirstIdeal.nD Cert.FirstIdeal.τ).loc Cert.FirstIdeal.main_arg2)) (m ((c : Thread Cert.FirstIdeal.nD Cert.FirstIdeal.τ).loc Cert.FirstIdeal.main_arg4))
        (m ((c : Thread Cert.FirstIdeal.nD Cert.FirstIdeal.τ).loc Cert.FirstIdeal.main_arg5)) (m ((c : Thread Cert.FirstIdeal.nD Cert.FirstIdeal.τ).loc Cert.FirstIdeal.main_arg6))
        (m ((c : Thread Cert.FirstIdeal.nD Cert.FirstIdeal.τ).loc Cert.FirstIdeal.main_arg7)),
    (θ_run Cert.FirstIdeal.defs _ _).mono (fun _ h c => ⟨(h c).1.trans (FirstValue.final m c), (h c).2⟩)
      (Cert.FirstIdeal.Value.run_blocks m ρ),
    (θ_run Cert.FirstRefIdeal.defs _ _).mono (fun _ h c => by
      obtain ⟨h0, h1, h2, h3, h4, h5, h6, h7⟩ := ha c
      have hmask : ∀ i : Cert.FirstRefIdeal.S1x10000x16.Idx,
          m' ((c.tc : Thread Cert.FirstRefIdeal.nD Cert.FirstRefIdeal.τ).loc Cert.FirstRefIdeal.main_arg3) i = (1 : Ideal .f32) := fun i =>
        (congrFun h3 i).trans (counted_first _ _ _ _ _ _ _ _ (hp c) i)
      refine ⟨(h c).1.trans ((FirstReference.res_eq_nodes m' c hmask).trans ?_), (h c).2⟩
      rw [h0, h1, h2, h4, h5, h6, h7])
      (Cert.FirstRefIdeal.Value.run (F := Ideal) m' ρ')⟩

/-! ## The first edge update and the second node update -/

theorem frame_middle : Cert.quiescent_Middle := fun m ρ _ => Cert.Middle.Gen.frame m ρ

theorem frame_middleIdeal : Cert.quiescent_MiddleIdeal := fun m ρ _ => Cert.MiddleIdeal.Gen.frame m ρ

theorem frame_middleIdeal_pre : Cert.quiescent_MiddleIdeal_pre_mask_middle := fun m ρ _ => Cert.MiddleIdeal.Gen.frame m ρ

theorem frame_middleRefIdeal : Cert.quiescent_MiddleRefIdeal := fun m ρ _ =>
  (θ_run Cert.MiddleRefIdeal.defs _ _).mono (fun r h => ⟨fun c => (h c).2.2, sem_eq_zero_of_no_sems (by decide) r.2⟩)
    (Cert.MiddleRefIdeal.Value.run (F := Ideal) m ρ)

theorem frame_middleRefIdeal_pre : Cert.quiescent_MiddleRefIdeal_pre_mask_middle := fun m ρ _ => frame_middleRefIdeal m ρ trivial

/-- Where the precondition's array is all ones, every neighbour is counted once. -/
theorem counted_middle (x0 : FVec Ideal Cert.Pre_mask_middle.S10000x128 .f32) (x1 : FVec Ideal Cert.Pre_mask_middle.S160000x128 .f32) (x2 : FVec Ideal Cert.Pre_mask_middle.S160000x16 .f32)
    (x3 : FVec Ideal Cert.Pre_mask_middle.S1x10000x16 .f32) (x4 : FVec Ideal Cert.Pre_mask_middle.S3x272x128 .f32) (x5 : FVec Ideal Cert.Pre_mask_middle.S3x128 .f32)
    (x6 : FVec Ideal Cert.Pre_mask_middle.S3x128x128 .f32) (x7 : FVec Ideal Cert.Pre_mask_middle.S3x128 .f32) (x8 : FVec Ideal Cert.Pre_mask_middle.S3x272x16 .f32)
    (x9 : FVec Ideal Cert.Pre_mask_middle.S3x16 .f32) (x10 : FVec Ideal Cert.Pre_mask_middle.S3x16x16 .f32) (x11 : FVec Ideal Cert.Pre_mask_middle.S3x16 .f32)
    (h : Cert.Pre_mask_middle.fn (F := Ideal) x0 x1 x2 x3 x4 x5 x6 x7 x8 x9 x10 x11 = fun _ => 1#1) (i : Cert.Pre_mask_middle.S1x10000x16.Idx) :
    x3 i = (1 : Ideal .f32) := by
  have h' : Cert.Pre_mask_middle.fn (F := Ideal) x0 x1 x2 x3 x4 x5 x6 x7 x8 x9 x10 x11 i = 1#1 := congrFun h i
  by_contra hne
  revert h'
  pointwise [Cert.Pre_mask_middle.fn]
  rw [decide_eq_false hne]
  decide

theorem algebraic_middle : Cert.algebraic_MiddleIdeal_MiddleRefIdeal_pre_mask_middle := fun m ρ m' ρ' hp ha =>
  ⟨fun c => edges 0 (m ((c : Thread Cert.MiddleIdeal.nD Cert.MiddleIdeal.τ).loc Cert.MiddleIdeal.main_arg0)) (m ((c : Thread Cert.MiddleIdeal.nD Cert.MiddleIdeal.τ).loc Cert.MiddleIdeal.main_arg1))
        (m ((c : Thread Cert.MiddleIdeal.nD Cert.MiddleIdeal.τ).loc Cert.MiddleIdeal.main_arg2)) (m ((c : Thread Cert.MiddleIdeal.nD Cert.MiddleIdeal.τ).loc Cert.MiddleIdeal.main_arg8))
        (m ((c : Thread Cert.MiddleIdeal.nD Cert.MiddleIdeal.τ).loc Cert.MiddleIdeal.main_arg9)) (m ((c : Thread Cert.MiddleIdeal.nD Cert.MiddleIdeal.τ).loc Cert.MiddleIdeal.main_arg10))
        (m ((c : Thread Cert.MiddleIdeal.nD Cert.MiddleIdeal.τ).loc Cert.MiddleIdeal.main_arg11)),
   fun c => nodes 1 (m ((c : Thread Cert.MiddleIdeal.nD Cert.MiddleIdeal.τ).loc Cert.MiddleIdeal.main_arg0)) (m ((c : Thread Cert.MiddleIdeal.nD Cert.MiddleIdeal.τ).loc Cert.MiddleIdeal.main_arg1))
        (edges 0 (m ((c : Thread Cert.MiddleIdeal.nD Cert.MiddleIdeal.τ).loc Cert.MiddleIdeal.main_arg0)) (m ((c : Thread Cert.MiddleIdeal.nD Cert.MiddleIdeal.τ).loc Cert.MiddleIdeal.main_arg1))
        (m ((c : Thread Cert.MiddleIdeal.nD Cert.MiddleIdeal.τ).loc Cert.MiddleIdeal.main_arg2)) (m ((c : Thread Cert.MiddleIdeal.nD Cert.MiddleIdeal.τ).loc Cert.MiddleIdeal.main_arg8))
        (m ((c : Thread Cert.MiddleIdeal.nD Cert.MiddleIdeal.τ).loc Cert.MiddleIdeal.main_arg9)) (m ((c : Thread Cert.MiddleIdeal.nD Cert.MiddleIdeal.τ).loc Cert.MiddleIdeal.main_arg10))
        (m ((c : Thread Cert.MiddleIdeal.nD Cert.MiddleIdeal.τ).loc Cert.MiddleIdeal.main_arg11)))
        (m ((c : Thread Cert.MiddleIdeal.nD Cert.MiddleIdeal.τ).loc Cert.MiddleIdeal.main_arg4)) (m ((c : Thread Cert.MiddleIdeal.nD Cert.MiddleIdeal.τ).loc Cert.MiddleIdeal.main_arg5))
        (m ((c : Thread Cert.MiddleIdeal.nD Cert.MiddleIdeal.τ).loc Cert.MiddleIdeal.main_arg6)) (m ((c : Thread Cert.MiddleIdeal.nD Cert.MiddleIdeal.τ).loc Cert.MiddleIdeal.main_arg7)),
    (θ_run Cert.MiddleIdeal.defs _ _).mono (fun _ h c => ⟨(h c).1.trans (MiddleValue.final_edges m c), (h c).2.1.trans (MiddleValue.final_nodes m c), (h c).2.2⟩)
      (Cert.MiddleIdeal.Value.run_blocks m ρ),
    (θ_run Cert.MiddleRefIdeal.defs _ _).mono (fun _ h c => by
      obtain ⟨h0, h1, h2, h3, h4, h5, h6, h7, h8, h9, h10, h11⟩ := ha c
      have hmask : ∀ i : Cert.MiddleRefIdeal.S1x10000x16.Idx,
          m' ((c.tc : Thread Cert.MiddleRefIdeal.nD Cert.MiddleRefIdeal.τ).loc Cert.MiddleRefIdeal.main_arg3) i = (1 : Ideal .f32) := fun i =>
        (congrFun h3 i).trans (counted_middle _ _ _ _ _ _ _ _ _ _ _ _ (hp c) i)
      refine ⟨(h c).1.trans ((MiddleReference.res_eq_edges hmask).trans ?_),
        (h c).2.1.trans ((MiddleReference.res_eq_nodes hmask).trans ?_), (h c).2.2⟩
      · rw [h0, h1, h2, h8, h9, h10, h11]
      · rw [h0, h1, h2, h4, h5, h6, h7, h8, h9, h10, h11])
      (Cert.MiddleRefIdeal.Value.run (F := Ideal) m' ρ')⟩

/-! ## The second edge update and the third node update -/

theorem frame_late : Cert.quiescent_Late := fun m ρ _ => Cert.Late.Gen.frame m ρ

theorem frame_lateIdeal : Cert.quiescent_LateIdeal := fun m ρ _ => Cert.LateIdeal.Gen.frame m ρ

theorem frame_lateIdeal_pre : Cert.quiescent_LateIdeal_pre_mask_late := fun m ρ _ => Cert.LateIdeal.Gen.frame m ρ

theorem frame_lateRefIdeal : Cert.quiescent_LateRefIdeal := fun m ρ _ =>
  (θ_run Cert.LateRefIdeal.defs _ _).mono (fun r h => ⟨fun c => (h c).2.2, sem_eq_zero_of_no_sems (by decide) r.2⟩)
    (Cert.LateRefIdeal.Value.run (F := Ideal) m ρ)

theorem frame_lateRefIdeal_pre : Cert.quiescent_LateRefIdeal_pre_mask_late := fun m ρ _ => frame_lateRefIdeal m ρ trivial

/-- Where the precondition's array is all ones, every neighbour is counted once. -/
theorem counted_late (x0 : FVec Ideal Cert.Pre_mask_late.S10000x128 .f32) (x1 : FVec Ideal Cert.Pre_mask_late.S160000x128 .f32) (x2 : FVec Ideal Cert.Pre_mask_late.S160000x16 .f32)
    (x3 : FVec Ideal Cert.Pre_mask_late.S1x10000x16 .f32) (x4 : FVec Ideal Cert.Pre_mask_late.S3x272x128 .f32) (x5 : FVec Ideal Cert.Pre_mask_late.S3x128 .f32)
    (x6 : FVec Ideal Cert.Pre_mask_late.S3x128x128 .f32) (x7 : FVec Ideal Cert.Pre_mask_late.S3x128 .f32) (x8 : FVec Ideal Cert.Pre_mask_late.S3x272x16 .f32)
    (x9 : FVec Ideal Cert.Pre_mask_late.S3x16 .f32) (x10 : FVec Ideal Cert.Pre_mask_late.S3x16x16 .f32) (x11 : FVec Ideal Cert.Pre_mask_late.S3x16 .f32)
    (h : Cert.Pre_mask_late.fn (F := Ideal) x0 x1 x2 x3 x4 x5 x6 x7 x8 x9 x10 x11 = fun _ => 1#1) (i : Cert.Pre_mask_late.S1x10000x16.Idx) :
    x3 i = (1 : Ideal .f32) := by
  have h' : Cert.Pre_mask_late.fn (F := Ideal) x0 x1 x2 x3 x4 x5 x6 x7 x8 x9 x10 x11 i = 1#1 := congrFun h i
  by_contra hne
  revert h'
  pointwise [Cert.Pre_mask_late.fn]
  rw [decide_eq_false hne]
  decide

theorem algebraic_late : Cert.algebraic_LateIdeal_LateRefIdeal_pre_mask_late := fun m ρ m' ρ' hp ha =>
  ⟨fun c => edges 1 (m ((c : Thread Cert.LateIdeal.nD Cert.LateIdeal.τ).loc Cert.LateIdeal.main_arg0)) (m ((c : Thread Cert.LateIdeal.nD Cert.LateIdeal.τ).loc Cert.LateIdeal.main_arg1))
        (m ((c : Thread Cert.LateIdeal.nD Cert.LateIdeal.τ).loc Cert.LateIdeal.main_arg2)) (m ((c : Thread Cert.LateIdeal.nD Cert.LateIdeal.τ).loc Cert.LateIdeal.main_arg8))
        (m ((c : Thread Cert.LateIdeal.nD Cert.LateIdeal.τ).loc Cert.LateIdeal.main_arg9)) (m ((c : Thread Cert.LateIdeal.nD Cert.LateIdeal.τ).loc Cert.LateIdeal.main_arg10))
        (m ((c : Thread Cert.LateIdeal.nD Cert.LateIdeal.τ).loc Cert.LateIdeal.main_arg11)),
   fun c => nodes 2 (m ((c : Thread Cert.LateIdeal.nD Cert.LateIdeal.τ).loc Cert.LateIdeal.main_arg0)) (m ((c : Thread Cert.LateIdeal.nD Cert.LateIdeal.τ).loc Cert.LateIdeal.main_arg1))
        (edges 1 (m ((c : Thread Cert.LateIdeal.nD Cert.LateIdeal.τ).loc Cert.LateIdeal.main_arg0)) (m ((c : Thread Cert.LateIdeal.nD Cert.LateIdeal.τ).loc Cert.LateIdeal.main_arg1))
        (m ((c : Thread Cert.LateIdeal.nD Cert.LateIdeal.τ).loc Cert.LateIdeal.main_arg2)) (m ((c : Thread Cert.LateIdeal.nD Cert.LateIdeal.τ).loc Cert.LateIdeal.main_arg8))
        (m ((c : Thread Cert.LateIdeal.nD Cert.LateIdeal.τ).loc Cert.LateIdeal.main_arg9)) (m ((c : Thread Cert.LateIdeal.nD Cert.LateIdeal.τ).loc Cert.LateIdeal.main_arg10))
        (m ((c : Thread Cert.LateIdeal.nD Cert.LateIdeal.τ).loc Cert.LateIdeal.main_arg11)))
        (m ((c : Thread Cert.LateIdeal.nD Cert.LateIdeal.τ).loc Cert.LateIdeal.main_arg4)) (m ((c : Thread Cert.LateIdeal.nD Cert.LateIdeal.τ).loc Cert.LateIdeal.main_arg5))
        (m ((c : Thread Cert.LateIdeal.nD Cert.LateIdeal.τ).loc Cert.LateIdeal.main_arg6)) (m ((c : Thread Cert.LateIdeal.nD Cert.LateIdeal.τ).loc Cert.LateIdeal.main_arg7)),
    (θ_run Cert.LateIdeal.defs _ _).mono (fun _ h c => ⟨(h c).1.trans (LateValue.final_edges m c), (h c).2.1.trans (LateValue.final_nodes m c), (h c).2.2⟩)
      (Cert.LateIdeal.Value.run_blocks m ρ),
    (θ_run Cert.LateRefIdeal.defs _ _).mono (fun _ h c => by
      obtain ⟨h0, h1, h2, h3, h4, h5, h6, h7, h8, h9, h10, h11⟩ := ha c
      have hmask : ∀ i : Cert.LateRefIdeal.S1x10000x16.Idx,
          m' ((c.tc : Thread Cert.LateRefIdeal.nD Cert.LateRefIdeal.τ).loc Cert.LateRefIdeal.main_arg3) i = (1 : Ideal .f32) := fun i =>
        (congrFun h3 i).trans (counted_late _ _ _ _ _ _ _ _ _ _ _ _ (hp c) i)
      refine ⟨(h c).1.trans ((LateReference.res_eq_edges hmask).trans ?_),
        (h c).2.1.trans ((LateReference.res_eq_nodes hmask).trans ?_), (h c).2.2⟩
      · rw [h0, h1, h2, h8, h9, h10, h11]
      · rw [h0, h1, h2, h4, h5, h6, h7, h8, h9, h10, h11])
      (Cert.LateRefIdeal.Value.run (F := Ideal) m' ρ')⟩

/-! ## The last edge update -/

theorem frame_last : Cert.quiescent_Last := fun m ρ _ => Cert.Last.Gen.frame m ρ

theorem frame_lastIdeal : Cert.quiescent_LastIdeal := fun m ρ _ => Cert.LastIdeal.Gen.frame m ρ

theorem frame_lastIdeal_pre : Cert.quiescent_LastIdeal_pre_mask_last := fun m ρ _ => Cert.LastIdeal.Gen.frame m ρ

theorem frame_lastRefIdeal : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

theorem frame_lastRefIdeal_pre : Cert.quiescent_LastRefIdeal_pre_mask_last := fun m ρ _ => frame_lastRefIdeal m ρ trivial

/-- Where the precondition's array is all ones, every neighbour is counted once. -/
theorem counted_last (x0 : FVec Ideal Cert.Pre_mask_last.S10000x128 .f32) (x1 : FVec Ideal Cert.Pre_mask_last.S160000x128 .f32) (x2 : FVec Ideal Cert.Pre_mask_last.S160000x16 .f32)
    (x3 : FVec Ideal Cert.Pre_mask_last.S1x10000x16 .f32) (x4 : FVec Ideal Cert.Pre_mask_last.S3x272x16 .f32) (x5 : FVec Ideal Cert.Pre_mask_last.S3x16 .f32)
    (x6 : FVec Ideal Cert.Pre_mask_last.S3x16x16 .f32) (x7 : FVec Ideal Cert.Pre_mask_last.S3x16 .f32)
    (h : Cert.Pre_mask_last.fn (F := Ideal) x0 x1 x2 x3 x4 x5 x6 x7 = fun _ => 1#1) (i : Cert.Pre_mask_last.S1x10000x16.Idx) :
    x3 i = (1 : Ideal .f32) := by
  have h' : Cert.Pre_mask_last.fn (F := Ideal) x0 x1 x2 x3 x4 x5 x6 x7 i = 1#1 := congrFun h i
  by_contra hne
  revert h'
  pointwise [Cert.Pre_mask_last.fn]
  rw [decide_eq_false hne]
  decide

theorem algebraic_last : Cert.algebraic_LastIdeal_LastRefIdeal_pre_mask_last := fun m ρ m' ρ' hp ha =>
  ⟨fun c => edgesOf 2 (m ((c : Thread Cert.LastIdeal.nD Cert.LastIdeal.τ).loc Cert.LastIdeal.main_arg0)) (m ((c : Thread Cert.LastIdeal.nD Cert.LastIdeal.τ).loc Cert.LastIdeal.main_arg1))
        (m ((c : Thread Cert.LastIdeal.nD Cert.LastIdeal.τ).loc Cert.LastIdeal.main_arg2)) (m ((c : Thread Cert.LastIdeal.nD Cert.LastIdeal.τ).loc Cert.LastIdeal.main_arg4))
        (m ((c : Thread Cert.LastIdeal.nD Cert.LastIdeal.τ).loc Cert.LastIdeal.main_arg5)) (m ((c : Thread Cert.LastIdeal.nD Cert.LastIdeal.τ).loc Cert.LastIdeal.main_arg6))
        (m ((c : Thread Cert.LastIdeal.nD Cert.LastIdeal.τ).loc Cert.LastIdeal.main_arg7)),
    (θ_run Cert.LastIdeal.defs _ _).mono (fun _ h c => ⟨(h c).1.trans (LastValue.final m c), (h c).2⟩)
      (Cert.LastIdeal.Value.run_blocks m ρ),
    (θ_run Cert.LastRefIdeal.defs _ _).mono (fun _ h c => by
      obtain ⟨h0, h1, h2, h3, h4, h5, h6, h7⟩ := ha c
      have hmask : ∀ i : Cert.LastRefIdeal.S1x10000x16.Idx,
          m' ((c.tc : Thread Cert.LastRefIdeal.nD Cert.LastRefIdeal.τ).loc Cert.LastRefIdeal.main_arg3) i = (1 : Ideal .f32) := fun i =>
        (congrFun h3 i).trans (counted_last _ _ _ _ _ _ _ _ (hp c) i)
      refine ⟨(h c).1.trans ((LastReference.res_eq_edges m' c hmask).trans ?_), (h c).2⟩
      rw [h0, h1, h2, h4, h5, h6, h7])
      (Cert.LastRefIdeal.Value.run (F := Ideal) m' ρ')⟩

end Cert.Proof.Calls
-- ==== Proof.Words.lean ====
/-
  The row gather's block schedule in numbers.  The 160000 gathered rows are cut into 625 blocks of 256; task
  `w = subcore + 16·core` takes 20 consecutive blocks if `w < 17` and 19 otherwise.  The body computes every
  offset, every condition and every carried word by 32-bit arithmetic; here each is given its closed form at
  trip `k`, by evaluation at every task and trip.
-/
module

public import proofs.«01_k».proof.Defs
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The task's number among the 32. -/
abbrev wid (i : grid0.Coords) : ℕ := (i 1).val + 16 * (i 0).val
/-- How many blocks the task takes. -/
abbrev cnt (i : grid0.Coords) : ℕ := if wid i < 17 then 20 else 19
/-- The task's first block. -/
abbrev base (i : grid0.Coords) : ℕ := if wid i < 17 then wid i * 20 else wid i * 19 + 17

/-! ## The carried words at trip `k` -/

/-- The next free index slot's count. -/
abbrev w6 (i : grid0.Coords) (k : ℕ) : BitVec 32 := BitVec.ofNat 32 (min (k + 1) (cnt i))
/-- The index slot (and row slot) of this trip. -/
abbrev w7 (k : ℕ) : BitVec 32 := BitVec.ofNat 32 k
/-- The row slot whose store is awaited next. -/
abbrev w9 (k : ℕ) : BitVec 32 := BitVec.ofNat 32 (k - 1)
/-- The block within the task; zero again after the last. -/
abbrev w10 (i : grid0.Coords) (k : ℕ) : BitVec 32 := if k < cnt i then BitVec.ofNat 32 k else 0#32

theorem trips_eq : ∀ i : grid0.Coords, (k0_t1_loop i).trips = cnt i := by decide +kernel
theorem trips2_eq : ∀ i : grid0.Coords, (k0_t2_loop i).trips = 0 := by decide +kernel
theorem cond1_eq : ∀ i : grid0.Coords, k0_cond1 i = 1#1 := by decide +kernel
theorem cond2_eq : ∀ i : grid0.Coords, k0_cond2 i = 1#1 := by decide +kernel
theorem cond18_eq : ∀ i : grid0.Coords, k0_cond18 i = 1#1 := by decide +kernel
theorem off2_eq : ∀ i : grid0.Coords, k0_off2 i = ![0, 256 * base i] := by decide +kernel

theorem cond3_eq : ∀ i : grid0.Coords, ∀ k : Fin (k0_t1_loop i).trips,
    k0_cond3 i k (w10 i k) = if k.val + 1 < cnt i then 1#1 else 0#1 := by decide +kernel

theorem cond4_eq : ∀ i : grid0.Coords, ∀ k : Fin (k0_t1_loop i).trips,
    k0_cond4 i k (w10 i k) = 1#1 := by decide +kernel

theorem cond7_eq : ∀ i : grid0.Coords, ∀ k : Fin (k0_t1_loop i).trips,
    k0_cond7 i k (w10 i k) = 1#1 := by decide +kernel

theorem cond9_eq : ∀ i : grid0.Coords, ∀ k : Fin (k0_t1_loop i).trips,
    k0_cond9 i k (w10 i k) = if 1 ≤ k.val then 1#1 else 0#1 := by decide +kernel

theorem chk1_ok : ∀ i : grid0.Coords, ∀ k : Fin (k0_t1_loop i).trips,
    k0_chk1 i k (w6 i k) (w7 k) (w7 k) (w9 k) (w10 i k) := by decide +kernel

theorem chk2_ok : ∀ i : grid0.Coords, ∀ k : Fin (k0_t1_loop i).trips,
    k0_chk2 i (w7 k) := by decide +kernel

theorem chk3_ok : ∀ i : grid0.Coords, ∀ k : Fin (k0_t1_loop i).trips,
    k0_chk3 i (w7 k) := by decide +kernel

theorem off4_eq : ∀ i : grid0.Coords, ∀ k : Fin (k0_t1_loop i).trips, k.val + 1 < cnt i →
    k0_off4 (w6 i k) = ![(k.val + 1) % 2, 0, 0] := by decide +kernel

theorem off5_eq : ∀ i : grid0.Coords, ∀ k : Fin (k0_t1_loop i).trips, k.val + 1 < cnt i →
    k0_off5 i (w10 i k) = ![0, 256 * (base i + (k.val + 1))] := by decide +kernel

theorem off6_eq : ∀ i : grid0.Coords, ∀ k : Fin (k0_t1_loop i).trips, k.val + 1 < cnt i →
    k0_off6 (w6 i k) = ![(k.val + 1) % 2] := by decide +kernel

theorem off9_eq : ∀ i : grid0.Coords, ∀ k : Fin (k0_t1_loop i).trips,
    k0_off9 (w7 k) = ![k.val % 2] := by decide +kernel

theorem off10_eq : ∀ i : grid0.Coords, ∀ k : Fin (k0_t1_loop i).trips,
    k0_off10 (w7 k) = ![k.val % 2, 0, 0] := by decide +kernel

theorem off11_eq : ∀ i : grid0.Coords, ∀ k : Fin (k0_t1_loop i).trips,
    k0_off11 (w7 k) = ![k.val % 2, 0, 0] := by decide +kernel

theorem off12_eq : ∀ i : grid0.Coords, ∀ k : Fin (k0_t1_loop i).trips,
    k0_off12 (w7 k) = ![k.val % 2, 0, 0] := by decide +kernel

theorem off13_eq : ∀ i : grid0.Coords, ∀ k : Fin (k0_t1_loop i).trips,
    k0_off13 i (w10 i k) = ![256 * (base i + k.val), 0] := by decide +kernel

theorem off14_eq : ∀ i : grid0.Coords, ∀ k : Fin (k0_t1_loop i).trips,
    k0_off14 (w7 k) = ![k.val % 2] := by decide +kernel

theorem off17_eq : ∀ i : grid0.Coords, ∀ k : Fin (k0_t1_loop i).trips, 1 ≤ k.val →
    k0_off17 (w9 k) = ![(k.val - 1) % 2] := by decide +kernel

theorem chk7_ok : ∀ i : grid0.Coords, k0_chk7 i (w9 (cnt i)) := by decide +kernel

theorem chk8_ok : ∀ i : grid0.Coords, k0_chk8 i (w10 i (cnt i)) := by decide +kernel

theorem off34_eq : ∀ i : grid0.Coords, k0_off34 (w9 (cnt i)) = ![(cnt i - 1) % 2] := by decide +kernel

end Cert.Proof.Words
-- ==== Proof.Base.lean ====
/-
  The set-up the row gather's proof is stated over: the program as the launch theorem sees it, the resource
  algebra, and the blocks and slots the body addresses.  The body is stated over ANY table, index array, result
  array, pair of index slots, pair of row slots and semaphores; slots are named by the trip that uses them
  (`p`, at slot `p % 2`), blocks by their number among the 625.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Blocks and slots -/

abbrev IRef := Memref sig .scVector .vmem S2x1x256 .i32
abbrev RRef := Memref sig .scVector .vmem S2x256x128 .f32
abbrev TRef := Memref sig .scVector .hbm S10000x128 .f32
abbrev LRef := Memref sig .scVector .hbm S1x160000 .i32
abbrev ORef := Memref sig .scVector .hbm S160000x128 .f32

theorem slotI_inb (p : ℕ) (a : Fin 3) : (![p % 2, 0, 0] : Fin 3 → ℕ) a + S1x1x256.size a ≤ S2x1x256.size a := by
  fin_cases a <;> simp <;> omega
theorem slotR_inb (p : ℕ) (a : Fin 3) : (![p % 2, 0, 0] : Fin 3 → ℕ) a + S1x256x128.size a ≤ S2x256x128.size a := by
  fin_cases a <;> simp <;> omega
theorem slotS_inb (p : ℕ) (a : Fin 1) : (![p % 2] : Fin 1 → ℕ) a + S1.size a ≤ S2.size a := by
  fin_cases a; simp; omega
theorem blkI_inb (b : ℕ) (a : Fin 2) : (![0, 256 * (b % 625)] : Fin 2 → ℕ) a + S1x256.size a ≤ S1x160000.size a := by
  fin_cases a <;> simp <;> omega
theorem blkR_inb (b : ℕ) (a : Fin 2) : (![256 * (b % 625), 0] : Fin 2 → ℕ) a + S256x128.size a ≤ S160000x128.size a := by
  fin_cases a <;> simp <;> omega

/-- The index slot of trip `p`. -/
abbrev islot (I : IRef) (p : ℕ) : Memref sig .scVector .vmem S1x256 .i32 :=
  (I.slice (Rect.unit (s := S2x1x256) ![p % 2, 0, 0] S1x1x256.size (slotI_inb p)) (fun _ => rfl)).squeeze S1x256 squeezes_S1x1x256_S1x256
/-- The row slot of trip `p`. -/
abbrev rslot (R : RRef) (p : ℕ) : Memref sig .scVector .vmem S256x128 .f32 :=
  (R.slice (Rect.unit (s := S2x256x128) ![p % 2, 0, 0] S1x256x128.size (slotR_inb p)) (fun _ => rfl)).squeeze S256x128 squeezes_S1x256x128_S256x128
/-- The semaphore of trip `p` among a pair. -/
abbrev ssem (s : DmaSems sig S2) (p : ℕ) : DmaSem sig :=
  ((s.slice (Rect.unit (s := S2) ![p % 2] S1.size (slotS_inb p))).squeeze S_ squeezes_S1_S_).sem
/-- Block `b` of the indices: 256 of them. -/
abbrev iblk (L : LRef) (b : ℕ) : Memref sig .scVector .hbm S1x256 .i32 :=
  L.slice (Rect.unit (s := S1x160000) ![0, 256 * (b % 625)] S1x256.size (blkI_inb b)) (fun _ => rfl)
/-- Block `b` of the result: 256 rows. -/
abbrev oblk (O : ORef) (b : ℕ) : Memref sig .scVector .hbm S256x128 .f32 :=
  O.slice (Rect.unit (s := S160000x128) ![256 * (b % 625), 0] S256x128.size (blkR_inb b)) (fun _ => rfl)
/-- The whole table as the copy addresses it. -/
abbrev tall (T : TRef) : Memref sig .scVector .hbm S10000x128 .f32 :=
  T.slice (Rect.unit (s := S10000x128) ![0, 0] S10000x128.size inb_S10000x128_S10000x128_0_0) (fun _ => rfl)
/-- The list of rows the copy takes: the trip's index slot in one dimension. -/
abbrev rlist (I : IRef) (p : ℕ) : Memref sig .scVector .vmem S256 .i32 :=
  ((islot I p).slice (Rect.unit (s := S1x256) ![0, 0] S1x256.size inb_S1x256_S1x256_0_0) (fun _ => rfl)).squeeze S256 squeezes_S1x256_S256

theorem islot_congr (I : IRef) {p q : ℕ} (h : p % 2 = q % 2) : islot I p = islot I q := by
  have key : ∀ (a b : ℕ) (ha : ∀ x, (![a, 0, 0] : Fin 3 → ℕ) x + S1x1x256.size x ≤ S2x1x256.size x)
      (hb : ∀ x, (![b, 0, 0] : Fin 3 → ℕ) x + S1x1x256.size x ≤ S2x1x256.size x), a = b →
      (I.slice (Rect.unit (s := S2x1x256) ![a, 0, 0] S1x1x256.size ha) (fun _ => rfl)).squeeze S1x256 squeezes_S1x1x256_S1x256
        = (I.slice (Rect.unit (s := S2x1x256) ![b, 0, 0] S1x1x256.size hb) (fun _ => rfl)).squeeze S1x256 squeezes_S1x1x256_S1x256 := by
    rintro a _ ha hb rfl; rfl
  exact key _ _ _ _ h
theorem rslot_congr (R : RRef) {p q : ℕ} (h : p % 2 = q % 2) : rslot R p = rslot R q := by
  have key : ∀ (a b : ℕ) (ha : ∀ x, (![a, 0, 0] : Fin 3 → ℕ) x + S1x256x128.size x ≤ S2x256x128.size x)
      (hb : ∀ x, (![b, 0, 0] : Fin 3 → ℕ) x + S1x256x128.size x ≤ S2x256x128.size x), a = b →
      (R.slice (Rect.unit (s := S2x256x128) ![a, 0, 0] S1x256x128.size ha) (fun _ => rfl)).squeeze S256x128 squeezes_S1x256x128_S256x128
        = (R.slice (Rect.unit (s := S2x256x128) ![b, 0, 0] S1x256x128.size hb) (fun _ => rfl)).squeeze S256x128 squeezes_S1x256x128_S256x128 := by
    rintro a _ ha hb rfl; rfl
  exact key _ _ _ _ h
theorem ssem_congr (s : DmaSems sig S2) {p q : ℕ} (h : p % 2 = q % 2) : ssem s p = ssem s q := by
  have key : ∀ (a b : ℕ) (ha : ∀ x, (![a] : Fin 1 → ℕ) x + S1.size x ≤ S2.size x)
      (hb : ∀ x, (![b] : Fin 1 → ℕ) x + S1.size x ≤ S2.size x), a = b →
      ((s.slice (Rect.unit (s := S2) ![a] S1.size ha)).squeeze S_ squeezes_S1_S_).sem
        = ((s.slice (Rect.unit (s := S2) ![b] S1.size hb)).squeeze S_ squeezes_S1_S_).sem := by
    rintro a _ ha hb rfl; rfl
  exact key _ _ _ _ h

theorem set_rlist (I : IRef) (p : ℕ) : (rlist I p).view.set = (islot I p).view.set := by
  show (((islot I p).view.slice (Rect.unit (s := S1x256) ![0, 0] S1x256.size inb_S1x256_S1x256_0_0)).reshape S256 squeezes_S1x256_S256.numel_eq).set = _
  rw [View.set_reshape, View.set_slice]
  have h : (Rect.unit (s := S1x256) ![0, 0] S1x256.size inb_S1x256_S1x256_0_0).set = Finset.univ := by
    ext j; simp only [Finset.mem_univ, iff_true]; rw [Rect.mem_set_unit]
    exact fun a => ⟨by fin_cases a <;> simp, lt_of_lt_of_le (j a).isLt (Nat.le_add_left _ _)⟩
  rw [h]; rfl
theorem set_tall (T : TRef) : (tall T).view.set = T.view.set := by
  show (T.view.slice (Rect.unit (s := S10000x128) ![0, 0] S10000x128.size inb_S10000x128_S10000x128_0_0)).set = _
  rw [View.set_slice]
  have h : (Rect.unit (s := S10000x128) ![0, 0] S10000x128.size inb_S10000x128_S10000x128_0_0).set = Finset.univ := by
    ext j; simp only [Finset.mem_univ, iff_true]; rw [Rect.mem_set_unit]
    exact fun a => ⟨by fin_cases a <;> simp, lt_of_lt_of_le (j a).isLt (Nat.le_add_left _ _)⟩
  rw [h]; rfl

end Cert.Proof.Gather
-- ==== Proof.Steps.lean ====
/-
  The seven memory operations of one trip, each at the block and slot it addresses, over any offsets equal to
  theirs: the fetch of a block of indices, the gather of the rows it names, the store of the rows, and the three
  waits.  What is in flight is stated by what it delivers.
-/
module

public import proofs.«01_k».proof.Proof.Base

@[expose] public section

noncomputable section

namespace Cert.Proof.Gather

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin τ.nSC) (j : Fin τ.nSub)
variable (T : TRef) (L : LRef) (O : ORef) (I : IRef) (R : RRef)

/-- What a block's transfer counts on its semaphore. -/
abbrev nI (I : IRef) : ℕ := (islot I 0).view.dmaCredit
abbrev nR (R : RRef) : ℕ := (rslot R 0).view.dmaCredit
abbrev nO (O : ORef) : ℕ := (oblk O 0).view.dmaCredit

variable (fT : Buf (Elt F) (T.view.loc (V d c j))) (fL : Buf (Elt F) (L.view.loc (V d c j)))
  (G : Buf (Elt F) (O.view.loc (V d c j)))

/-- Trip `p`'s index slot holds block `b` of the indices. -/
abbrev hasI (p b : ℕ) : sProp 𝕄 :=
  iprop(∃ f : Buf (Elt F) ((islot I p).view.loc (V d c j)), ⌜(islot I p).view.read (Elt F) f = (iblk L b).view.read (Elt F) fL⌝
    ∗ ((islot I p).view.loc (V d c j) ↦[(islot I p).view.set]{fullShare} f))
/-- Trip `p`'s index slot, at some contents. -/
abbrev freeI (p : ℕ) : sProp 𝕄 :=
  iprop(∃ f : Buf (Elt F) ((islot I p).view.loc (V d c j)), ((islot I p).view.loc (V d c j) ↦[(islot I p).view.set]{fullShare} f))
/-- Trip `p`'s row slot, at some contents. -/
abbrev freeR (p : ℕ) : sProp 𝕄 :=
  iprop(∃ f : Buf (Elt F) ((rslot R p).view.loc (V d c j)), ((rslot R p).view.loc (V d c j) ↦[(rslot R p).view.set]{fullShare} f))
/-- Block `b` of the indices. -/
abbrev ptsI (b : ℕ) : sProp 𝕄 := (iblk L b).view.loc (V d c j) ↦[(iblk L b).view.set]{fullShare} fL
/-- Block `b` of the result. -/
abbrev ptsO (b : ℕ) (f : Buf (Elt F) (O.view.loc (V d c j))) : sProp 𝕄 := (oblk O b).view.loc (V d c j) ↦[(oblk O b).view.set]{fullShare} f

/-- The fetch of index block `b` in flight to trip `p`'s slot. -/
abbrev flyI (s : DmaSems sig S2) (p b : ℕ) : sProp 𝕄 :=
  Transfers.Flight countersEmb (V d c j) (.dma (ssem s p)) (default : HIx 1) (nI I) iprop(hasI d c j L I fL p b ∗ ptsI d c j L fL b)
/-- The store of result block `b` in flight from trip `p`'s slot. -/
abbrev flyO (s : DmaSems sig S2) (p b : ℕ) : sProp 𝕄 :=
  Transfers.Flight countersEmb (V d c j) (.dma (ssem s p)) (default : HIx 1) (nO O) iprop(ptsO d c j O b G ∗ freeR d c j R p)

abbrev W1 {α : Type} (p : Prog (TpuEff nD τ sig (Elt F) Λ₀ (.scVector c j)) α) (Q : α → sProp 𝕄) : sProp 𝕄 :=
  wp frame (wpE (defs₀ (F := F)) 𝒱₀ (V d c j) none) Set.univ p Q

variable {d c j L I T O R fT fL G}

theorem step_fetch {s : DmaSems sig S2} {p b : ℕ} {o4 : Fin 3 → ℕ} {o5 : Fin 2 → ℕ} {o6 : Fin 1 → ℕ} {h4 h5 h6}
    (e4 : o4 = ![p % 2, 0, 0]) (e5 : o5 = ![0, 256 * (b % 625)]) (e6 : o6 = ![p % 2])
    {hsrc hdst hsem} {α : Type} {k : PUnit → Prog (TpuEff nD τ sig (Elt F) Λ₀ (.scVector c j)) α} {Q : α → sProp 𝕄} :
    iprop(ptsI d c j L fL b ∗ freeI d c j I p ∗ semVal (V d c j, SemLoc.dma (ssem s p)) 0)
      ⊢ iprop((flyI d c j L I fL s p b -∗ W1 d c j (k ⟨⟩) Q)
          -∗ W1 d c j (.op (.enqueueDma (L.slice (Rect.unit (s := S1x160000) o5 S1x256.size h5) (fun _ => rfl))
            (.here ((I.slice (Rect.unit (s := S2x1x256) o4 S1x1x256.size h4) (fun _ => rfl)).squeeze S1x256 squeezes_S1x1x256_S1x256))
            (.dma ((s.slice (Rect.unit (s := S2) o6 S1.size h6)).squeeze S_ squeezes_S1_S_).sem) hsrc hdst hsem) k) Q) := by
  subst e4 e5 e6
  iintro ⟨Hs, ⟨%f, Hd⟩, Hv⟩ Hk
  iapply (Transfers.wp_dmaLocal countersEmb 𝒱₀ (V d c j) none (src := iblk L b) (dst := islot I p) (sm := .dma (ssem s p))
    (default : HIx 1) (nI I) rfl (View.dmaCredit_pos _ (by decide)) (Finset.Subset.refl _)) $$ [Hs Hd Hv]
  · isplitl [Hs]; · iexact Hs
    isplitl [Hd]; · iexact Hd
    iexact Hv
  iintro Hf
  iapply Hk
  iapply (Transfers.Flight_mono countersEmb (V d c j) ?_) $$ Hf
  iintro ⟨Hd, Hs⟩
  isplitl [Hd]
  · iexists _
    isplitr; swap
    · iexact Hd
    · ipureintro; exact View.read_write_univ _ _
  · iexact Hs

/-- Position `y` of the one-dimensional list in the slot. -/
abbrev ridx (y : S256.Idx) : S1x256.Idx :=
  (Rect.unit (s := S1x256) ![0, 0] S1x256.size inb_S1x256_S1x256_0_0).emb (Shape.reshapeEquiv squeezes_S1x256_S256.numel_eq y)

theorem read_rlist (p : ℕ) (f : Buf (Elt F) ((islot I p).view.loc (V d c j))) (y : S256.Idx) :
    (rlist I p).view.read (Elt F) f y = (islot I p).view.read (Elt F) f (ridx y) := rfl

/-- Every index names a row of the table. -/
abbrev InRows (L : LRef) (fL : Buf (Elt F) (L.view.loc (V d c j))) : Prop :=
  ∀ b x, ((iblk L b).view.read (Elt F) fL x).toNat < S10000x128.size (gathers_S10000x128_S256x128).axis

/-- The rows block `b` of the indices names. -/
abbrev gatherOf (T : TRef) (L : LRef) (fT : Buf (Elt F) (T.view.loc (V d c j))) (fL : Buf (Elt F) (L.view.loc (V d c j)))
    (hin : InRows L fL) (b : ℕ) : S256x128.Idx → Elt F .f32 :=
  SparseCore.gatherPayload gathers_S10000x128_S256x128 ((tall T).view.read (Elt F) fT)
    (SparseCore.rows (si := S256) (fun y => (iblk L b).view.read (Elt F) fL (ridx y)) rfl (fun y => hin b (ridx y)))

/-- Trip `p`'s row slot holds block `b` of the goal. -/
abbrev hasR (d : Dev nD) (c : Fin τ.nSC) (j : Fin τ.nSub) (O : ORef) (R : RRef) (G : Buf (Elt F) (O.view.loc (V d c j))) (p b : ℕ) : sProp 𝕄 :=
  iprop(∃ f : Buf (Elt F) ((rslot R p).view.loc (V d c j)), ⌜(rslot R p).view.read (Elt F) f = (oblk O b).view.read (Elt F) G⌝
    ∗ ((rslot R p).view.loc (V d c j) ↦[(rslot R p).view.set]{fullShare} f))

/-- The table's read share. -/
abbrev ptsT (d : Dev nD) (c : Fin τ.nSC) (j : Fin τ.nSub) (T : TRef) (q : PosShare TreeShare) (fT : Buf (Elt F) (T.view.loc (V d c j))) : sProp 𝕄 :=
  (tall T).view.loc (V d c j) ↦[(tall T).view.set]{q} fT

variable {Oo : CellTallies nD τ sig (HIx 1)} {W W₀ : Waits sig (HIx 1)}

theorem step_waitI {s : DmaSems sig S2} {p : ℕ} {o9 : Fin 1 → ℕ} {h9} (e9 : o9 = ![p % 2]) {N : ℕ} {D : sProp 𝕄}
    {sw : Memref sig .scVector .hbm S1x256 .i32} {dw : Memref sig .scVector .vmem S1x256 .i32} (hN : dw.view.dmaCredit = N) {hsrc hdst}
    {α : Type} {k : PUnit → Prog (TpuEff nD τ sig (Elt F) Λ₀ (.scVector c j)) α} {Q : α → sProp 𝕄} :
    iprop(Transfers.Flight countersEmb (V d c j) (.dma (ssem s p)) (default : HIx 1) N D ∗ owes (V d c j) Oo W ∗ Transfers.MayWaits (V d c j) (default : HIx 1) Oo)
      ⊢ iprop(((D ∗ semVal (V d c j, SemLoc.dma (ssem s p)) 0 ∗ owes (V d c j) Oo (insert (SemLoc.dma (ssem s p), (default : HIx 1)) W)) -∗ W1 d c j (k ⟨⟩) Q)
          -∗ W1 d c j (.op (.waitDma2 ((s.slice (Rect.unit (s := S2) o9 S1.size h9)).squeeze S_ squeezes_S1_S_).sem sw dw hsrc hdst) k) Q) := by
  subst e9
  iintro ⟨Hf, HO, Hmw⟩ Hk
  iapply (Transfers.wp_waitLocalO countersEmb 𝒱₀ (V d c j) none (default : HIx 1) hN) $$ [Hf HO Hmw]
  · isplitl [Hf]; · iexact Hf
    isplitl [HO]; · iexact HO
    iapply (Transfers.MayWaits.elim (SemLoc.dma (ssem s p))) $$ Hmw
  iexact Hk

theorem step_waitO {s : DmaSems sig S2} {p : ℕ} {o9 : Fin 1 → ℕ} {h9} (e9 : o9 = ![p % 2]) {N : ℕ} {D : sProp 𝕄}
    {sw : Memref sig .scVector .vmem S256x128 .f32} {dw : Memref sig .scVector .hbm S256x128 .f32} (hN : dw.view.dmaCredit = N) {hsrc hdst}
    {α : Type} {k : PUnit → Prog (TpuEff nD τ sig (Elt F) Λ₀ (.scVector c j)) α} {Q : α → sProp 𝕄} :
    iprop(Transfers.Flight countersEmb (V d c j) (.dma (ssem s p)) (default : HIx 1) N D ∗ owes (V d c j) Oo W ∗ Transfers.MayWaits (V d c j) (default : HIx 1) Oo)
      ⊢ iprop(((D ∗ semVal (V d c j, SemLoc.dma (ssem s p)) 0 ∗ owes (V d c j) Oo (insert (SemLoc.dma (ssem s p), (default : HIx 1)) W)) -∗ W1 d c j (k ⟨⟩) Q)
          -∗ W1 d c j (.op (.waitDma2 ((s.slice (Rect.unit (s := S2) o9 S1.size h9)).squeeze S_ squeezes_S1_S_).sem sw dw hsrc hdst) k) Q) := by
  subst e9
  iintro ⟨Hf, HO, Hmw⟩ Hk
  iapply (Transfers.wp_waitLocalO countersEmb 𝒱₀ (V d c j) none (default : HIx 1) hN) $$ [Hf HO Hmw]
  · isplitl [Hf]; · iexact Hf
    isplitl [HO]; · iexact HO
    iapply (Transfers.MayWaits.elim (SemLoc.dma (ssem s p))) $$ Hmw
  iexact Hk

/-- The gather of the rows trip `p`'s index slot names, and its wait. -/
theorem step_gather {v : DmaSems sig S_} {p b : ℕ} {q : PosShare TreeShare} {o10 o11 o10' : Fin 3 → ℕ} {h10 h11 h10'}
    (e10 : o10 = ![p % 2, 0, 0]) (e11 : o11 = ![p % 2, 0, 0])
    (hin : InRows L fL) (hG : (oblk O b).view.read (Elt F) G = gatherOf T L fT fL hin b)
    {hp hn hsrc he hsp hr hsrc' hdst'}
    {α : Type} {k : PUnit → Prog (TpuEff nD τ sig (Elt F) Λ₀ (.scVector c j)) α} {Q : α → sProp 𝕄} :
    iprop(ptsT d c j T q fT ∗ freeR d c j R p ∗ hasI d c j L I fL p b ∗ semVal (V d c j, SemLoc.dma v.sem) 0
        ∗ owes (V d c j) Oo W ∗ Transfers.MayWaits (V d c j) (default : HIx 1) Oo)
      ⊢ iprop(((ptsT d c j T q fT ∗ hasR d c j O R G p b ∗ freeI d c j I p ∗ semVal (V d c j, SemLoc.dma v.sem) 0
              ∗ owes (V d c j) Oo (insert (SemLoc.dma v.sem, (default : HIx 1)) W)) -∗ W1 d c j (k ⟨⟩) Q)
          -∗ W1 d c j (SparseCore.enqueueIndirectGather (F := F) hp (tall T)
              ((R.slice (Rect.unit (s := S2x256x128) o10 S1x256x128.size h10) (fun _ => rfl)).squeeze S256x128 squeezes_S1x256x128_S256x128)
              gathers_S10000x128_S256x128
              ((((I.slice (Rect.unit (s := S2x1x256) o11 S1x1x256.size h11) (fun _ => rfl)).squeeze S1x256 squeezes_S1x1x256_S1x256).slice
                (Rect.unit (s := S1x256) ![0, 0] S1x256.size inb_S1x256_S1x256_0_0) (fun _ => rfl)).squeeze S256 squeezes_S1x256_S256)
              hn v.sem hsrc he hsp hr
            >>= fun _ => SparseCore.waitIndirectGather (F := F) v.sem (tall T)
              ((R.slice (Rect.unit (s := S2x256x128) o10' S1x256x128.size h10') (fun _ => rfl)).squeeze S256x128 squeezes_S1x256x128_S256x128) hsrc' hdst'
            >>= k) Q) := by
  subst e10 e11
  iintro ⟨HT, ⟨%fr, HR⟩, ⟨%fi, %hfi, HI⟩, Hv, HO, Hmw⟩ Hk
  have hrl : (fun y => (rlist I p).view.read (Elt F) fi y) = fun y => (iblk L b).view.read (Elt F) fL (ridx y) := by
    funext y; rw [read_rlist, hfi]
  have hin' : ∀ x, ((rlist I p).view.read (Elt F) fi x).toNat < S10000x128.size (gathers_S10000x128_S256x128).axis := fun x => by
    rw [show (rlist I p).view.read (Elt F) fi x = _ from congrFun hrl x]; exact hin b _
  ihave HI' := (Entails.of_eq (show ((islot I p).view.loc (V d c j) ↦[(islot I p).view.set]{fullShare} fi : sProp 𝕄)
      = (rlist I p).view.loc (V d c j) ↦[(rlist I p).view.set]{fullShare} fi by rw [set_rlist])) $$ HI
  iapply (SparseCore.wp_indirectGatherLocal countersEmb 𝒱₀ (V d c j) none (src := tall T) (dst := rslot R p) (offs := rlist I p) (sem := v.sem)
      (hg := gathers_S10000x128_S256x128) (default : HIx 1) (rslot R p).view.dmaCredit
      (SparseCore.sum_rowCredit_eq_dmaCredit (rslot R p) _ (fun _ => rfl)) (by decide) hin') $$ [HT HR HI' Hv]
  · isplitl [HT]; · iexact HT
    isplitl [HR]; · iexact HR
    isplitl [HI']; · iexact HI'
    iexact Hv
  iintro Hfl
  rw [show (SparseCore.waitIndirectGather (F := F) (p := .scVector c j) (Λ := Λ₀) (nD := nD) v.sem (tall T)
      ((R.slice (Rect.unit (s := S2x256x128) o10' S1x256x128.size h10') (fun _ => rfl)).squeeze S256x128 squeezes_S1x256x128_S256x128) hsrc' hdst' >>= k)
    = Prog.op (.waitDma2 v.sem (tall T) ((R.slice (Rect.unit (s := S2x256x128) o10' S1x256x128.size h10') (fun _ => rfl)).squeeze S256x128 squeezes_S1x256x128_S256x128) hsrc' hdst') k from rfl]
  iapply (Transfers.wp_waitLocalO countersEmb 𝒱₀ (V d c j) none (default : HIx 1)
    (rfl : ((R.slice (Rect.unit (s := S2x256x128) o10' S1x256x128.size h10') (fun _ => rfl)).squeeze S256x128 squeezes_S1x256x128_S256x128).view.dmaCredit = (rslot R p).view.dmaCredit)) $$ [Hfl HO Hmw]
  · isplitl [Hfl]; · iexact Hfl
    isplitl [HO]; · iexact HO
    iapply (Transfers.MayWaits.elim (SemLoc.dma v.sem)) $$ Hmw
  iintro ⟨⟨HR, HT, HI⟩, Hv, HO⟩
  iapply Hk
  isplitl [HT]; · iexact HT
  isplitl [HR]
  · iexists _
    isplitr; swap
    · iexact HR
    · ipureintro
      rw [View.read_write_univ, hG]
      unfold gatherOf
      congr 1
      funext x
      unfold SparseCore.rows
      apply Fin.ext
      exact congrArg BitVec.toNat (congrFun hrl _)
  isplitl [HI]
  · iexists fi
    iapply (Entails.of_eq (show ((islot I p).view.loc (V d c j) ↦[(islot I p).view.set]{fullShare} fi : sProp 𝕄)
      = (rlist I p).view.loc (V d c j) ↦[(rlist I p).view.set]{fullShare} fi by rw [set_rlist]).symm) $$ HI
  isplitl [Hv]; · iexact Hv
  iexact HO

theorem step_store {s : DmaSems sig S2} {p b : ℕ} {o12 : Fin 3 → ℕ} {o13 : Fin 2 → ℕ} {o14 : Fin 1 → ℕ} {h12 h13 h14}
    (e12 : o12 = ![p % 2, 0, 0]) (e13 : o13 = ![256 * (b % 625), 0]) (e14 : o14 = ![p % 2]) {fO : Buf (Elt F) (O.view.loc (V d c j))}
    {hsrc hdst hsem} {α : Type} {k : PUnit → Prog (TpuEff nD τ sig (Elt F) Λ₀ (.scVector c j)) α} {Q : α → sProp 𝕄} :
    iprop(hasR d c j O R G p b ∗ ptsO d c j O b fO ∗ semVal (V d c j, SemLoc.dma (ssem s p)) 0)
      ⊢ iprop((flyO d c j O R G s p b -∗ W1 d c j (k ⟨⟩) Q)
          -∗ W1 d c j (.op (.enqueueDma ((R.slice (Rect.unit (s := S2x256x128) o12 S1x256x128.size h12) (fun _ => rfl)).squeeze S256x128 squeezes_S1x256x128_S256x128)
            (.here (O.slice (Rect.unit (s := S160000x128) o13 S256x128.size h13) (fun _ => rfl)))
            (.dma ((s.slice (Rect.unit (s := S2) o14 S1.size h14)).squeeze S_ squeezes_S1_S_).sem) hsrc hdst hsem) k) Q) := by
  subst e12 e13 e14
  iintro ⟨⟨%f, %hf, Hs⟩, Hd, Hv⟩ Hk
  iapply (Transfers.wp_dmaLocal countersEmb 𝒱₀ (V d c j) none (src := rslot R p) (dst := oblk O b) (sm := .dma (ssem s p))
    (default : HIx 1) (nO O) rfl (View.dmaCredit_pos _ (by decide)) (Finset.Subset.refl _)) $$ [Hs Hd Hv]
  · isplitl [Hs]; · iexact Hs
    isplitl [Hd]; · iexact Hd
    iexact Hv
  iintro Hf
  iapply Hk
  iapply (Transfers.Flight_mono countersEmb (V d c j) ?_) $$ Hf
  iintro ⟨Hd, Hs⟩
  isplitl [Hd]
  · iapply (Entails.of_eq (pointsTo_congr ?_)) $$ Hd
    intro i hi
    show (oblk O b).view.write (Elt F) fO ((rslot R p).view.read (Elt F) f) Finset.univ i = G i
    rw [hf, View.write_read_eq_piecewise]
    exact Finset.piecewise_eq_of_mem _ _ _ hi
  · iexists _; iexact Hs

end Cert.Proof.Gather
-- ==== Proof.Tile.lean ====
/-
  One task of the row gather: over its blocks, trip `k` starts the fetch of block `k + 1`'s indices into the other
  slot, awaits block `k`'s, gathers the rows they name, starts their store, and awaits the store before; and the
  whole task by the invariant its trips keep.
-/
module

public import proofs.«01_k».proof.Proof.Steps
public import Idealize.SL.BI.BigOpNat

@[expose] public section

noncomputable section

namespace Cert.Proof.Gather

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Body

variable (d : Dev nD) (i : grid0.Coords)

abbrev cV (i : grid0.Coords) : Fin τ.nSC := (i 0).castLE hcore0
abbrev jV (i : grid0.Coords) : Fin τ.nSub := (i 1).castLE hsub0

variable (T : TRef) (L : LRef) (O : ORef) (I : IRef) (R : RRef) (s t : DmaSems sig S2) (v v' : DmaSems sig S_)
variable (fT : Buf (Elt F) (T.view.loc (V d (cV i) (jV i)))) (fL : Buf (Elt F) (L.view.loc (V d (cV i) (jV i))))
  (fO G : Buf (Elt F) (O.view.loc (V d (cV i) (jV i))))
variable (q : PosShare TreeShare) (Oo : CellTallies nD τ sig (HIx 1)) (W : Waits sig (HIx 1))

/-- A semaphore at zero. -/
abbrev zero (sm : DmaSem sig) : sProp 𝕄 := semVal (V d (cV i) (jV i), SemLoc.dma sm) 0

/-- The index block of trip `k` in its slot's fetch if there is such a trip; else slot and semaphore free. -/
abbrev maybeI (k : ℕ) : sProp 𝕄 :=
  if k < cnt i then flyI d (cV i) (jV i) L I fL s k (base i + k) else iprop(freeI d (cV i) (jV i) I k ∗ zero d i (ssem s k))
/-- The store of the trip before `k` in flight, if there is one; else its slot and semaphore free. -/
abbrev maybeO (k : ℕ) : sProp 𝕄 :=
  if 1 ≤ k then flyO d (cV i) (jV i) O R G t (k + 1) (base i + (k - 1)) else iprop(freeR d (cV i) (jV i) R (k + 1) ∗ zero d i (ssem t (k + 1)))

/-- The invariant: before trip `k`. -/
abbrev Inv (k : ℕ) (acc : BitVec 32 × BitVec 32 × BitVec 32 × BitVec 32 × BitVec 32) : sProp 𝕄 :=
  iprop(⌜acc = (w6 i k, w7 k, w7 k, w9 k, w10 i k)⌝
    ∗ ptsT d (cV i) (jV i) T q fT
    ∗ bigSep (Finset.Ico (base i) (base i + k)) (fun b => ptsI d (cV i) (jV i) L fL b)
    ∗ bigSep (Finset.Ico (base i + (k + 1)) (base i + cnt i)) (fun b => ptsI d (cV i) (jV i) L fL b)
    ∗ maybeI d i L I s fL k
    ∗ freeI d (cV i) (jV i) I (k + 1) ∗ zero d i (ssem s (k + 1))
    ∗ freeR d (cV i) (jV i) R k ∗ zero d i (ssem t k)
    ∗ maybeO d i O R t G k
    ∗ bigSep (Finset.Ico (base i + k) (base i + cnt i)) (fun b => ptsO d (cV i) (jV i) O b fO)
    ∗ bigSep (Finset.Ico (base i) (base i + (k - 1))) (fun b => ptsO d (cV i) (jV i) O b G)
    ∗ zero d i v.sem
    ∗ ∃ W', ⌜∀ p ∈ W', p ∈ W ∨ p.2 = none⌝ ∗ owes (V d (cV i) (jV i)) Oo W')

variable {d i T L O I R s t v v' fT fL fO G q Oo W}

theorem blk_lt (i : grid0.Coords) {k : ℕ} (h : k < cnt i) : base i + k < 625 := by
  have : ∀ i : grid0.Coords, base i + cnt i ≤ 625 := by decide +kernel
  have := this i
  omega

/-- What a trip's words say: the slots fetched count on, every block differs from the one after it, and from the one before it from trip `1` on. -/
theorem words1 (i : grid0.Coords) (k : Fin (k0_t1_loop i).trips) :
    Scalar.select (Scalar.andi
        (Scalar.andi (Scalar.cmpi .ne (Scalar.addi (w10 i k) (BitVec.ofNat 32 (base i)))
          (Scalar.addi (Scalar.select (Scalar.cmpi .eq (Scalar.select 1#1 (Scalar.addi (w10 i k) 1#32) (w10 i k)) (BitVec.ofNat 32 (cnt i))) 0#32
            (Scalar.select 1#1 (Scalar.addi (w10 i k) 1#32) (w10 i k))) (BitVec.ofNat 32 (base i))))
          (Scalar.xori (Scalar.cmpi .sge (Scf.iv 0#32 1#32 k) (Scalar.addi (Scalar.subi (Scalar.muli 1#32 (BitVec.ofNat 32 (cnt i))) 2#32) 1#32)) 1#1)) 1#1)
        (Scalar.addi (w6 i k) 1#32) (w6 i k) = w6 i (k.val + 1)
      ∧ Scalar.ori (Scalar.cmpi .ne (Scalar.addi (w10 i k) (BitVec.ofNat 32 (base i)))
          (Scalar.addi (Scalar.select (Scalar.cmpi .eq (Scalar.select 1#1 (Scalar.addi (w10 i k) 1#32) (w10 i k)) (BitVec.ofNat 32 (cnt i))) 0#32
            (Scalar.select 1#1 (Scalar.addi (w10 i k) 1#32) (w10 i k))) (BitVec.ofNat 32 (base i))))
          (Scalar.cmpi .eq (Scf.iv 0#32 1#32 k) (Scalar.subi (Scalar.muli 1#32 (BitVec.ofNat 32 (cnt i))) 1#32)) = 1#1
      ∧ Scalar.andi (Scalar.cmpi .ne (Scalar.addi (w10 i k) (BitVec.ofNat 32 (base i)))
          (Scalar.addi (Scalar.select (Scalar.cmpi .eq (Scalar.select 1#1 (Scalar.subi (w10 i k) 1#32) (w10 i k)) 4294967295#32)
            (Scalar.subi (BitVec.ofNat 32 (cnt i)) 1#32) (Scalar.select 1#1 (Scalar.subi (w10 i k) 1#32) (w10 i k))) (BitVec.ofNat 32 (base i))))
          (Scalar.xori (Scalar.cmpi .eq (Scf.iv 0#32 1#32 k) 0#32) 1#1) = if 1 ≤ k.val then 1#1 else 0#1 := by
  revert k; revert i; decide +kernel

/-- The fetch of the next trip's indices, if there is a next trip. -/
theorem part1 {hT hL hO hI hR h1 x} (k : Fin (k0_t1_loop i).trips) (hx : x = 0#32)
    {Φ : (Σ' (k0_hw3 : k0_chk3 i (w7 k)) (k0_hw2 : k0_chk2 i (w7 k)) (k0_hw1 : k0_chk1 i k (w6 i k) (w7 k) (w7 k) (w9 k) (w10 i k)) (arg5_r0 : BitVec 32) (v80_r0 : BitVec 32) (v81_r0 : BitVec 1) (v83_r0 : BitVec 1) (v84_r0 : BitVec 32) (v90_r0 : BitVec 32) (v95_r0 : BitVec 32) (v112_r0 : BitVec 32) (v113_r0 : BitVec 1), BitVec 32) → sProp 𝕄} :
    iprop(bigSep (Finset.Ico (base i + (k.val + 1)) (base i + cnt i)) (fun b => ptsI d (cV i) (jV i) L fL b)
        ∗ freeI d (cV i) (jV i) I (k.val + 1) ∗ zero d i (ssem s (k.val + 1)))
      ⊢ iprop((∀ c3 c2 c1 a5 v80 v81 v83 v84 v90 v95 v112 v113 c,
            ⌜v112 = w6 i (k.val + 1) ∧ Scalar.ori (Scalar.cmpi .ne v84 v95) v83 = 1#1
              ∧ Scalar.andi (Scalar.cmpi .ne v84 v90) (Scalar.xori v81 1#1) = if 1 ≤ k.val then 1#1 else 0#1⌝ -∗
            (bigSep (Finset.Ico (base i + (k.val + 1 + 1)) (base i + cnt i)) (fun b => ptsI d (cV i) (jV i) L fL b)
              ∗ maybeI d i L I s fL (k.val + 1)) -∗
            Φ ⟨c3, c2, c1, a5, v80, v81, v83, v84, v90, v95, v112, v113, c⟩)
          -∗ W1 d (cV i) (jV i) (k0_part1 (F := F) i T hT L hL O hO I hI s R hR t v v' (BitVec.ofNat 32 (cnt i)) (BitVec.ofNat 32 (base i)) h1 x 1#32 k
              (w6 i k) (w7 k) (w7 k) (w9 k) (w10 i k)) Φ) := by
  subst hx
  rw [k0_part1_eq_skeleton]
  unfold k0_part1_skel
  simp -proj only [Prog.bind_lift, Prog.bind_ret, Prog.pure_eq_ret, Prog.bind_op]
  iintro ⟨HLt, HfI, HsI⟩ Hk
  iapply (wp_assume _ _ _ _ (chk3_ok i k))
  iapply (wp_assume _ _ _ _ (chk2_ok i k))
  iapply (wp_assume _ _ _ _ (chk1_ok i k))
  by_cases hk : k.val + 1 < cnt i
  · rw [dif_pos (by rw [cond3_eq, if_pos hk])]
    ihave HLt := (Entails.of_eq (bigSep_Ico_succ_bot (by omega : base i + (k.val + 1) < base i + cnt i) _)) $$ HLt
    icases HLt with ⟨HL, HLt⟩
    iapply (step_fetch (p := k.val + 1) (b := base i + (k.val + 1)) (off4_eq i k hk)
      (by rw [off5_eq i k hk, Nat.mod_eq_of_lt (blk_lt i hk)]) (off6_eq i k hk)) $$ [HL HfI HsI]
    · isplitl [HL]; · iexact HL
      isplitl [HfI]; · iexact HfI
      iexact HsI
    iintro Hf
    rw [W1, wp_ret]
    imodintro
    iapply Hk $$ %_ %_ %_ %_ %_ %_ %_ %_ %_ %_ %_ %_ %_ [] [HLt Hf]
    · ipureintro
      exact words1 i k
    · isplitl [HLt]; · iexact HLt
      rw [maybeI, if_pos hk]
      iexact Hf
  · rw [dif_neg (by rw [cond3_eq, if_neg hk]; decide)]
    rw [wp_ret]
    imodintro
    iapply Hk $$ %_ %_ %_ %_ %_ %_ %_ %_ %_ %_ %_ %_ %_ [] [HLt HfI HsI]
    · ipureintro
      exact words1 i k
    · isplitl [HLt]
      · rw [Finset.Ico_eq_empty (by omega), Finset.Ico_eq_empty (by omega)]
        iexact HLt
      rw [maybeI, if_neg hk]
      isplitl [HfI]; · iexact HfI
      iexact HsI

theorem freeI_congr {p p' : ℕ} (h : p % 2 = p' % 2) : freeI (F := F) d (cV i) (jV i) I p = freeI d (cV i) (jV i) I p' :=
  congrArg (fun m : Memref sig .scVector .vmem S1x256 .i32 =>
    (iprop(∃ f : Buf (Elt F) (m.view.loc (V d (cV i) (jV i))), (m.view.loc (V d (cV i) (jV i)) ↦[m.view.set]{fullShare} f)) : sProp 𝕄))
    (islot_congr I h)

theorem freeR_congr {p p' : ℕ} (h : p % 2 = p' % 2) : freeR (F := F) d (cV i) (jV i) R p = freeR d (cV i) (jV i) R p' :=
  congrArg (fun m : Memref sig .scVector .vmem S256x128 .f32 =>
    (iprop(∃ f : Buf (Elt F) (m.view.loc (V d (cV i) (jV i))), (m.view.loc (V d (cV i) (jV i)) ↦[m.view.set]{fullShare} f)) : sProp 𝕄))
    (rslot_congr R h)

theorem flyO_congr {p p' b : ℕ} (h : p % 2 = p' % 2) : flyO d (cV i) (jV i) O R G t p b = flyO d (cV i) (jV i) O R G t p' b := by
  unfold flyO
  rw [freeR_congr h, ssem_congr t h]

/-- The words carried to the next trip. -/
theorem words2 (i : grid0.Coords) (k : Fin (k0_t1_loop i).trips) :
    Scalar.select (Scalar.andi 1#1 1#1) (Scalar.addi (w7 k) 1#32) (w7 k) = w7 (k.val + 1)
      ∧ Scalar.select 1#1 (Scalar.addi (w7 k) 1#32) (w7 k) = w7 (k.val + 1)
      ∧ Scalar.select (Scalar.andi (if 1 ≤ k.val then 1#1 else 0#1) 1#1) (Scalar.addi (w9 k) 1#32) (w9 k) = w9 (k.val + 1)
      ∧ Scalar.select (Scalar.cmpi .eq (Scalar.select 1#1 (Scalar.addi (w10 i k) 1#32) (w10 i k)) (BitVec.ofNat 32 (cnt i))) 0#32
          (Scalar.select 1#1 (Scalar.addi (w10 i k) 1#32) (w10 i k)) = w10 i (k.val + 1) := by
  revert k; revert i; decide +kernel

/-- What the invariant is made of after a trip. -/
theorem nextInv (k : ℕ) :
    iprop(ptsT d (cV i) (jV i) T q fT
        ∗ (ptsI d (cV i) (jV i) L fL (base i + k) ∗ bigSep (Finset.Ico (base i) (base i + k)) (fun b => ptsI d (cV i) (jV i) L fL b))
        ∗ bigSep (Finset.Ico (base i + (k + 1 + 1)) (base i + cnt i)) (fun b => ptsI d (cV i) (jV i) L fL b)
        ∗ maybeI d i L I s fL (k + 1)
        ∗ freeI d (cV i) (jV i) I k ∗ zero d i (ssem s k)
        ∗ freeR d (cV i) (jV i) R (k + 1) ∗ zero d i (ssem t (k + 1))
        ∗ flyO d (cV i) (jV i) O R G t k (base i + k)
        ∗ bigSep (Finset.Ico (base i + k + 1) (base i + cnt i)) (fun b => ptsO d (cV i) (jV i) O b fO)
        ∗ bigSep (Finset.Ico (base i) (base i + k)) (fun b => ptsO d (cV i) (jV i) O b G)
        ∗ zero d i v.sem ∗ ∃ W', ⌜∀ p ∈ W', p ∈ W ∨ p.2 = none⌝ ∗ owes (V d (cV i) (jV i)) Oo W')
      ⊢ Inv d i T L O I R s t v fT fL fO G q Oo W (k + 1) (w6 i (k + 1), w7 (k + 1), w7 (k + 1), w9 (k + 1), w10 i (k + 1)) := by
  unfold Inv
  iintro ⟨HT, HL, HLt, HfI, HI, Hs, HR, Ht, HfO, HOt, HOd, Hv, HO⟩
  isplitr
  · ipureintro; rfl
  isplitl [HT]; · iexact HT
  isplitl [HL]
  · iapply (Entails.of_eq (bigSep_Ico_succ_top (Nat.le_add_right (base i) k) _).symm) $$ HL
  isplitl [HLt]; · iexact HLt
  isplitl [HfI]; · iexact HfI
  isplitl [HI]
  · rw [freeI_congr (p := k + 1 + 1) (p' := k) (by omega)]; iexact HI
  isplitl [Hs]
  · rw [ssem_congr s (p := k + 1 + 1) (q := k) (by omega)]; iexact Hs
  isplitl [HR]; · iexact HR
  isplitl [Ht]; · iexact Ht
  isplitl [HfO]
  · rw [maybeO, if_pos (Nat.le_add_left 1 k), flyO_congr (p := k + 1 + 1) (p' := k) (by omega), Nat.add_sub_cancel]; iexact HfO
  isplitl [HOt]; · iexact HOt
  isplitl [HOd]; · iexact HOd
  isplitl [Hv]; · iexact Hv
  iexact HO

theorem trip (hin : InRows L fL) (hG : ∀ b, (oblk O b).view.read (Elt F) G = gatherOf T L fT fL hin b)
    {hT hL hO hI hR v5 v10 v11 h1 x1 x2 x3 x4 x5 x6 x7} (hv5 : v5 = BitVec.ofNat 32 (cnt i)) (hv10 : v10 = BitVec.ofNat 32 (base i)) (hx : x2 = 0#32)
    (k : Fin (k0_t1_loop i).trips) (acc : BitVec 32 × BitVec 32 × BitVec 32 × BitVec 32 × BitVec 32) :
    iprop(Transfers.MayWaits (V d (cV i) (jV i)) (default : HIx 1) Oo ∗ Inv d i T L O I R s t v fT fL fO G q Oo W k.val acc)
      ⊢ W1 d (cV i) (jV i) (k0_t1_body (F := F) i T hT L hL O hO I hI s R hR t v v' v5 v10 v11 h1 x1 x2 x3 x4 x5 x6 x7 k acc)
          (fun acc' => iprop(Transfers.MayWaits (V d (cV i) (jV i)) (default : HIx 1) Oo ∗ Inv d i T L O I R s t v fT fL fO G q Oo W (k.val + 1) acc')) := by
  subst hv5 hv10
  have hk : k.val < cnt i := lt_of_lt_of_eq k.isLt (trips_eq i)
  have hb := blk_lt i hk
  iintro ⟨#Hmw, %ha, HT, HLd, HLt, HfI, HI, Hs, HR, Ht, HfO, HOt, HOd, Hv, %W', %hW, HO⟩
  subst ha
  unfold k0_t1_body
  rw [W1, wp_bind]
  iapply (part1 (L := L) (I := I) (s := s) (fL := fL) k hx) $$ [HLt HI Hs]
  · isplitl [HLt]; · iexact HLt
    isplitl [HI]; · iexact HI
    iexact Hs
  iintro %c3 %c2 %c1 %a5 %v80 %v81 %v83 %v84 %v90 %v95 %v112 %v113 %c %hw ⟨HLt, HfI'⟩
  obtain ⟨hw1, hw2, hw3⟩ := hw
  rw [k0_part2_eq_skeleton]
  unfold k0_part2_skel
  simp -proj only [dif_pos (cond4_eq i k), dif_pos (cond7_eq i k), ite_self, Prog.bind_assoc, Prog.bind_lift, Prog.bind_ret, Prog.pure_eq_ret, Prog.bind_op]
  rw [hw1, hw2, hw3, (words2 i k).1, (words2 i k).2.1, (words2 i k).2.2.1, (words2 i k).2.2.2]
  ihave HfI := (Entails.of_eq (if_pos hk)) $$ HfI
  iapply (step_waitI (p := k.val) (off9_eq i k) rfl) $$ [HfI HO]
  · isplitl [HfI]; · iexact HfI
    isplitl [HO]; · iexact HO
    iexact Hmw
  iintro ⟨⟨HhI, HLb⟩, Hs, HO⟩
  iapply (step_gather (p := k.val) (b := base i + k.val) (off10_eq i k) (off11_eq i k) hin (hG _)) $$ [HT HR HhI Hv HO]
  · isplitl [HT]; · iexact HT
    isplitl [HR]; · iexact HR
    isplitl [HhI]; · iexact HhI
    isplitl [Hv]; · iexact Hv
    isplitl [HO]; · iexact HO
    iexact Hmw
  iintro ⟨HT, HR, HI, Hv, HO⟩
  ihave HOt := (Entails.of_eq (bigSep_Ico_succ_bot (by omega : base i + k.val < base i + cnt i) _)) $$ HOt
  icases HOt with ⟨HOb, HOt⟩
  iapply (step_store (p := k.val) (b := base i + k.val) (off12_eq i k) (by rw [off13_eq i k, Nat.mod_eq_of_lt hb]) (off14_eq i k)) $$ [HR HOb Ht]
  · isplitl [HR]; · iexact HR
    isplitl [HOb]; · iexact HOb
    iexact Ht
  iintro HfO'
  by_cases h1k : 1 ≤ k.val
  · rw [dif_pos (by rw [cond9_eq, if_pos h1k])]
    ihave HfO := (Entails.of_eq (if_pos h1k)) $$ HfO
    iapply (step_waitO (p := k.val + 1) (by rw [off17_eq i k h1k, show (k.val - 1) % 2 = (k.val + 1) % 2 by omega]) rfl) $$ [HfO HO]
    · isplitl [HfO]; · iexact HfO
      isplitl [HO]; · iexact HO
      iexact Hmw
    iintro ⟨⟨HOb, HR⟩, Ht, HO⟩
    rw [W1, wp_ret]
    imodintro
    isplitr
    · iexact Hmw
    iapply (nextInv k.val)
    isplitl [HT]; · iexact HT
    isplitl [HLb HLd]
    · isplitl [HLb]; · iexact HLb
      iexact HLd
    isplitl [HLt]; · iexact HLt
    isplitl [HfI']; · iexact HfI'
    isplitl [HI]; · iexact HI
    isplitl [Hs]; · iexact Hs
    isplitl [HR]; · iexact HR
    isplitl [Ht]; · iexact Ht
    isplitl [HfO']; · iexact HfO'
    isplitl [HOt]; · iexact HOt
    isplitl [HOb HOd]
    · rw [show base i + k.val = base i + (k.val - 1) + 1 by omega]
      iapply (Entails.of_eq (bigSep_Ico_succ_top (Nat.le_add_right (base i) (k.val - 1)) _).symm)
      isplitl [HOb]; · iexact HOb
      iexact HOd
    isplitl [Hv]; · iexact Hv
    iexists _
    isplitr; swap
    · iexact HO
    ipureintro
    simp only [Finset.mem_insert]
    rintro p (rfl | rfl | rfl | h)
    · exact .inr rfl
    · exact .inr rfl
    · exact .inr rfl
    · exact hW p h
  · rw [dif_neg (by rw [cond9_eq, if_neg h1k]; decide)]
    ihave HfO := (Entails.of_eq (if_neg h1k)) $$ HfO
    icases HfO with ⟨HR, Ht⟩
    rw [W1, wp_ret]
    imodintro
    isplitr
    · iexact Hmw
    iapply (nextInv k.val)
    isplitl [HT]; · iexact HT
    isplitl [HLb HLd]
    · isplitl [HLb]; · iexact HLb
      iexact HLd
    isplitl [HLt]; · iexact HLt
    isplitl [HfI']; · iexact HfI'
    isplitl [HI]; · iexact HI
    isplitl [Hs]; · iexact Hs
    isplitl [HR]; · iexact HR
    isplitl [Ht]; · iexact Ht
    isplitl [HfO']; · iexact HfO'
    isplitl [HOt]; · iexact HOt
    isplitl [HOd]
    · rw [show k.val - 1 = k.val by omega]
      iexact HOd
    isplitl [Hv]; · iexact Hv
    iexists _
    isplitr; swap
    · iexact HO
    ipureintro
    simp only [Finset.mem_insert]
    rintro p (rfl | rfl | h)
    · exact .inr rfl
    · exact .inr rfl
    · exact hW p h

/-- The words the task counts its blocks by. -/
theorem words0 (i : grid0.Coords) :
    Scalar.select (Scalar.cmpi .slt (Scalar.addi (Scalar.addi 0#32 (Scalar.muli (BitVec.ofNat 32 (i 1).val) 1#32)) (Scalar.muli (BitVec.ofNat 32 (i 0).val) 16#32)) 17#32)
        20#32 19#32 = BitVec.ofNat 32 (cnt i)
      ∧ Scalar.select (Scalar.cmpi .slt (Scalar.addi (Scalar.addi 0#32 (Scalar.muli (BitVec.ofNat 32 (i 1).val) 1#32)) (Scalar.muli (BitVec.ofNat 32 (i 0).val) 16#32)) 17#32)
        (Scalar.muli (Scalar.addi (Scalar.addi 0#32 (Scalar.muli (BitVec.ofNat 32 (i 1).val) 1#32)) (Scalar.muli (BitVec.ofNat 32 (i 0).val) 16#32)) (BitVec.ofNat 32 (cnt i)))
        (Scalar.addi (Scalar.muli (Scalar.addi (Scalar.addi 0#32 (Scalar.muli (BitVec.ofNat 32 (i 1).val) 1#32)) (Scalar.muli (BitVec.ofNat 32 (i 0).val) 16#32)) 19#32) 17#32)
        = BitVec.ofNat 32 (base i)
      ∧ Scalar.select (Scalar.andi 1#1 (Scalar.cmpi .sgt (Scalar.muli 1#32 (BitVec.ofNat 32 (cnt i))) 0#32)) (Scalar.addi 0#32 1#32) 0#32 = w6 i 0
      ∧ (0#32, 0#32, 0#32, 0#32) = (w7 0, w7 0, w9 0, w10 i 0) := by
  revert i; decide +kernel

/-- Two slots next to each other are both slots. -/
theorem bothSlots (P : ℕ → sProp 𝕄) (hP : ∀ p q, p % 2 = q % 2 → P p = P q) (n : ℕ) :
    iprop(P n ∗ P (n + 1)) ⊢ iprop(P 0 ∗ P 1) := by
  rcases Nat.mod_two_eq_zero_or_one n with h | h
  · rw [hP n 0 h, hP (n + 1) 1 (by omega)]
  · rw [hP n 1 h, hP (n + 1) 0 (by omega)]
    iintro ⟨H1, H0⟩
    isplitl [H0]; · iexact H0
    iexact H1

/-- The whole task: every one of its blocks of the result is made the gathered rows. -/
theorem body (hin : InRows L fL) (hG : ∀ b, (oblk O b).view.read (Elt F) G = gatherOf T L fT fL hin b) {hT hL hO hI hR} :
    iprop(Transfers.MayWaits (V d (cV i) (jV i)) (default : HIx 1) Oo
        ∗ ptsT d (cV i) (jV i) T q fT
        ∗ bigSep (Finset.Ico (base i) (base i + cnt i)) (fun b => ptsI d (cV i) (jV i) L fL b)
        ∗ bigSep (Finset.Ico (base i) (base i + cnt i)) (fun b => ptsO d (cV i) (jV i) O b fO)
        ∗ (freeI d (cV i) (jV i) I 0 ∗ freeI d (cV i) (jV i) I 1) ∗ (freeR d (cV i) (jV i) R 0 ∗ freeR d (cV i) (jV i) R 1)
        ∗ (zero d i (ssem s 0) ∗ zero d i (ssem s 1)) ∗ (zero d i (ssem t 0) ∗ zero d i (ssem t 1)) ∗ zero d i v.sem
        ∗ owes (V d (cV i) (jV i)) Oo W)
      ⊢ W1 d (cV i) (jV i) (cc0_k (F := F) i T hT L hL O hO I hI s R hR t v v')
          (fun _ => iprop(ptsT d (cV i) (jV i) T q fT
            ∗ bigSep (Finset.Ico (base i) (base i + cnt i)) (fun b => ptsI d (cV i) (jV i) L fL b)
            ∗ bigSep (Finset.Ico (base i) (base i + cnt i)) (fun b => ptsO d (cV i) (jV i) O b G)
            ∗ (freeI d (cV i) (jV i) I 0 ∗ freeI d (cV i) (jV i) I 1) ∗ (freeR d (cV i) (jV i) R 0 ∗ freeR d (cV i) (jV i) R 1)
            ∗ (zero d i (ssem s 0) ∗ zero d i (ssem s 1)) ∗ (zero d i (ssem t 0) ∗ zero d i (ssem t 1)) ∗ zero d i v.sem
            ∗ ∃ W', ⌜∀ p ∈ W', p ∈ W ∨ p.2 = none⌝ ∗ owes (V d (cV i) (jV i)) Oo W')) := by
  have hc : 0 < cnt i := by unfold cnt; split <;> decide
  iintro ⟨#Hmw, HT, HL, HOt, ⟨HI0, HI1⟩, ⟨HR0, HR1⟩, ⟨Hs0, Hs1⟩, ⟨Ht0, Ht1⟩, Hv, HO⟩
  rw [cc0_k_eq_skeleton]
  unfold cc0_k_skel
  simp -proj only [dif_pos (cond1_eq i), k0_part5_eq_skeleton, k0_part6_eq_skeleton]
  rw [(words0 i).1, (words0 i).2.1]
  unfold k0_part5_skel k0_part6_skel
  simp -proj only [dif_pos (cond2_eq i), dif_pos (cond18_eq i), ite_self, dite_eq_ite, Prog.bind_assoc, Prog.bind_lift, Prog.bind_ret, Prog.pure_eq_ret, Prog.bind_op]
  ihave HL := (Entails.of_eq (bigSep_Ico_succ_bot (by omega : base i < base i + cnt i) _)) $$ HL
  icases HL with ⟨HLb, HLt⟩
  iapply (step_fetch (p := 0) (b := base i) rfl
    (by rw [off2_eq i, Nat.mod_eq_of_lt (show base i < 625 from blk_lt i hc)]) rfl) $$ [HLb HI0 Hs0]
  · isplitl [HLb]; · iexact HLb
    isplitl [HI0]; · iexact HI0
    iexact Hs0
  iintro Hf
  iapply (Scf.wp_for_bind _ _ _ _ _ _ (k0_t1_ok i (cond1_eq i)) _ _
    (fun k acc => iprop(Transfers.MayWaits (V d (cV i) (jV i)) (default : HIx 1) Oo ∗ Inv d i T L O I R s t v fT fL fO G q Oo W k acc))
    (trip hin hG rfl rfl rfl)) $$ [HT HLt Hf HI1 Hs1 HR0 HR1 Ht0 Ht1 HOt Hv HO]
  · isplitr
    · iexact Hmw
    isplitr
    · ipureintro; exact Prod.ext (words0 i).2.2.1 (words0 i).2.2.2
    isplitl [HT]; · iexact HT
    isplitr
    · rw [Nat.add_zero, Finset.Ico_self]; iapply (Entails.of_eq bigSep_empty.symm); iempintro
    isplitl [HLt]; · iexact HLt
    isplitl [Hf]
    · rw [maybeI, if_pos hc]; iexact Hf
    isplitl [HI1]; · iexact HI1
    isplitl [Hs1]; · iexact Hs1
    isplitl [HR0]; · iexact HR0
    isplitl [Ht0]; · iexact Ht0
    isplitl [HR1 Ht1]
    · rw [maybeO, if_neg (by decide)]
      isplitl [HR1]; · iexact HR1
      iexact Ht1
    isplitl [HOt]; · iexact HOt
    isplitr
    · rw [Nat.zero_sub, Nat.add_zero, Finset.Ico_self]; iapply (Entails.of_eq bigSep_empty.symm); iempintro
    isplitl [Hv]; · iexact Hv
    iexists W
    isplitr
    · ipureintro; exact fun p h => .inl h
    · iexact HO
  iintro %acc ⟨-, HI⟩
  ihave HI := (Entails.of_eq (congrArg (fun n => Inv d i T L O I R s t v fT fL fO G q Oo W n acc) (trips_eq i))) $$ HI
  icases HI with ⟨%ha, HT, HLd, -, HfI, HI1, Hs1, HR, Ht, HfO, -, HOd, Hv, %W', %hW, HO⟩
  subst ha
  iapply (Scf.wp_for_bind _ _ _ _ _ _ (k0_t2_ok i (cond1_eq i)) _ _
    (fun _ acc => iprop(⌜acc = (w6 i (cnt i), w7 (cnt i), w7 (cnt i), w9 (cnt i), w10 i (cnt i))⌝))
    (fun k => absurd (lt_of_lt_of_eq k.isLt (trips2_eq i)) (Nat.not_lt_zero _))) $$ []
  · ipureintro; rfl
  iintro %acc %ha
  subst ha
  iapply (wp_assume _ _ _ _ (chk8_ok i))
  iapply (wp_assume _ _ _ _ (chk7_ok i))
  ihave HfI := (Entails.of_eq (if_neg (lt_irrefl _))) $$ HfI
  icases HfI with ⟨HI0, Hs0⟩
  ihave HfO := (Entails.of_eq (if_pos (show 1 ≤ cnt i from hc))) $$ HfO
  iapply (step_waitO (p := cnt i + 1) (by rw [off34_eq i, show (cnt i - 1) % 2 = (cnt i + 1) % 2 by omega]) rfl) $$ [HfO HO]
  · isplitl [HfO]; · iexact HfO
    isplitl [HO]; · iexact HO
    iexact Hmw
  iintro ⟨⟨HOb, HR1⟩, Ht1, HO⟩
  rw [W1, wp_ret]
  imodintro
  isplitl [HT]; · iexact HT
  isplitl [HLd]; · iexact HLd
  isplitl [HOb HOd]
  · rw [show base i + cnt i = base i + (cnt i - 1) + 1 by omega]
    iapply (Entails.of_eq (bigSep_Ico_succ_top (Nat.le_add_right (base i) (cnt i - 1)) _).symm)
    isplitl [HOb]; · iexact HOb
    iexact HOd
  isplitl [HI0 HI1]
  · iapply (bothSlots (fun p => freeI (F := F) d (cV i) (jV i) I p) (fun _ _ h => freeI_congr h) (cnt i))
    isplitl [HI0]; · iexact HI0
    iexact HI1
  isplitl [HR HR1]
  · iapply (bothSlots (fun p => freeR (F := F) d (cV i) (jV i) R p) (fun _ _ h => freeR_congr h) (cnt i))
    isplitl [HR]; · iexact HR
    iexact HR1
  isplitl [Hs0 Hs1]
  · iapply (bothSlots (fun p => zero (F := F) d i (ssem s p)) (fun _ _ h => by rw [ssem_congr s h]) (cnt i))
    isplitl [Hs0]; · iexact Hs0
    iexact Hs1
  isplitl [Ht Ht1]
  · iapply (bothSlots (fun p => zero (F := F) d i (ssem t p)) (fun _ _ h => by rw [ssem_congr t h]) (cnt i))
    isplitl [Ht]; · iexact Ht
    iexact Ht1
  isplitl [Hv]; · iexact Hv
  iexists _
  isplitr; swap
  · iexact HO
  · ipureintro
    simp only [Finset.mem_insert]
    rintro p (rfl | h)
    · exact .inr rfl
    · exact hW p h

end Body

end Cert.Proof.Gather
-- ==== Proof.Blocks.lean ====
/-
  How the arrays are dealt to the 32 tasks.  The index list and the result are cut into 625 blocks of 256; the
  tasks' runs of blocks partition them.  The table is dealt in 32 read shares.  Each scratch array is its two
  slots.  Then the whole result the tasks build between them, and that block `b` of it is the gathered rows of
  block `b` of the indices.
-/
module

public import proofs.«01_k».proof.Proof.Tile

@[expose] public section

noncomputable section

namespace Cert.Proof.Gather

open Cert.KernelIdeal Cert.KernelIdeal.Gen Cert.Proof.Words
open Idealize.ShloMosaic
open Idealize.ShloMosaic.ShareLeaves (leaf pointsTo_leaves)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The tasks and the arrays they address -/

/-- The task on subcore `s` of SparseCore `c`. -/
def task (c : Fin 2) (s : Fin 16) : grid0.Coords :=
  fun | 0 => c | 1 => s | ⟨_ + 2, h⟩ => absurd h (Nat.not_lt.2 (Nat.le_add_left _ _))

theorem wid_task (c : Fin 2) (s : Fin 16) : wid (task c s) = s.val + 16 * c.val := rfl

abbrev aT : TRef := Memref.whole main_arg0_scv
abbrev aL : LRef := Memref.whole main_v1_scv
abbrev aO : ORef := Memref.whole main_v2_scv
abbrev aI : IRef := Memref.whole cc0_scoped0
abbrev aR : RRef := Memref.whole cc0_scoped2

/-! ## Blocks -/

abbrev iset (b : ℕ) : Finset S1x160000.Idx := (iblk aL b).view.set
abbrev oset (b : ℕ) : Finset S160000x128.Idx := (oblk aO b).view.set

theorem mem_iset {b : ℕ} (h : b < 625) (x : S1x160000.Idx) : x ∈ iset b ↔ (x 1).val / 256 = b := by
  have e : iset b = (Rect.unit (s := S1x160000) ![0, 256 * (b % 625)] S1x256.size (blkI_inb b)).set := by
    show ((View.whole (main_v1_scv : Ref sig .scVector)).slice _).set = _
    rw [View.set_slice]; exact Finset.map_refl
  rw [e, Rect.mem_set_unit, Fin.forall_fin_two, Nat.mod_eq_of_lt h]
  have h0 : (x 0).val = 0 := Nat.lt_one_iff.mp (x 0).isLt
  simp only [Matrix.cons_val_zero, Matrix.cons_val_one, h0]
  show (0 ≤ 0 ∧ 0 < 0 + 1) ∧ (256 * b ≤ (x 1).val ∧ (x 1).val < 256 * b + 256) ↔ _
  omega

theorem mem_oset {b : ℕ} (h : b < 625) (x : S160000x128.Idx) : x ∈ oset b ↔ (x 0).val / 256 = b := by
  have e : oset b = (Rect.unit (s := S160000x128) ![256 * (b % 625), 0] S256x128.size (blkR_inb b)).set := by
    show ((View.whole (main_v2_scv : Ref sig .scVector)).slice _).set = _
    rw [View.set_slice]; exact Finset.map_refl
  rw [e, Rect.mem_set_unit, Fin.forall_fin_two, Nat.mod_eq_of_lt h]
  have h1 : (x 1).val < 128 := (x 1).isLt
  simp only [Matrix.cons_val_zero, Matrix.cons_val_one]
  show (256 * b ≤ (x 0).val ∧ (x 0).val < 256 * b + 256) ∧ (0 ≤ (x 1).val ∧ (x 1).val < 0 + 128) ↔ _
  omega

theorem iset_disjoint : ∀ b ∈ Finset.range 625, ∀ b' ∈ Finset.range 625, b ≠ b' → Disjoint (iset b) (iset b') :=
  fun b hb b' hb' h => Finset.disjoint_left.mpr fun x hx hx' =>
    h (((mem_iset (Finset.mem_range.mp hb) x).mp hx).symm.trans ((mem_iset (Finset.mem_range.mp hb') x).mp hx'))
theorem oset_disjoint : ∀ b ∈ Finset.range 625, ∀ b' ∈ Finset.range 625, b ≠ b' → Disjoint (oset b) (oset b') :=
  fun b hb b' hb' h => Finset.disjoint_left.mpr fun x hx hx' =>
    h (((mem_oset (Finset.mem_range.mp hb) x).mp hx).symm.trans ((mem_oset (Finset.mem_range.mp hb') x).mp hx'))
theorem iset_cover : (Finset.range 625).biUnion iset = Finset.univ :=
  Finset.eq_univ_of_forall fun x => by
    have hb : (x 1).val / 256 < 625 := by
      have h : (x 1).val < 160000 := (x 1).isLt
      exact Nat.div_lt_of_lt_mul h
    rw [Finset.mem_biUnion]
    exact ⟨(x 1).val / 256, Finset.mem_range.mpr hb, (mem_iset hb x).mpr (Eq.refl ((x 1).val / 256))⟩
theorem oset_cover : (Finset.range 625).biUnion oset = Finset.univ :=
  Finset.eq_univ_of_forall fun x => by
    have hb : (x 0).val / 256 < 625 := by
      have h : (x 0).val < 160000 := (x 0).isLt
      exact Nat.div_lt_of_lt_mul h
    rw [Finset.mem_biUnion]
    exact ⟨(x 0).val / 256, Finset.mem_range.mpr hb, (mem_oset hb x).mpr (Eq.refl ((x 0).val / 256))⟩

/-! ## The tasks' runs of blocks -/

/-- The blocks of the task on subcore `p.2` of SparseCore `p.1`. -/
abbrev run (p : Fin 2 × Fin 16) : Finset ℕ := Finset.Ico (base (task p.1 p.2)) (base (task p.1 p.2) + cnt (task p.1 p.2))

theorem mem_run (p : Fin 2 × Fin 16) (b : ℕ) : b ∈ run p ↔
    b < 625 ∧ (if b < 340 then b / 20 else (b - 17) / 19) = p.2.val + 16 * p.1.val := by
  have h1 := p.1.isLt
  have h2 := p.2.isLt
  rw [Finset.mem_Ico]
  unfold base cnt
  rw [wid_task]
  by_cases hw : p.2.val + 16 * p.1.val < 17 <;> by_cases hb : b < 340 <;> simp only [hw, hb, ↓reduceIte] <;> omega

theorem run_disjoint : ∀ p ∈ (Finset.univ : Finset (Fin 2 × Fin 16)), ∀ p' ∈ (Finset.univ : Finset (Fin 2 × Fin 16)), p ≠ p' → Disjoint (run p) (run p') := by
  rintro p - p' - h
  refine Finset.disjoint_left.mpr fun b hb hb' => h ?_
  have e := (((mem_run p b).mp hb).2.symm.trans ((mem_run p' b).mp hb').2)
  have h1 := p.2.isLt
  have h2 := p'.2.isLt
  exact Prod.ext (Fin.ext (by omega)) (Fin.ext (by omega))

theorem run_cover : (Finset.univ : Finset (Fin 2 × Fin 16)).biUnion run = Finset.range 625 := by
  ext b
  rw [Finset.mem_biUnion, Finset.mem_range]
  constructor
  · rintro ⟨p, -, hp⟩; exact ((mem_run p b).mp hp).1
  · intro hb
    have hw : (if b < 340 then b / 20 else (b - 17) / 19) < 32 := by split <;> omega
    refine ⟨(⟨(if b < 340 then b / 20 else (b - 17) / 19) / 16, by omega⟩, ⟨(if b < 340 then b / 20 else (b - 17) / 19) % 16, Nat.mod_lt _ (by decide)⟩),
      Finset.mem_univ _, (mem_run _ b).mpr ⟨hb, ?_⟩⟩
    exact (Nat.mod_add_div _ 16).symm

/-- A product over all blocks is one over the tasks' runs. -/
theorem byTask (Φ : ℕ → sProp 𝕄) :
    bigSep (Finset.range 625) Φ
      = bigSep Finset.univ fun c : Fin 2 => bigSep Finset.univ fun s : Fin 16 =>
          bigSep (Finset.Ico (base (task c s)) (base (task c s) + cnt (task c s))) Φ := by
  rw [← run_cover, SparseCore.Cfg.bigSep_biUnion_eq Finset.univ run Φ run_disjoint, bigSep_univ_prod]

variable (d : Dev nD)

abbrev tLoc (d : Dev nD) : Loc nD τ sig := (SparseCore.T d).loc main_arg0
abbrev jLoc (d : Dev nD) : Loc nD τ sig := (SparseCore.T d).loc main_arg1
abbrev fLoc (d : Dev nD) : Loc nD τ sig := (SparseCore.T d).loc main_v0
abbrev lLoc (d : Dev nD) : Loc nD τ sig := (SparseCore.T d).loc main_v1
abbrev oLoc (d : Dev nD) : Loc nD τ sig := (SparseCore.T d).loc main_v2

theorem list_tasks (f : Buf (Elt F) (lLoc d)) :
    (lLoc d ↦{fullShare} f : sProp 𝕄)
      = bigSep Finset.univ fun c : Fin 2 => bigSep Finset.univ fun s : Fin 16 =>
          bigSep (Finset.Ico (base (task c s)) (base (task c s) + cnt (task c s))) fun b => lLoc d ↦[iset b]{fullShare} f := by
  rw [← byTask, ← pointsTo_biUnion (ℓ := lLoc d) (Finset.range 625) iset iset_disjoint, iset_cover]; try rfl

theorem out_tasks (f : Buf (Elt F) (oLoc d)) :
    (oLoc d ↦{fullShare} f : sProp 𝕄)
      = bigSep Finset.univ fun c : Fin 2 => bigSep Finset.univ fun s : Fin 16 =>
          bigSep (Finset.Ico (base (task c s)) (base (task c s) + cnt (task c s))) fun b => oLoc d ↦[oset b]{fullShare} f := by
  rw [← byTask, ← pointsTo_biUnion (ℓ := oLoc d) (Finset.range 625) oset oset_disjoint, oset_cover]; try rfl

/-- The tasks, numbered. -/
def taskEquiv : Fin 2 × Fin 16 ≃ Fin (2 ^ 5) := finProdFinEquiv.trans (finCongr (by decide))
/-- A task's read share of the table. -/
abbrev share (c : Fin 2) (s : Fin 16) : PosShare TreeShare := leaf 5 fullShare (taskEquiv (c, s))

theorem table_tasks (f : Buf (Elt F) (tLoc d)) :
    (tLoc d ↦{fullShare} f : sProp 𝕄)
      = bigSep Finset.univ fun c : Fin 2 => bigSep Finset.univ fun s : Fin 16 => tLoc d ↦{share c s} f := by
  rw [pointsTo_leaves Finset.univ f 5 fullShare]
  refine (bigSep_univ_equiv taskEquiv _).trans ?_
  rw [bigSep_univ_prod]

/-! ## The scratch arrays and their slots -/

theorem mem_islot (p : ℕ) (x : S2x1x256.Idx) : x ∈ ((islot aI p).view.set : Finset S2x1x256.Idx) ↔ (x 0).val = p % 2 := by
  have e : ((islot aI p).view.set : Finset S2x1x256.Idx) = (Rect.unit (s := S2x1x256) ![p % 2, 0, 0] S1x1x256.size (slotI_inb p)).set := by
    show (((View.whole (cc0_scoped0 : Ref sig .scVector)).slice (Rect.unit (s := S2x1x256) ![p % 2, 0, 0] S1x1x256.size (slotI_inb p))).reshape S1x256 squeezes_S1x1x256_S1x256.numel_eq).set = _
    rw [View.set_reshape, View.set_slice]; exact Finset.map_refl
  rw [e, Rect.mem_set_unit]
  constructor
  · intro h
    have h0 : p % 2 ≤ (x 0).val ∧ (x 0).val < p % 2 + 1 := h 0
    omega
  · intro h a
    match a with
    | 0 => show p % 2 ≤ (x 0).val ∧ (x 0).val < p % 2 + 1; omega
    | 1 => exact ⟨Nat.zero_le _, lt_of_lt_of_le (x 1).isLt (Nat.le_add_left _ _)⟩
    | 2 => exact ⟨Nat.zero_le _, lt_of_lt_of_le (x 2).isLt (Nat.le_add_left _ _)⟩

theorem mem_rslot (p : ℕ) (x : S2x256x128.Idx) : x ∈ ((rslot aR p).view.set : Finset S2x256x128.Idx) ↔ (x 0).val = p % 2 := by
  have e : ((rslot aR p).view.set : Finset S2x256x128.Idx) = (Rect.unit (s := S2x256x128) ![p % 2, 0, 0] S1x256x128.size (slotR_inb p)).set := by
    show (((View.whole (cc0_scoped2 : Ref sig .scVector)).slice (Rect.unit (s := S2x256x128) ![p % 2, 0, 0] S1x256x128.size (slotR_inb p))).reshape S256x128 squeezes_S1x256x128_S256x128.numel_eq).set = _
    rw [View.set_reshape, View.set_slice]; exact Finset.map_refl
  rw [e, Rect.mem_set_unit]
  constructor
  · intro h
    have h0 : p % 2 ≤ (x 0).val ∧ (x 0).val < p % 2 + 1 := h 0
    omega
  · intro h a
    match a with
    | 0 => show p % 2 ≤ (x 0).val ∧ (x 0).val < p % 2 + 1; omega
    | 1 => exact ⟨Nat.zero_le _, lt_of_lt_of_le (x 1).isLt (Nat.le_add_left _ _)⟩
    | 2 => exact ⟨Nat.zero_le _, lt_of_lt_of_le (x 2).isLt (Nat.le_add_left _ _)⟩

/-- An array held whole, at some contents, is its two halves at some contents. -/
theorem halves {ℓ : Loc nD τ sig} (A : ℕ → Finset (Idx ℓ)) (hd : Disjoint (A 0) (A 1)) (hc : A 0 ∪ A 1 = Finset.univ) :
    (iprop(∃ f, ℓ ↦{fullShare} f) : sProp 𝕄)
      ⊣⊢ iprop((∃ f, ℓ ↦[A 0]{fullShare} f) ∗ (∃ f, ℓ ↦[A 1]{fullShare} f)) := by
  have hD : ∀ t ∈ (Finset.univ : Finset (Fin 2)), ∀ t' ∈ (Finset.univ : Finset (Fin 2)), t ≠ t' → Disjoint (A t.val) (A t'.val) := by
    intro t _ t' _ h
    match t, t' with
    | 0, 0 => exact absurd rfl h
    | 0, 1 => exact hd
    | 1, 0 => exact hd.symm
    | 1, 1 => exact absurd rfl h
  have hU : (Finset.univ : Finset (Fin 2)).biUnion (fun t => A t.val) = Finset.univ := by
    rw [← hc]; ext x
    simp [Fin.exists_fin_two]
  constructor
  · iintro ⟨%f, H⟩
    ihave H := (Entails.of_eq (show (ℓ ↦{fullShare} f : sProp 𝕄) = iprop((ℓ ↦[A 0]{fullShare} f) ∗ ℓ ↦[A 1]{fullShare} f) by
      rw [show (ℓ ↦{fullShare} f : sProp 𝕄) = ℓ ↦[(Finset.univ : Finset (Fin 2)).biUnion (fun t => A t.val)]{fullShare} f by rw [hU],
        pointsTo_biUnion (ℓ := ℓ) Finset.univ (fun t : Fin 2 => A t.val) hD]
      exact bigSep_fin_two _)) $$ H
    icases H with ⟨H0, H1⟩
    isplitl [H0]
    · iexists f; iexact H0
    · iexists f; iexact H1
  · iintro ⟨⟨%f, H0⟩, ⟨%g, H1⟩⟩
    ihave H := (Entails.of_eq (show (iprop((ℓ ↦[A 0]{fullShare} f) ∗ ℓ ↦[A 1]{fullShare} g) : sProp 𝕄)
        = bigSep Finset.univ (fun t : Fin 2 => ℓ ↦[A t.val]{fullShare} (if t = 0 then f else g)) from
      (bigSep_fin_two (fun t : Fin 2 => (ℓ ↦[A t.val]{fullShare} (if t = 0 then f else g) : sProp 𝕄))).symm)) $$ [H0 H1]
    · isplitl [H0] <;> iassumption
    ihave H := (pointsTo_biUnion_join (ℓ := ℓ) (q := fullShare) (Val := Elt F) Finset.univ (fun t : Fin 2 => A t.val) (fun t => if t = 0 then f else g) f hD) $$ H
    icases H with ⟨%k, -, Hk⟩
    rw [hU]
    iexists k; iexact Hk

theorem islots (c : Fin τ.nSC) (j : Fin τ.nSub) :
    (iprop(∃ f, (V d c j).loc cc0_scoped0 ↦{fullShare} f) : sProp 𝕄) ⊣⊢ iprop(freeI d c j aI 0 ∗ freeI d c j aI 1) :=
  halves (ℓ := (V d c j).loc cc0_scoped0) (fun p => ((islot aI p).view.set : Finset S2x1x256.Idx))
    (Finset.disjoint_left.mpr fun x h0 h1 => by
      have e0 := (mem_islot 0 x).mp h0
      have e1 := (mem_islot 1 x).mp h1
      omega)
    (Finset.eq_univ_of_forall fun x => by
      have hx : (x 0).val < 2 := (x 0).isLt
      refine Finset.mem_union.mpr ?_
      rcases Nat.lt_or_ge (x 0).val 1 with h | h
      · exact .inl ((mem_islot 0 x).mpr (by omega))
      · exact .inr ((mem_islot 1 x).mpr (by omega)))

theorem rslots (c : Fin τ.nSC) (j : Fin τ.nSub) :
    (iprop(∃ f, (V d c j).loc cc0_scoped2 ↦{fullShare} f) : sProp 𝕄) ⊣⊢ iprop(freeR d c j aR 0 ∗ freeR d c j aR 1) :=
  halves (ℓ := (V d c j).loc cc0_scoped2) (fun p => ((rslot aR p).view.set : Finset S2x256x128.Idx))
    (Finset.disjoint_left.mpr fun x h0 h1 => by
      have e0 := (mem_rslot 0 x).mp h0
      have e1 := (mem_rslot 1 x).mp h1
      omega)
    (Finset.eq_univ_of_forall fun x => by
      have hx : (x 0).val < 2 := (x 0).isLt
      refine Finset.mem_union.mpr ?_
      rcases Nat.lt_or_ge (x 0).val 1 with h | h
      · exact .inl ((mem_rslot 0 x).mpr (by omega))
      · exact .inr ((mem_rslot 1 x).mpr (by omega)))

/-! ## The result the tasks build -/

/-- Position `r` of the index list. -/
abbrev at1 (r : Fin 160000) : S1x160000.Idx := fun | 0 => (0 : Fin 1) | 1 => r | ⟨_ + 2, h⟩ => absurd h (Nat.not_lt.2 (Nat.le_add_left _ _))
/-- Row `r` of the table at column `c`. -/
abbrev at2 (r : Fin 10000) (c : Fin 128) : S10000x128.Idx := fun | 0 => r | 1 => c | ⟨_ + 2, h⟩ => absurd h (Nat.not_lt.2 (Nat.le_add_left _ _))

/-- Row `r` of the result is the row of the table that word `r` of the list names. -/
def gathered (fT : S10000x128.Idx → Elt F .f32) (fL : S1x160000.Idx → Elt F .i32) : S160000x128.Idx → Elt F .f32 :=
  fun x => fT (at2 ⟨BitVec.toNat (fL (at1 (x 0))) % 10000, Nat.mod_lt _ (by decide)⟩ (x 1))

theorem inRows {c : Fin τ.nSC} {j : Fin τ.nSub} {fL : Buf (Elt F) (aL.view.loc (V d c j))}
    (h : ∀ x : S1x160000.Idx, BitVec.toNat (fL x) < 10000) : InRows aL fL := fun b x => by
  rw [View.read_apply, cast_eq]
  exact h _

theorem oblk_emb (b : ℕ) (y : S256x128.Idx) (a : Fin 2) :
    ((oblk aO b).view.emb y a).val = (![256 * (b % 625), 0] : Fin 2 → ℕ) a + (y a).val := by
  show ((Rect.unit (s := S160000x128) ![256 * (b % 625), 0] S256x128.size (blkR_inb b)).emb y a).val = _
  rw [Rect.emb_apply, Rect.stride_unit, Nat.one_mul]; rfl

theorem iblk_emb (b : ℕ) (y : S1x256.Idx) (a : Fin 2) :
    ((iblk aL b).view.emb y a).val = (![0, 256 * (b % 625)] : Fin 2 → ℕ) a + (y a).val := by
  show ((Rect.unit (s := S1x160000) ![0, 256 * (b % 625)] S1x256.size (blkI_inb b)).emb y a).val = _
  rw [Rect.emb_apply, Rect.stride_unit, Nat.one_mul]; rfl

theorem tall_emb (y : S10000x128.Idx) : (tall aT).view.emb y = y := by
  show (Rect.unit (s := S10000x128) ![0, 0] S10000x128.size inb_S10000x128_S10000x128_0_0).emb y = y
  funext a
  refine Fin.ext ?_
  rw [Rect.emb_apply, Rect.stride_unit, Nat.one_mul]
  match a with
  | 0 => exact Nat.zero_add _
  | 1 => exact Nat.zero_add _

theorem ridx_val (k : Fin S256.numel) : (ridx (S256.rowMajor.symm k) 1).val = k.val := by
  show ((Rect.unit (s := S1x256) ![0, 0] S1x256.size inb_S1x256_S1x256_0_0).emb _ 1).val = _
  rw [Rect.emb_apply, Rect.stride_unit, Nat.one_mul, Shape.reshapeEquiv_cons_one (n := 1) (d := ![256])]
  have h := Shape.rowMajor_val_one (d := ![256]) (S256.rowMajor.symm k)
  rw [Equiv.apply_symm_apply] at h
  exact (Nat.zero_add _).trans h.symm

theorem gathered_blk {c : Fin τ.nSC} {j : Fin τ.nSub} {fT : Buf (Elt F) (aT.view.loc (V d c j))} {fL : Buf (Elt F) (aL.view.loc (V d c j))}
    (h : ∀ x : S1x160000.Idx, BitVec.toNat (fL x) < 10000) (b : ℕ) :
    (oblk aO b).view.read (Elt F) (gathered fT fL : Buf (Elt F) (aO.view.loc (V d c j))) = gatherOf aT aL fT fL (inRows d h) b := by
  funext y
  rw [View.read_apply, cast_eq]
  unfold gatherOf SparseCore.gatherPayload
  rw [View.read_apply, cast_eq, tall_emb]
  unfold gathered
  refine congrArg fT (funext fun a => Fin.ext ?_)
  match a with
  | 0 =>
    have e : at1 ((oblk aO b).view.emb y 0) = (iblk aL b).view.emb (ridx (S256.rowMajor.symm (Fin.cast (by rfl : (256 : ℕ) = S256.numel) (y 0)))) := by
      funext k
      refine Fin.ext ?_
      match k with
      | 0 => exact (Nat.lt_one_iff.mp ((iblk aL b).view.emb _ 0).isLt).symm
      | 1 =>
        rw [iblk_emb, ridx_val]
        exact oblk_emb b y 0
    refine Eq.trans ?_ (congrArg Fin.val (Shape.Gathers.idx_axis gathers_S10000x128_S256x128 _ y).symm)
    show BitVec.toNat (fL (at1 ((oblk aO b).view.emb y 0))) % 10000 = _
    rw [Nat.mod_eq_of_lt (h _), e]
    unfold SparseCore.rows
    show _ = BitVec.toNat ((iblk aL b).view.read (Elt F) fL _)
    rw [View.read_apply, cast_eq]
    rfl
  | 1 =>
    refine Eq.trans ?_ (Shape.Gathers.idx_of_ne gathers_S10000x128_S256x128 _ y 1 (by decide)).symm
    exact (oblk_emb b y 1).trans (Nat.zero_add _)

end Cert.Proof.Gather
-- ==== Proof.Launch.lean ====
/-
  The program's run.  The launch deals each of the 32 tasks its share of the table, its blocks of the indices and
  its blocks of the result; each task runs as `body` says; the pieces come back and are the arrays whole, the
  result at the gathered rows.  Before the call the TensorCore lays the indices out in one row, by two reshapes.
  Everything is over any float values.
-/
module

public import proofs.«01_k».proof.Proof.Blocks

@[expose] public section

noncomputable section

namespace Cert.Proof.Gather

open Cert.KernelIdeal Cert.KernelIdeal.Gen Cert.Proof.Words
open Idealize.ShloMosaic
open Idealize.ShloMosaic.StableHlo (held wp_hlo_within)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the call is handed and hands back -/

/-- The indices in one row. -/
def list (d : Dev nD) : Buf (Elt F) (lLoc d) :=
  shapeCast S1x160000 (shapeCast S160000 (m (jLoc d)) shapeCasts_S1x10000x16_S160000) shapeCasts_S160000_S1x160000
/-- The gathered rows. -/
def rowsOf (d : Dev nD) : Buf (Elt F) (oLoc d) := gathered (m (tLoc d)) (list m d)

/-- Every index names a row of the table. -/
def PreOK : Prop := ∀ (d : Dev nD) (j : S1x10000x16.Idx), BitVec.toNat (m (jLoc d) j : Elt F .i32) < 10000

theorem list_lt (h : PreOK m) (d : Dev nD) (x : S1x160000.Idx) : BitVec.toNat (list m d x : Elt F .i32) < 10000 := h d _

/-- A task's share of the table, its blocks of the indices, and its blocks of an array shaped as the result. -/
abbrev piece (d : Dev nD) (c : Fin 2) (s : Fin 16) (f : Buf (Elt F) (oLoc d)) : sProp 𝕄 :=
  iprop((tLoc d ↦{share c s} m (tLoc d))
    ∗ bigSep (Finset.Ico (base (task c s)) (base (task c s) + cnt (task c s))) (fun b => lLoc d ↦[iset b]{fullShare} list m d)
    ∗ bigSep (Finset.Ico (base (task c s)) (base (task c s) + cnt (task c s))) (fun b => oLoc d ↦[oset b]{fullShare} f))

/-- All the pieces are the three arrays whole. -/
theorem pieces (d : Dev nD) (f : Buf (Elt F) (oLoc d)) :
    (bigSep Finset.univ fun c : Fin 2 => bigSep Finset.univ fun s : Fin 16 => piece m d c s f)
      = iprop((tLoc d ↦{fullShare} m (tLoc d)) ∗ (lLoc d ↦{fullShare} list m d) ∗ (oLoc d ↦{fullShare} f)) := by
  rw [table_tasks d, list_tasks d, out_tasks d, ← bigSep_sep', ← bigSep_sep']
  refine bigSep_congr fun c _ => ?_
  rw [← bigSep_sep', ← bigSep_sep']

def P : (K (F := F)).Pay (nD := nD) (Val := Elt F) (Name := ℕ) (U := UU) where
  st := fun q d c => match q with
    | 0 => bigSep Finset.univ fun s : Fin 16 => piece m d (Fin.cast nCore_zero c) s (m (oLoc d))
  dn := fun q d c => match q with
    | 0 => bigSep Finset.univ fun s : Fin 16 => piece m d (Fin.cast nCore_zero c) s (rowsOf m d)
  go := fun q d c i => match q with
    | 0 => piece m d (Fin.cast nCore_zero c) (Fin.cast nSub_zero i) (m (oLoc d))
  td := fun q d c i => match q with
    | 0 => piece m d (Fin.cast nCore_zero c) (Fin.cast nSub_zero i) (rowsOf m d)
  x := fun _ _ => iprop(emp)

instance piece_storable (d : Dev nD) (c : Fin 2) (s : Fin 16) (f : Buf (Elt F) (oLoc d)) :
    BI.Storable (upEmb : UEmb _ 𝕄) (piece m d c s f) := inferInstance

instance P_storable : (P (F := F) m).IsStorable where
  st q d c := match q with
    | 0 => (inferInstance : BI.Storable (upEmb : UEmb _ 𝕄)
      (bigSep Finset.univ fun s : Fin 16 => piece m d (Fin.cast nCore_zero c) s (m (oLoc d))))
  dn q d c := match q with
    | 0 => (inferInstance : BI.Storable (upEmb : UEmb _ 𝕄)
      (bigSep Finset.univ fun s : Fin 16 => piece m d (Fin.cast nCore_zero c) s (rowsOf m d)))
  go q d c i := match q with
    | 0 => piece_storable m d (Fin.cast nCore_zero c) (Fin.cast nSub_zero i) (m (oLoc d))
  td q d c i := match q with
    | 0 => piece_storable m d (Fin.cast nCore_zero c) (Fin.cast nSub_zero i) (rowsOf m d)

theorem vecSplit : (K (F := F)).VecSplit' (P m) 0 := by
  intro d c
  show (bigSep Finset.univ fun s : Fin 16 => piece m d (Fin.cast nCore_zero c) s (m (oLoc d)))
    ⊢ |={Set.univ}=> iprop((bigSep Finset.univ fun s : Fin 16 => piece m d (Fin.cast nCore_zero c) s (m (oLoc d)))
      ∗ ((bigSep Finset.univ fun s : Fin 16 => piece m d (Fin.cast nCore_zero c) s (rowsOf m d))
        -∗ bigSep Finset.univ fun s : Fin 16 => piece m d (Fin.cast nCore_zero c) s (rowsOf m d)))
  iintro H; imodintro
  isplitl [H]; · iexact H
  iintro H; iexact H

/-! ## The task -/

section Tile

variable (d : Dev nD) (L : grid0.Coords)

abbrev cell (d : Dev nD) (L : grid0.Coords) (s : DmaSem sig) : GSem nD τ sig := (V d (cV L) (jV L), .dma s)

theorem cell_ne {s t : DmaSem sig} (h : s ≠ t) : cell d L s ≠ cell d L t := fun e => h (by
  have := congrArg Prod.snd e
  exact SemLoc.dma.inj this)

abbrev sA : DmaSem sig := ssem cc0_scoped1 0
abbrev sB : DmaSem sig := ssem cc0_scoped1 1
abbrev sC : DmaSem sig := ssem cc0_scoped3 0
abbrev sD : DmaSem sig := ssem cc0_scoped3 1
abbrev sE : DmaSem sig := cc0_scoped4.sem

/-- The five semaphores the task uses are among the subcore's own. -/
theorem ownSems0_V :
    (ownSems0 (V d (cV L) (jV L)) : sProp 𝕄)
      = iprop(semVal (cell d L sA) 0 ∗ semVal (cell d L sB) 0 ∗ semVal (cell d L sC) 0 ∗ semVal (cell d L sD) 0 ∗ semVal (cell d L sE) 0
          ∗ bigSep ((((((ownCells (V d (cV L) (jV L))).erase (cell d L sA)).erase (cell d L sB)).erase (cell d L sC)).erase (cell d L sD)).erase (cell d L sE))
              fun g => semVal g 0) := by
  have own (s : DmaSem sig) (h : (SemLoc.dma s : SemLoc sig).isScoped .scVector = true) : cell d L s ∈ ownCells (V d (cV L) (jV L)) :=
    mem_ownCells.mpr ⟨rfl, h⟩
  unfold SparseCore.Cfg.ownSems0
  rw [SparseCore.bigSep_erase' (own sA (by decide)),
    SparseCore.bigSep_erase' (Finset.mem_erase.mpr ⟨cell_ne d L (show sB ≠ sA by decide), own sB (by decide)⟩),
    SparseCore.bigSep_erase' (Finset.mem_erase.mpr ⟨cell_ne d L (show sC ≠ sB by decide), Finset.mem_erase.mpr ⟨cell_ne d L (show sC ≠ sA by decide), own sC (by decide)⟩⟩),
    SparseCore.bigSep_erase' (Finset.mem_erase.mpr ⟨cell_ne d L (show sD ≠ sC by decide), Finset.mem_erase.mpr ⟨cell_ne d L (show sD ≠ sB by decide),
      Finset.mem_erase.mpr ⟨cell_ne d L (show sD ≠ sA by decide), own sD (by decide)⟩⟩⟩),
    SparseCore.bigSep_erase' (Finset.mem_erase.mpr ⟨cell_ne d L (show sE ≠ sD by decide), Finset.mem_erase.mpr ⟨cell_ne d L (show sE ≠ sC by decide),
      Finset.mem_erase.mpr ⟨cell_ne d L (show sE ≠ sB by decide), Finset.mem_erase.mpr ⟨cell_ne d L (show sE ≠ sA by decide), own sE (by decide)⟩⟩⟩⟩)]

/-- The two scratch arrays are among the subcore's own. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem ptsT_eq (q : PosShare TreeShare) (f : Buf (Elt F) (tLoc d)) :
    (ptsT d (cV L) (jV L) aT q f : sProp 𝕄) = (tLoc d ↦{q} f) := by
  have h : (tall aT).view.set = Finset.univ := (set_tall aT).trans (View.set_whole _)
  show ((tall aT).view.loc (V d (cV L) (jV L)) ↦[(tall aT).view.set]{q} f : sProp 𝕄) = _
  rw [h]

/-- What a subcore holds at a task's start, sorted into what the task uses and what it leaves alone. -/
theorem deal {Lv Mw T L O I I' R R' Bs A B C D E Ss W : sProp 𝕄} (hM : Lv ⊢ Mw) (hI : I' ⊢ I) (hR : R' ⊢ R) :
    iprop(Lv ∗ emp ∗ (T ∗ L ∗ O) ∗ (I' ∗ R' ∗ Bs) ∗ (A ∗ B ∗ C ∗ D ∗ E ∗ Ss) ∗ W)
      ⊢ iprop((Mw ∗ T ∗ L ∗ O ∗ I ∗ R ∗ (A ∗ B) ∗ (C ∗ D) ∗ E ∗ W) ∗ (Bs ∗ Ss)) := by
  iintro ⟨HM, -, ⟨HT, HL, HO⟩, ⟨HI, HR, HBs⟩, ⟨HA, HB, HC, HD, HE, HSs⟩, HW⟩
  ihave HM := hM $$ HM
  ihave HI := hI $$ HI
  ihave HR := hR $$ HR
  isplitr [HBs HSs]
  · isplitl [HM]; · iexact HM
    isplitl [HT]; · iexact HT
    isplitl [HL]; · iexact HL
    isplitl [HO]; · iexact HO
    isplitl [HI]; · iexact HI
    isplitl [HR]; · iexact HR
    isplitl [HA HB]; · isplitl [HA] <;> iassumption
    isplitl [HC HD]; · isplitl [HC] <;> iassumption
    isplitl [HE]; · iexact HE
    iexact HW
  · isplitl [HBs]; · iexact HBs
    iexact HSs

/-- The same at its end, back in the order it came. -/
theorem gather {T L O I I' R R' Bs A B C D E Ss W : sProp 𝕄} (hI : I ⊢ I') (hR : R ⊢ R') :
    iprop((T ∗ L ∗ O ∗ I ∗ R ∗ (A ∗ B) ∗ (C ∗ D) ∗ E ∗ W) ∗ (Bs ∗ Ss))
      ⊢ iprop((T ∗ L ∗ O) ∗ (I' ∗ R' ∗ Bs) ∗ (A ∗ B ∗ C ∗ D ∗ E ∗ Ss) ∗ W) := by
  iintro ⟨⟨HT, HL, HO, HI, HR, ⟨HA, HB⟩, ⟨HC, HD⟩, HE, HW⟩, ⟨HBs, HSs⟩⟩
  ihave HI := hI $$ HI
  ihave HR := hR $$ HR
  isplitl [HT HL HO]
  · isplitl [HT]; · iexact HT
    isplitl [HL]; · iexact HL
    iexact HO
  isplitl [HI HR HBs]
  · isplitl [HI]; · iexact HI
    isplitl [HR]; · iexact HR
    iexact HBs
  isplitl [HA HB HC HD HE HSs]
  · isplitl [HA]; · iexact HA
    isplitl [HB]; · iexact HB
    isplitl [HC]; · iexact HC
    isplitl [HD]; · iexact HD
    isplitl [HE]; · iexact HE
    iexact HSs
  iexact HW

variable [FloatOps F]

/-- A program that does the task's work from what the task uses does it among all the subcore holds. -/
theorem around (hF : (K (F := F)).Facts) (i : grid0.Coords) {T L O₁ O₂ : sProp 𝕄}
    {e : Prog (TpuEff nD τ sig (Elt F) Λ₀ (.scVector (cV i) (jV i))) PUnit}
    (O : CellTallies nD τ sig (HIx 1)) (W : Waits sig (HIx 1)) (hO : ∀ g, O g none = 0)
    (hb : iprop(Transfers.MayWaits (V d (cV i) (jV i)) (default : HIx 1) O ∗ T ∗ L ∗ O₁
        ∗ (freeI d (cV i) (jV i) aI 0 ∗ freeI d (cV i) (jV i) aI 1) ∗ (freeR d (cV i) (jV i) aR 0 ∗ freeR d (cV i) (jV i) aR 1)
        ∗ (semVal (cell d i sA) 0 ∗ semVal (cell d i sB) 0) ∗ (semVal (cell d i sC) 0 ∗ semVal (cell d i sD) 0) ∗ semVal (cell d i sE) 0
        ∗ owes (V d (cV i) (jV i)) O W)
      ⊢ W1 d (cV i) (jV i) e fun _ => iprop(T ∗ L ∗ O₂
        ∗ (freeI d (cV i) (jV i) aI 0 ∗ freeI d (cV i) (jV i) aI 1) ∗ (freeR d (cV i) (jV i) aR 0 ∗ freeR d (cV i) (jV i) aR 1)
        ∗ (semVal (cell d i sA) 0 ∗ semVal (cell d i sB) 0) ∗ (semVal (cell d i sC) 0 ∗ semVal (cell d i sD) 0) ∗ semVal (cell d i sE) 0
        ∗ ∃ W', ⌜∀ p ∈ W', p ∈ W ∨ p.2 = none⌝ ∗ owes (V d (cV i) (jV i)) O W')) :
    iprop(levAts (K (F := F)).L (K (F := F)).lev ∗ emp ∗ (T ∗ L ∗ O₁)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ e
          fun _ => iprop((T ∗ L ∗ O₂) ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i), ownSems0_V, ownBufs_V]
  exact (deal ((K (F := F)).mayWaits_none (thr := V d (cV i) (jV i)) hO) (islots (F := F) d (cV i) (jV i)).1
      (rslots (F := F) d (cV i) (jV i)).1).trans
    ((BI.sep_mono hb (BI.Entails.refl _)).trans ((wp_frame_r frame _ _).trans
      (wp_mono frame _ _ fun _ => gather (islots (F := F) d (cV i) (jV i)).2 (rslots (F := F) d (cV i) (jV i)).2)))

attribute [local irreducible] cc0_k

/-- A task on any contents of the buffers: from its share of the table, its blocks of the list and of the result and the
subcore's fresh buffers and counters, it ends with its blocks of the result at `G`. -/
theorem task_wp (hF : (K (F := F)).Facts) (i : grid0.Coords) (q : PosShare TreeShare)
    (fT : Buf (Elt F) (aT.view.loc (V d (cV i) (jV i)))) (fL : Buf (Elt F) (aL.view.loc (V d (cV i) (jV i))))
    (fO G : Buf (Elt F) (aO.view.loc (V d (cV i) (jV i)))) (hin : InRows aL fL)
    (hG : ∀ b, (oblk aO b).view.read (Elt F) G = gatherOf aT aL fT fL hin b)
    (O : CellTallies nD τ sig (HIx 1)) (W : Waits sig (HIx 1)) (hO : ∀ g, O g none = 0) :
    iprop(levAts (K (F := F)).L (K (F := F)).lev ∗ emp
        ∗ (ptsT d (cV i) (jV i) aT q fT
          ∗ bigSep (Finset.Ico (base i) (base i + cnt i)) (fun b => ptsI d (cV i) (jV i) aL fL b)
          ∗ bigSep (Finset.Ico (base i) (base i + cnt i)) (fun b => ptsO d (cV i) (jV i) aO b fO))
        ∗ scopedBufs (V d (cV i) (jV i)) ∗ scopedSems0 (V d (cV i) (jV i))
        ∗ owes (V d (cV i) (jV i)) O W)
      ⊢ wp frame (wpE (defs₀ (F := F)) 𝒱₀ (V d (cV i) (jV i)) none) Set.univ
          (cc0_k (F := F) i aT (Memref.isWhole_whole _) aL (Memref.isWhole_whole _) aO (Memref.isWhole_whole _)
            aI (Memref.isWhole_whole _) cc0_scoped1 aR (Memref.isWhole_whole _) cc0_scoped3 cc0_scoped4 cc0_scoped5)
          fun _ => iprop((ptsT d (cV i) (jV i) aT q fT
              ∗ bigSep (Finset.Ico (base i) (base i + cnt i)) (fun b => ptsI d (cV i) (jV i) aL fL b)
              ∗ bigSep (Finset.Ico (base i) (base i + cnt i)) (fun b => ptsO d (cV i) (jV i) aO b G))
            ∗ scopedBufs (V d (cV i) (jV i)) ∗ scopedSems0 (V d (cV i) (jV i))
            ∗ ∃ W', ⌜∀ p ∈ W', p ∈ W ∨ p.2 = none⌝ ∗ owes (V d (cV i) (jV i)) O W') := by
  exact around d hF i O W hO (@body F _ d i aT aL aO aI aR cc0_scoped1 cc0_scoped3 cc0_scoped4 cc0_scoped5 fT fL fO G q O W hin hG
    (Memref.isWhole_whole _) (Memref.isWhole_whole _) (Memref.isWhole_whole _) (Memref.isWhole_whole _) (Memref.isWhole_whole _))

/-- The task on subcore `s` of SparseCore `c`: its blocks of the result become the gathered rows. -/
theorem tile_body (hF : (K (F := F)).Facts) (hpre : PreOK m) (c : Fin 2) (s : Fin 16)
    (O : CellTallies nD τ sig (HIx 1)) (W : Waits sig (HIx 1)) (hO : ∀ g, O g none = 0) :
    iprop(levAts (K (F := F)).L (K (F := F)).lev ∗ emp ∗ piece m d c s (m (oLoc d))
        ∗ scopedBufs (V d (cV (task c s)) (jV (task c s))) ∗ scopedSems0 (V d (cV (task c s)) (jV (task c s)))
        ∗ owes (V d (cV (task c s)) (jV (task c s))) O W)
      ⊢ wp frame (wpE (defs₀ (F := F)) 𝒱₀ (V d (cV (task c s)) (jV (task c s))) none) Set.univ
          (cc0_k (F := F) (task c s) aT (Memref.isWhole_whole _) aL (Memref.isWhole_whole _) aO (Memref.isWhole_whole _)
            aI (Memref.isWhole_whole _) cc0_scoped1 aR (Memref.isWhole_whole _) cc0_scoped3 cc0_scoped4 cc0_scoped5)
          fun _ => iprop(piece m d c s (rowsOf m d)
            ∗ scopedBufs (V d (cV (task c s)) (jV (task c s))) ∗ scopedSems0 (V d (cV (task c s)) (jV (task c s)))
            ∗ ∃ W', ⌜∀ p ∈ W', p ∈ W ∨ p.2 = none⌝ ∗ owes (V d (cV (task c s)) (jV (task c s))) O W') := by
  have hT := ptsT_eq d (task c s) (share c s) (m (tLoc d))
  unfold piece
  rw [← hT]
  exact task_wp d hF (task c s) (share c s) (m (tLoc d)) (list m d) (m (oLoc d)) (rowsOf m d) (inRows d (list_lt m hpre d))
    (gathered_blk d (list_lt m hpre d)) O W hO

end Tile

end Cert.Proof.Gather
-- ==== Proof.Run.lean ====
/-
  The whole program's run, over any float values: the TensorCore lays the indices out in one row, by two reshapes,
  and makes the call; the call's tasks leave the gathered rows in the result; the two arguments are as they were,
  and every semaphore is back at zero.
-/
module

public import proofs.«01_k».proof.Proof.Launch

@[expose] public section

noncomputable section

namespace Cert.Proof.Gather

open Cert.KernelIdeal Cert.KernelIdeal.Gen Cert.Proof.Words
open Idealize.ShloMosaic
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The ghost state at the launch -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The arrays before and after the two reshapes -/

abbrev bT : DevRef τ sig := Proc.devRef .tc (main_arg0 : Ref sig .tc)
abbrev bJ : DevRef τ sig := Proc.devRef .tc (main_arg1 : Ref sig .tc)
abbrev bF : DevRef τ sig := Proc.devRef .tc (main_v0 : Ref sig .tc)
abbrev bL : DevRef τ sig := Proc.devRef .tc (main_v1 : Ref sig .tc)
abbrev bO : DevRef τ sig := Proc.devRef .tc (main_v2 : Ref sig .tc)
abbrev arrays : Finset (DevRef τ sig) := {bT, bJ, bF, bL, bO}

theorem held_arrays (d : Dev nD) (W : Valuation τ sig (Elt F)) :
    (held (T d) arrays W : sProp 𝕄) = iprop((tLoc d ↦{fullShare} W bT) ∗ (jLoc d ↦{fullShare} W bJ) ∗ (fLoc d ↦{fullShare} W bF)
      ∗ (lLoc d ↦{fullShare} W bL) ∗ (oLoc d ↦{fullShare} W bO)) := by
  unfold held arrays
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((tLoc d ↦{fullShare} W main_arg0) ∗ (jLoc d ↦{fullShare} W main_arg1) ∗ (fLoc d ↦{fullShare} W main_v0)
      ∗ (lLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at the launch. -/
def V0 (d : Dev nD) : Valuation τ sig (Elt F) := fun b => m (d, b)

theorem unscoped_held (d : Dev nD) : (unscopedBufs d (fun b => m ((SparseCore.T d).loc b)) : sProp 𝕄) = held (T d) arrays (V0 m d) := by
  rw [unscopedBufs_eq, held_arrays]; rfl

abbrev opA : HloOp τ sig (Elt F) := StableHlo.reshape main_arg1 main_v0 (rfl : (.i32 : EltTy) = .i32) shapeCasts_S1x10000x16_S160000
abbrev opB : HloOp τ sig (Elt F) := StableHlo.reshape main_v0 main_v1 (rfl : (.i32 : EltTy) = .i32) shapeCasts_S160000_S1x160000

theorem opA_sub : (opA (F := F)).bufs ⊆ arrays := show ({bJ, bF} : Finset (DevRef τ sig)) ⊆ arrays by decide
theorem opB_sub : (opB (F := F)).bufs ⊆ arrays := show ({bF, bL} : Finset (DevRef τ sig)) ⊆ arrays by decide

/-- The arrays after the first reshape, and after both. -/
abbrev VA (d : Dev nD) : Valuation τ sig (Elt F) := (opA (F := F)).result (V0 m d)
abbrev VB (d : Dev nD) : Valuation τ sig (Elt F) := (opB (F := F)).result (VA m d)

theorem VA_ne (d : Dev nD) {b : DevRef τ sig} (h : b ∉ ({bF} : Finset (DevRef τ sig))) : VA m d b = m (d, b) :=
  (opA (F := F)).result_of_not_mem (V0 m d) h
theorem VB_ne (d : Dev nD) {b : DevRef τ sig} (h : b ∉ ({bL} : Finset (DevRef τ sig))) : VB m d b = VA m d b :=
  (opB (F := F)).result_of_not_mem (VA m d) h

theorem VA_F (d : Dev nD) : VA m d bF = shapeCast S160000 (m (jLoc d)) shapeCasts_S1x10000x16_S160000 :=
  StableHlo.reshape_result main_arg1 main_v0 _ _ _ _ (V0 m d)
theorem VB_L (d : Dev nD) : VB m d bL = list m d := by
  refine (StableHlo.reshape_result main_v0 main_v1 _ _ _ _ (VA m d)).trans ?_
  have h := VA_F m d
  unfold list
  rw [← h]
  rfl
theorem VB_T (d : Dev nD) : VB m d bT = m (tLoc d) := (VB_ne m d (by decide)).trans (VA_ne m d (by decide))
theorem VB_J (d : Dev nD) : VB m d bJ = m (jLoc d) := (VB_ne m d (by decide)).trans (VA_ne m d (by decide))
theorem VB_O (d : Dev nD) : VB m d bO = m (oLoc d) := (VB_ne m d (by decide)).trans (VA_ne m d (by decide))

theorem held_VB (d : Dev nD) :
    (held (T d) arrays (VB m d) : sProp 𝕄) = iprop((tLoc d ↦{fullShare} m (tLoc d)) ∗ (jLoc d ↦{fullShare} m (jLoc d)) ∗ (fLoc d ↦{fullShare} VB m d bF)
      ∗ (lLoc d ↦{fullShare} list m d) ∗ (oLoc d ↦{fullShare} m (oLoc d))) := by
  rw [held_arrays, VB_T, VB_J, VB_L, VB_O]

/-! ## The TensorCore's program -/

theorem st_eq (d : Dev nD) : (bigSep Finset.univ fun c : Fin ((K (F := F)).nCore 0) => (P m).st 0 d c)
    = iprop((tLoc d ↦{fullShare} m (tLoc d)) ∗ (lLoc d ↦{fullShare} list m d) ∗ (oLoc d ↦{fullShare} m (oLoc d))) := pieces m d _
theorem dn_eq (d : Dev nD) : (bigSep Finset.univ fun c : Fin ((K (F := F)).nCore 0) => (P m).dn 0 d c)
    = iprop((tLoc d ↦{fullShare} m (tLoc d)) ∗ (lLoc d ↦{fullShare} list m d) ∗ (oLoc d ↦{fullShare} rowsOf m d)) := pieces m d _

/-- What the run leaves: the arguments as they were, the result at the gathered rows. -/
abbrev FIN (d : Dev nD) : sProp 𝕄 :=
  iprop((tLoc d ↦{fullShare} m (tLoc d)) ∗ (jLoc d ↦{fullShare} m (jLoc d)) ∗ (oLoc d ↦{fullShare} rowsOf m d))

def fq (d : Dev nD) (s' : Phys nD τ sig (Elt F)) : Prop :=
  s'.mem.mem (oLoc d) = rowsOf m d ∧ s'.mem.mem (tLoc d) = m (tLoc d) ∧ s'.mem.mem (jLoc d) = m (jLoc d)

theorem hfin (d : Dev nD) (s' : Phys nD τ sig (Elt F)) : iprop(FIN m d ∗ SI s') ⊢ (⌜fq m d s'⌝ : sProp 𝕄) := by
  iintro ⟨⟨Ht, Hj, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := jLoc d) (I := Finset.univ) (q := fullShare) (f := m (jLoc d)))) $$ [HSI Hj]
  · isplitl [HSI] <;> iassumption
  icases H with ⟨%h2, HSI, -⟩
  ihave H := (SI_pointsTo_agree (st := s') (ℓ := oLoc d) (I := Finset.univ) (q := fullShare) (f := rowsOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := arrays) opA_sub (V := V0 m d)) $$ [Hb Hheld]
  · isplitl [Hb] <;> iassumption
  iintro ⟨Hb, Hheld⟩
  rw [wp_ret]; imodintro
  iapply (wp_hlo_within 𝒱 (SparseCore.T d) none Set.univ (op := opB) (S := arrays) opB_sub (V := VA m d)) $$ [Hb Hheld]
  · isplitl [Hb] <;> iassumption
  iintro ⟨Hb, Hheld⟩
  rw [wp_ret]; imodintro
  ihave Hh := (Entails.of_eq (held_VB m d)) $$ Hheld
  icases Hh with ⟨Ht, Hj, -, Hl, Ho⟩
  iapply ((K (F := F)).wp_run (D (F := F)) 𝒱 (EH := EH) (P := P m) κ d 0) $$ [Hst Ht Hj Hl Ho Hb Hts]
  isplitr; · iexact Hctx
  isplitl [Hst]; · iexact Hst
  isplitl [Ht Hl Ho]
  · rw [st_eq]
    isplitl [Ht]; · iexact Ht
    isplitl [Hl]; · iexact Hl
    iexact Ho
  iintro ⟨Hst, Hdn⟩
  ihave Hdn := (Entails.of_eq (dn_eq m d)) $$ Hdn
  icases Hdn with ⟨Ht, -, Ho⟩
  imodintro
  isplitl [Hst]; · iexact Hst
  isplitr [Hb Hts]
  · isplitl [Ht]; · iexact Ht
    isplitl [Hj]; · iexact Hj
    iexact Ho
  isplitl [Hb] <;> iassumption

/-! ## The tasks' obligation -/

theorem defs₀_vector (c : Fin τ.nSC) (s : Fin τ.nSub) :
    defs₀ (F := F) (.scVector c s) 0 ()
      = SparseCore.onTile hcore0 hsub0 (fun c s => cc0_k (task c s)
          aT (Memref.isWhole_whole _) aL (Memref.isWhole_whole _) aO (Memref.isWhole_whole _)
          aI (Memref.isWhole_whole _) cc0_scoped1 aR (Memref.isWhole_whole _) cc0_scoped3 cc0_scoped4 cc0_scoped5) ⟨⟩ c s := rfl

omit [FloatOps F] in
/-- Waits at no index are waits allowed to the call. -/
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0_k

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d hF hpre ⟨_, hci.1⟩ ⟨_, hci.2⟩ O W hO).trans (wp_mono frame _ _ fun _ => waits_post)

/-! ## The run -/

/-- The result at the gathered rows, the arguments as they were, the semaphores at zero. -/
def QC : PUnit × MemSt nD τ sig (Elt F) → Prop := fun r =>
  (∀ c : Dev nD, r.2.mem (oLoc c) = rowsOf m c ∧ r.2.mem (tLoc c) = m (tLoc c) ∧ r.2.mem (jLoc c) = m (jLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather
-- ==== Proof.Value.lean ====
/-
  The reference's value: where every index names a row of the table, the rows it picks are the gathered rows.  Its
  index array pairs each index with the batch's number; both are brought into range first (a negative one counts
  from the end), which changes nothing here, and the gather clamps, which changes nothing either.
-/
module

public import proofs.«01_k».proof.Proof.Launch
public import proofs.«01_k».proof.Proof.Gen.ReferenceIdeal
public import Idealize.ShloMosaic.Lib.Pipeline.Value

@[expose] public section

noncomputable section

namespace Cert.Proof.Gather

open Cert.ReferenceIdeal
open Cert.ReferenceIdeal.Facts₀ Cert.ReferenceIdeal.Facts
open Idealize.ShloMosaic

variable {α : Type}

/-! ## The reference's term -/

/-- Entry `(0, n, k, c)` of the reference's index array: the batch's number at `c = 0`, the index at `c = 1`. -/
def pairs (y : IVec S1x10000x16 32) : IVec S1x10000x16x2 32 :=
  concatenate S1x10000x16x2 3 [⟨S1x10000x16x1, (broadcastInDim S1x10000x16x1 ![0, 1, 2] bcast_S1x10000x16_S1x10000x16x1_0_1_2 (broadcastInDim S1x10000x16 ![0, 1, 2] bcast_S1x1x1_S1x10000x16_0_1_2 (select (cmpi .slt (broadcastInDim S1x1x1 ![0] bcast_S1_S1x1x1_0 (iotaInDim S1 32 0)) (broadcastInDim S1x1x1 ![] bcast_S_S1x1x1 (constantI S_ 32 0#32))) (addi (broadcastInDim S1x1x1 ![0] bcast_S1_S1x1x1_0 (iotaInDim S1 32 0)) (broadcastInDim S1x1x1 ![] bcast_S_S1x1x1 (constantI S_ 32 1#32))) (broadcastInDim S1x1x1 ![0] bcast_S1_S1x1x1_0 (iotaInDim S1 32 0)))))⟩, ⟨S1x10000x16x1, (broadcastInDim S1x10000x16x1 ![0, 1, 2] bcast_S1x10000x16_S1x10000x16x1_0_1_2 (select (cmpi .slt y (broadcastInDim S1x10000x16 ![] bcast_S_S1x10000x16 (constantI S_ 32 0#32))) (addi y (broadcastInDim S1x10000x16 ![] bcast_S_S1x10000x16 (constantI S_ 32 10000#32))) y))⟩] concatenates_S1x10000x16x1_S1x10000x16x1_S1x10000x16x2_d3

abbrev gdims : GatherDims S1x10000x128 S1x10000x16x2 S1x10000x16x128 := gather_S1x10000x128_S1x10000x16x2_S1x10000x16x128_3_01_n_n_01_3_11128

/-- The rows the reference picks. -/
def picked (x : S10000x128.Idx → α) (y : IVec S1x10000x16 32) : S160000x128.Idx → α :=
  shapeCast S160000x128 (Host.gather gdims (broadcastInDim S1x10000x128 ![1, 2] bcast_S10000x128_S1x10000x128_1_2 x) (pairs y)) shapeCasts_S1x10000x16x128_S160000x128

/-! ## Indices -/

abbrev at0 (r : Fin 160000) : Cert.KernelIdeal.S160000.Idx :=
  fun | 0 => r | ⟨_ + 1, h⟩ => absurd h (Nat.not_lt.2 (Nat.le_add_left _ _))
abbrev at3 (n : Fin 10000) (k : Fin 16) : S1x10000x16.Idx :=
  fun | 0 => (0 : Fin 1) | 1 => n | 2 => k | ⟨_ + 3, h⟩ => absurd h (Nat.not_lt.2 (Nat.le_add_left _ _))
abbrev at31 (n : Fin 10000) (k : Fin 16) : S1x10000x16x1.Idx :=
  fun | 0 => (0 : Fin 1) | 1 => n | 2 => k | 3 => (0 : Fin 1) | ⟨_ + 4, h⟩ => absurd h (Nat.not_lt.2 (Nat.le_add_left _ _))
abbrev at32 (n : Fin 10000) (k : Fin 16) (c : Fin 2) : S1x10000x16x2.Idx :=
  fun | 0 => (0 : Fin 1) | 1 => n | 2 => k | 3 => c | ⟨_ + 4, h⟩ => absurd h (Nat.not_lt.2 (Nat.le_add_left _ _))
abbrev at4 (n : Fin 10000) (k : Fin 16) (c : Fin 128) : S1x10000x16x128.Idx :=
  fun | 0 => (0 : Fin 1) | 1 => n | 2 => k | 3 => c | ⟨_ + 4, h⟩ => absurd h (Nat.not_lt.2 (Nat.le_add_left _ _))
abbrev at02 (r : Fin 10000) (c : Fin 128) : S1x10000x128.Idx :=
  fun | 0 => (0 : Fin 1) | 1 => r | 2 => c | ⟨_ + 3, h⟩ => absurd h (Nat.not_lt.2 (Nat.le_add_left _ _))

/-! ## The index array's entries -/

theorem nonneg_slt {w : BitVec 32} (h : w.toNat < 10000) : IntOp.cmpi .slt w 0#32 = 0#1 := by
  have e : w.slt 0#32 = false := by
    rw [BitVec.slt_eq_decide, decide_eq_false_iff_not, BitVec.toInt_eq_toNat_cond]
    have h0 : (0#32).toInt = 0 := by decide
    rw [h0]; omega
  show BitVec.ofBool (w.slt 0#32) = 0#1
  rw [e]; rfl

theorem pairs_fst (y : IVec S1x10000x16 32) (n : Fin 10000) (k : Fin 16) : pairs y (at32 n k 0) = 0#32 := by
  unfold pairs
  refine (concatenate_pair_apply_left (t := S1x10000x16x2) (s₁ := S1x10000x16x1) (s₂ := S1x10000x16x1) 3 _ _ _ (at32 n k 0) rfl (at31 n k)
    (fun b => by fin_cases b <;> rfl)).trans ?_
  rfl

theorem pairs_snd (y : IVec S1x10000x16 32) (n : Fin 10000) (k : Fin 16) (h : (y (at3 n k)).toNat < 10000) :
    pairs y (at32 n k 1) = y (at3 n k) := by
  unfold pairs
  refine (concatenate_pair_apply_right (t := S1x10000x16x2) (s₁ := S1x10000x16x1) (s₂ := S1x10000x16x1) 3 _ _ _ (at32 n k 1) rfl rfl (at31 n k)
    (fun b hb => by fin_cases b <;> first | rfl | exact absurd rfl hb) rfl).trans ?_
  refine (broadcastInDim_apply (t := S1x10000x16x1) (s := S1x10000x16) _ _ _ (at31 n k) (at3 n k) (fun a => by fin_cases a <;> rfl)).trans ?_
  show Scalar.select (IntOp.cmpi .slt (y (at3 n k)) 0#32) _ (y (at3 n k)) = _
  rw [nonneg_slt h]
  rfl

/-! ## The gather's entries -/

theorem gather_at (x : S1x10000x128.Idx → α) (z : IVec S1x10000x16x2 32) (n : Fin 10000) (k : Fin 16) (c : Fin 128) (r : Fin 10000)
    (hr : min (z (at32 n k 1)).toInt.toNat 9999 = r.val) :
    Host.gather gdims x z (at4 n k c) = x (at02 r c) := by
  unfold Host.gather
  congr 1
  funext a
  refine Fin.ext ?_
  show gdims.start (at4 n k c) z a + gdims.batchCoord (at4 n k c) a + gdims.offCoord (at4 n k c) a = _
  rw [GatherDims.batchCoord_eq_zero _ _ _ List.not_mem_nil]
  have h012 : a = 0 ∨ a = 1 ∨ a = 2 := by fin_cases a <;> simp
  rcases h012 with rfl | rfl | rfl
  · have h := gdims.start_le (at4 n k c) z 0
    have h0 : gdims.start (at4 n k c) z 0 = 0 := Nat.le_zero.mp h
    rw [h0, GatherDims.offCoord_eq_zero _ _ _ (fun h => ((GatherDims.mem_sKept _ _).mp h).1 (by decide))]
    rfl
  · rw [GatherDims.offCoord_eq_zero _ _ _ (fun h => ((GatherDims.mem_sKept _ _).mp h).1 (by decide))]
    unfold GatherDims.start
    rw [dif_pos (show (1 : Fin 3) ∈ gdims.startIndexMap by decide)]
    have hsi : gdims.siIdx (at4 n k c) ⟨List.idxOf (1 : Fin 3) gdims.startIndexMap, List.idxOf_lt_length_iff.2 (by decide)⟩ = at32 n k 1 := by
      funext b; refine Fin.ext ?_
      match b with
      | ⟨0, _⟩ => rfl
      | ⟨1, _⟩ => rfl
      | ⟨2, _⟩ => rfl
      | ⟨3, _⟩ => rfl
    rw [hsi]
    exact hr
  · unfold GatherDims.start
    rw [dif_neg (show (2 : Fin 3) ∉ gdims.startIndexMap by decide)]
    show 0 + 0 + gdims.offCoord (at4 n k c) 2 = c.val
    unfold GatherDims.offCoord
    rw [dif_pos (show (2 : Fin 3) ∈ gdims.sKept by decide)]
    show 0 + 0 + c.val = c.val
    omega

/-! ## The rows are the gathered ones -/

/-- Row `j 0` of the result is index `(j 0 / 16, j 0 % 16)`'s. -/
abbrev nodeOf (r : Fin 160000) : Fin 10000 := ⟨r.val / 16, by omega⟩
abbrev slotOf (r : Fin 160000) : Fin 16 := ⟨r.val % 16, by omega⟩

theorem list_at (y : IVec S1x10000x16 32) (r : Fin 160000) :
    shapeCast Cert.KernelIdeal.S1x160000 (shapeCast Cert.KernelIdeal.S160000 y Cert.KernelIdeal.Facts₀.shapeCasts_S1x10000x16_S160000)
      Cert.KernelIdeal.Facts₀.shapeCasts_S160000_S1x160000 (at1 r) = y (at3 (nodeOf r) (slotOf r)) := by
  rw [shapeCast_apply _ _ (at1 r) (at0 r)
      (by rw [Shape.rowMajor_val_one, Shape.rowMajor_val_two]; show r.val = 0 * 160000 + r.val; omega),
    shapeCast_apply _ _ _ (at3 (nodeOf r) (slotOf r))
      (by rw [Shape.rowMajor_val_one, Shape.rowMajor_val_three]; show (0 * 10000 + r.val / 16) * 16 + r.val % 16 = r.val; omega)]

theorem picked_eq (F : FTy → Type) (x : S10000x128.Idx → Elt F .f32) (y : IVec S1x10000x16 32) (h : ∀ i, (y i).toNat < 10000) :
    picked x y = gathered (F := F) x (shapeCast Cert.KernelIdeal.S1x160000 (shapeCast Cert.KernelIdeal.S160000 y
      Cert.KernelIdeal.Facts₀.shapeCasts_S1x10000x16_S160000) Cert.KernelIdeal.Facts₀.shapeCasts_S160000_S1x160000) := by
  funext j
  unfold picked gathered
  let r : Fin 160000 := j 0
  let c : Fin 128 := j 1
  have hy := h (at3 (nodeOf r) (slotOf r))
  let R : Fin 10000 := ⟨(y (at3 (nodeOf r) (slotOf r))).toNat % 10000, Nat.mod_lt _ (by decide)⟩
  refine (shapeCast_apply _ _ j (at4 (nodeOf r) (slotOf r) c) ?_).trans ?_
  · rw [Shape.rowMajor_val_four, Shape.rowMajor_val_two]
    show (((0 * 10000 + r.val / 16) * 16 + r.val % 16) * 128) + c.val = r.val * 128 + c.val
    omega
  refine (gather_at _ _ _ _ _ R ?_).trans ?_
  · rw [pairs_snd _ _ _ hy, BitVec.toInt_eq_toNat_cond]
    show _ = (y (at3 (nodeOf r) (slotOf r))).toNat % 10000
    omega
  refine (broadcastInDim_apply (s := S10000x128) (t := S1x10000x128) _ _ _ _ (at2 R c) (fun a => by fin_cases a <;> rfl)).trans ?_
  exact congrArg (fun w : BitVec 32 => x (at2 ⟨w.toNat % 10000, Nat.mod_lt _ (by decide)⟩ c)) (list_at y r).symm

end Cert.Proof.Gather
-- ==== Proof.lean ====
/-
  The claims.  The kernel's run is Proof/Run.lean's at either float values; the references' runs are the generated
  ones, and Proof/Value.lean reads their result as the gathered rows.  The claims of the TensorCore calls are
  Proof/Calls.lean's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_idx_in_rows
public import proofs.«01_k».proof.Proof.Gen.Init
public import proofs.«01_k».proof.Proof.Gen.Init.Frame
public import proofs.«01_k».proof.Proof.Gen.InitIdeal
public import proofs.«01_k».proof.Proof.Gen.InitIdeal.Value
public import proofs.«01_k».proof.Proof.Gen.InitRefIdeal
public import proofs.«01_k».proof.Proof.Gen.InitRefIdeal.Run
public import proofs.«01_k».proof.Proof.Gen.Pre_number_in_table
public import proofs.«01_k».proof.Proof.Gen.First
public import proofs.«01_k».proof.Proof.Gen.First.Frame
public import proofs.«01_k».proof.Proof.Gen.FirstIdeal
public import proofs.«01_k».proof.Proof.Gen.FirstIdeal.Value
public import proofs.«01_k».proof.Proof.Gen.FirstRefIdeal
public import proofs.«01_k».proof.Proof.Gen.FirstRefIdeal.Run
public import proofs.«01_k».proof.Proof.Gen.Pre_mask_first
public import proofs.«01_k».proof.Proof.Gen.Middle
public import proofs.«01_k».proof.Proof.Gen.Middle.Frame
public import proofs.«01_k».proof.Proof.Gen.MiddleIdeal
public import proofs.«01_k».proof.Proof.Gen.MiddleIdeal.Value
public import proofs.«01_k».proof.Proof.Gen.MiddleRefIdeal
public import proofs.«01_k».proof.Proof.Gen.MiddleRefIdeal.Run
public import proofs.«01_k».proof.Proof.Gen.Pre_mask_middle
public import proofs.«01_k».proof.Proof.Gen.Late
public import proofs.«01_k».proof.Proof.Gen.Late.Frame
public import proofs.«01_k».proof.Proof.Gen.LateIdeal
public import proofs.«01_k».proof.Proof.Gen.LateIdeal.Value
public import proofs.«01_k».proof.Proof.Gen.LateRefIdeal
public import proofs.«01_k».proof.Proof.Gen.LateRefIdeal.Run
public import proofs.«01_k».proof.Proof.Gen.Pre_mask_late
public import proofs.«01_k».proof.Proof.Gen.Last
public import proofs.«01_k».proof.Proof.Gen.Last.Frame
public import proofs.«01_k».proof.Proof.Gen.LastIdeal
public import proofs.«01_k».proof.Proof.Gen.LastIdeal.Value
public import proofs.«01_k».proof.Proof.Gen.LastRefIdeal
public import proofs.«01_k».proof.Proof.Gen.LastRefIdeal.Run
public import proofs.«01_k».proof.Proof.Gen.Pre_mask_last
public import proofs.«01_k».proof.Proof.Calls
public import proofs.«01_k».proof.Proof.Run
public import proofs.«01_k».proof.Proof.Value
public import Idealize.ShloMosaic.Lib.Quiescent

@[expose] public section

noncomputable section

namespace Cert.Proof

open Idealize.ShloMosaic Idealize.ShloMosaic.TcCoe Idealize.SL.Sem
open Cert.Proof.Gather

/-! ## The index range, read from the precondition -/

/-- A signed word between 0 and 10000 is below 10000 read unsigned. -/
theorem lt_of_range (v : BitVec 32) (h : IntOp.andi (IntOp.cmpi .sge v 0#32) (IntOp.cmpi .slt v 10000#32) = 1#1) : v.toNat < 10000 := by
  have hb : ∀ p q : Bool, BitVec.ofBool p &&& BitVec.ofBool q = 1#1 → p = true ∧ q = true := by decide
  obtain ⟨h0, h1⟩ := hb ((0#32).sle v) (v.slt 10000#32) h
  rw [BitVec.sle_eq_decide, decide_eq_true_eq] at h0
  rw [BitVec.slt_eq_decide, decide_eq_true_eq] at h1
  have e0 : (0#32).toInt = 0 := by decide
  have e1 : (10000#32).toInt = 10000 := by decide
  rw [e0, BitVec.toInt_eq_toNat_cond] at h0
  rw [e1, BitVec.toInt_eq_toNat_cond] at h1
  split at h0 <;> omega

/-- Where the precondition's array is all ones, every index is in range. -/
theorem lt_of_pre {F : FTy → Type} [FloatOps F] (x : FVec F Cert.Pre_idx_in_rows.S10000x128 .f32) (y : IVec Cert.Pre_idx_in_rows.S1x10000x16 32)
    (h : Cert.Pre_idx_in_rows.fn (F := F) x y = fun _ => 1#1) (j : Cert.Pre_idx_in_rows.S1x10000x16.Idx) : (y j).toNat < 10000 :=
  lt_of_range (y j) (congrFun h j)

/-! ## The frames -/

theorem frame_kernel : Cert.quiescent_Kernel := fun m ρ hp =>
  (θ_run Cert.KernelIdeal.defs _ _).mono (fun _ h => ⟨fun c => (h.1 c).2, h.2⟩)
    (run_main (F := Bits) m ρ fun d j => lt_of_pre _ _ (hp d) j)

theorem frame_kernelIdeal : Cert.quiescent_KernelIdeal := fun m ρ hp =>
  (θ_run Cert.KernelIdeal.defs _ _).mono (fun _ h => ⟨fun c => (h.1 c).2, h.2⟩)
    (run_main (F := Ideal) m ρ fun d j => lt_of_pre _ _ (hp d) j)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_idx_in_rows := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- The rows picked from arrays equal to the kernel's arguments are the kernel's gathered rows. -/
theorem picked_rows {F : FTy → Type} [FloatOps F] (m : (ℓ : Loc Cert.KernelIdeal.nD Cert.KernelIdeal.τ Cert.KernelIdeal.sig) → Buf (Elt F) ℓ)
    (hpre : PreOK m) (d : Dev Cert.KernelIdeal.nD) (x : Cert.ReferenceIdeal.S10000x128.Idx → Elt F .f32) (y : IVec Cert.ReferenceIdeal.S1x10000x16 32)
    (hx : x = m (tLoc d)) (hy : y = m (jLoc d)) : picked x y = rowsOf m d := by
  subst hx hy
  exact picked_eq F _ _ (hpre d)

theorem algebraic : Cert.algebraic_KernelIdeal_ReferenceIdeal := fun m ρ m' ρ' hp ha =>
  have hpre : PreOK m := fun d j => lt_of_pre _ _ (hp d) j
  ⟨fun c => rowsOf m c, (θ_run Cert.KernelIdeal.defs _ _).mono (fun _ h c => h.1 c) (run_main (F := Ideal) m ρ hpre),
    (θ_run Cert.ReferenceIdeal.defs _ _).mono
      (fun _ h c => ⟨(h c).1.trans (picked_rows m hpre c _ _ (ha c).1 (ha c).2), (h c).2⟩)
      (Cert.ReferenceIdeal.Value.run (F := Ideal) m' ρ')⟩

theorem bitexact : Cert.bitexact_Kernel_Reference := fun m ρ m' ρ' hp ha =>
  have hpre : PreOK (F := Bits) m := fun d j => lt_of_pre _ _ (hp d) j
  ⟨fun c => rowsOf (F := Bits) m c, (θ_run Cert.KernelIdeal.defs _ _).mono (fun _ h c => h.1 c) (run_main (F := Bits) m ρ hpre),
    (θ_run Cert.Reference.defs _ _).mono
      (fun _ h c => ⟨(h c).1.trans (picked_rows m hpre c _ _ (ha c).1 (ha c).2), (h c).2⟩)
      (Cert.Reference.Value.run (F := Bits) m' ρ')⟩

/-- `Cert.Claim`. -/
theorem claim : Cert.Claim :=
  ⟨Cert.Kernel.Gen.facts, Cert.KernelIdeal.Gen.facts, Cert.ReferenceIdeal.Gen.facts, Cert.Reference.Gen.facts,
    Cert.Init.Gen.facts, Cert.InitIdeal.Gen.facts, Cert.InitRefIdeal.Gen.facts,
    Cert.First.Gen.facts, Cert.FirstIdeal.Gen.facts, Cert.FirstRefIdeal.Gen.facts,
    Cert.Middle.Gen.facts, Cert.MiddleIdeal.Gen.facts, Cert.MiddleRefIdeal.Gen.facts,
    Cert.Late.Gen.facts, Cert.LateIdeal.Gen.facts, Cert.LateRefIdeal.Gen.facts,
    Cert.Last.Gen.facts, Cert.LastIdeal.Gen.facts, Cert.LastRefIdeal.Gen.facts,
    Cert.Pre_idx_in_rows.Gen.facts, Cert.Pre_number_in_table.Gen.facts, Cert.Pre_mask_first.Gen.facts,
    Cert.Pre_mask_middle.Gen.facts, Cert.Pre_mask_late.Gen.facts, Cert.Pre_mask_last.Gen.facts,
    frame_kernel, frame_kernelIdeal, frame_referenceIdeal, frame_referenceIdeal_pre, frame_reference,
    Calls.frame_init, Calls.frame_initIdeal, Calls.frame_initIdeal_pre, Calls.frame_initRefIdeal, Calls.frame_initRefIdeal_pre,
    Calls.frame_first, Calls.frame_firstIdeal, Calls.frame_firstIdeal_pre, Calls.frame_firstRefIdeal, Calls.frame_firstRefIdeal_pre,
    Calls.frame_middle, Calls.frame_middleIdeal, Calls.frame_middleIdeal_pre, Calls.frame_middleRefIdeal, Calls.frame_middleRefIdeal_pre,
    Calls.frame_late, Calls.frame_lateIdeal, Calls.frame_lateIdeal_pre, Calls.frame_lateRefIdeal, Calls.frame_lateRefIdeal_pre,
    Calls.frame_last, Calls.frame_lastIdeal, Calls.frame_lastIdeal_pre, Calls.frame_lastRefIdeal, Calls.frame_lastRefIdeal_pre,
    trivial, algebraic, bitexact,
    Calls.preserves_init, Calls.algebraic_init, trivial, Calls.algebraic_first, trivial, Calls.algebraic_middle, trivial, Calls.algebraic_late, trivial, Calls.algebraic_last⟩

end Cert.Proof
